-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_moba_finite [hPre_moba_finite : Cert.Pre_moba_finite.Facts] (m : (ℓ : Loc Cert.MobaIdeal.nD Cert.MobaIdeal.τ Cert.MobaIdeal.sig) → Buf (Elt Ideal) ℓ) : Prop :=
  ∀ c : Dev Cert.MobaIdeal.nD,
    (Cert.Pre_moba_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_moba_finite [hPre_moba_finite : Cert.Pre_moba_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_moba_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1))) = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaIdeal_pre_moba_finite [hMobaIdeal : Cert.MobaIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_moba_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_MobaRefIdeal_pre_moba_finite [hMobaRefIdeal : Cert.MobaRefIdeal.Facts] [hPre_moba_finite : Cert.Pre_moba_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_moba_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v4)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v4) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v37) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v32_0)) (v1 : (c : Dev Cert.ProjIdeal.nD) → Buf (Elt Ideal) ((c.tc : Thread Cert.ProjIdeal.nD Cert.ProjIdeal.τ).loc Cert.ProjIdeal.main_v32_1)) (v2 : (c : Dev Cert.ProjIdeal.nD) → Buf (Elt Ideal) ((c.tc : Thread Cert.ProjIdeal.nD Cert.ProjIdeal.τ).loc Cert.ProjIdeal.main_v32_2)) (v3 : (c : Dev Cert.ProjIdeal.nD) → Buf (Elt Ideal) ((c.tc : Thread Cert.ProjIdeal.nD Cert.ProjIdeal.τ).loc Cert.ProjIdeal.main_v32_3)) (v4 : (c : Dev Cert.ProjIdeal.nD) → Buf (Elt Ideal) ((c.tc : Thread Cert.ProjIdeal.nD Cert.ProjIdeal.τ).loc Cert.ProjIdeal.main_v32_4)) (v5 : (c : Dev Cert.ProjIdeal.nD) → Buf (Elt Ideal) ((c.tc : Thread Cert.ProjIdeal.nD Cert.ProjIdeal.τ).loc Cert.ProjIdeal.main_v32_5)) (v6 : (c : Dev Cert.ProjIdeal.nD) → Buf (Elt Ideal) ((c.tc : Thread Cert.ProjIdeal.nD Cert.ProjIdeal.τ).loc Cert.ProjIdeal.main_v32_6)) (v7 : (c : Dev Cert.ProjIdeal.nD) → Buf (Elt Ideal) ((c.tc : Thread Cert.ProjIdeal.nD Cert.ProjIdeal.τ).loc Cert.ProjIdeal.main_v32_7)) (v8 : (c : Dev Cert.ProjIdeal.nD) → Buf (Elt Ideal) ((c.tc : Thread Cert.ProjIdeal.nD Cert.ProjIdeal.τ).loc Cert.ProjIdeal.main_v32_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v32_0) = v0 c
          ∧ r.2.mem ((c.tc : Thread Cert.ProjIdeal.nD Cert.ProjIdeal.τ).loc Cert.ProjIdeal.main_v32_1) = v1 c
          ∧ r.2.mem ((c.tc : Thread Cert.ProjIdeal.nD Cert.ProjIdeal.τ).loc Cert.ProjIdeal.main_v32_2) = v2 c
          ∧ r.2.mem ((c.tc : Thread Cert.ProjIdeal.nD Cert.ProjIdeal.τ).loc Cert.ProjIdeal.main_v32_3) = v3 c
          ∧ r.2.mem ((c.tc : Thread Cert.ProjIdeal.nD Cert.ProjIdeal.τ).loc Cert.ProjIdeal.main_v32_4) = v4 c
          ∧ r.2.mem ((c.tc : Thread Cert.ProjIdeal.nD Cert.ProjIdeal.τ).loc Cert.ProjIdeal.main_v32_5) = v5 c
          ∧ r.2.mem ((c.tc : Thread Cert.ProjIdeal.nD Cert.ProjIdeal.τ).loc Cert.ProjIdeal.main_v32_6) = v6 c
          ∧ r.2.mem ((c.tc : Thread Cert.ProjIdeal.nD Cert.ProjIdeal.τ).loc Cert.ProjIdeal.main_v32_7) = v7 c
          ∧ r.2.mem ((c.tc : Thread Cert.ProjIdeal.nD Cert.ProjIdeal.τ).loc Cert.ProjIdeal.main_v32_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v215) = v0 c
          ∧ r.2.mem ((c.tc : Thread Cert.ProjRefIdeal.nD Cert.ProjRefIdeal.τ).loc Cert.ProjRefIdeal.main_v216) = v1 c
          ∧ r.2.mem ((c.tc : Thread Cert.ProjRefIdeal.nD Cert.ProjRefIdeal.τ).loc Cert.ProjRefIdeal.main_v217) = v2 c
          ∧ r.2.mem ((c.tc : Thread Cert.ProjRefIdeal.nD Cert.ProjRefIdeal.τ).loc Cert.ProjRefIdeal.main_v218) = v3 c
          ∧ r.2.mem ((c.tc : Thread Cert.ProjRefIdeal.nD Cert.ProjRefIdeal.τ).loc Cert.ProjRefIdeal.main_v219) = v4 c
          ∧ r.2.mem ((c.tc : Thread Cert.ProjRefIdeal.nD Cert.ProjRefIdeal.τ).loc Cert.ProjRefIdeal.main_v220) = v5 c
          ∧ r.2.mem ((c.tc : Thread Cert.ProjRefIdeal.nD Cert.ProjRefIdeal.τ).loc Cert.ProjRefIdeal.main_v221) = v6 c
          ∧ r.2.mem ((c.tc : Thread Cert.ProjRefIdeal.nD Cert.ProjRefIdeal.τ).loc Cert.ProjRefIdeal.main_v222) = v7 c
          ∧ r.2.mem ((c.tc : Thread Cert.ProjRefIdeal.nD Cert.ProjRefIdeal.τ).loc Cert.ProjRefIdeal.main_v223) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v40_0)) (v1 : (c : Dev Cert.ProjSampleIdeal.nD) → Buf (Elt Ideal) ((c.tc : Thread Cert.ProjSampleIdeal.nD Cert.ProjSampleIdeal.τ).loc Cert.ProjSampleIdeal.main_v40_1)) (v2 : (c : Dev Cert.ProjSampleIdeal.nD) → Buf (Elt Ideal) ((c.tc : Thread Cert.ProjSampleIdeal.nD Cert.ProjSampleIdeal.τ).loc Cert.ProjSampleIdeal.main_v40_2)) (v3 : (c : Dev Cert.ProjSampleIdeal.nD) → Buf (Elt Ideal) ((c.tc : Thread Cert.ProjSampleIdeal.nD Cert.ProjSampleIdeal.τ).loc Cert.ProjSampleIdeal.main_v40_3)) (v4 : (c : Dev Cert.ProjSampleIdeal.nD) → Buf (Elt Ideal) ((c.tc : Thread Cert.ProjSampleIdeal.nD Cert.ProjSampleIdeal.τ).loc Cert.ProjSampleIdeal.main_v40_4)) (v5 : (c : Dev Cert.ProjSampleIdeal.nD) → Buf (Elt Ideal) ((c.tc : Thread Cert.ProjSampleIdeal.nD Cert.ProjSampleIdeal.τ).loc Cert.ProjSampleIdeal.main_v40_5)) (v6 : (c : Dev Cert.ProjSampleIdeal.nD) → Buf (Elt Ideal) ((c.tc : Thread Cert.ProjSampleIdeal.nD Cert.ProjSampleIdeal.τ).loc Cert.ProjSampleIdeal.main_v40_6)) (v7 : (c : Dev Cert.ProjSampleIdeal.nD) → Buf (Elt Ideal) ((c.tc : Thread Cert.ProjSampleIdeal.nD Cert.ProjSampleIdeal.τ).loc Cert.ProjSampleIdeal.main_v40_7)) (v8 : (c : Dev Cert.ProjSampleIdeal.nD) → Buf (Elt Ideal) ((c.tc : Thread Cert.ProjSampleIdeal.nD Cert.ProjSampleIdeal.τ).loc Cert.ProjSampleIdeal.main_v40_8)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v40_0) = v0 c
          ∧ r.2.mem ((c.tc : Thread Cert.ProjSampleIdeal.nD Cert.ProjSampleIdeal.τ).loc Cert.ProjSampleIdeal.main_v40_1) = v1 c
          ∧ r.2.mem ((c.tc : Thread Cert.ProjSampleIdeal.nD Cert.ProjSampleIdeal.τ).loc Cert.ProjSampleIdeal.main_v40_2) = v2 c
          ∧ r.2.mem ((c.tc : Thread Cert.ProjSampleIdeal.nD Cert.ProjSampleIdeal.τ).loc Cert.ProjSampleIdeal.main_v40_3) = v3 c
          ∧ r.2.mem ((c.tc : Thread Cert.ProjSampleIdeal.nD Cert.ProjSampleIdeal.τ).loc Cert.ProjSampleIdeal.main_v40_4) = v4 c
          ∧ r.2.mem ((c.tc : Thread Cert.ProjSampleIdeal.nD Cert.ProjSampleIdeal.τ).loc Cert.ProjSampleIdeal.main_v40_5) = v5 c
          ∧ r.2.mem ((c.tc : Thread Cert.ProjSampleIdeal.nD Cert.ProjSampleIdeal.τ).loc Cert.ProjSampleIdeal.main_v40_6) = v6 c
          ∧ r.2.mem ((c.tc : Thread Cert.ProjSampleIdeal.nD Cert.ProjSampleIdeal.τ).loc Cert.ProjSampleIdeal.main_v40_7) = v7 c
          ∧ r.2.mem ((c.tc : Thread Cert.ProjSampleIdeal.nD Cert.ProjSampleIdeal.τ).loc Cert.ProjSampleIdeal.main_v40_8) = v8 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v217) = v0 c
          ∧ r.2.mem ((c.tc : Thread Cert.ProjSampleRefIdeal.nD Cert.ProjSampleRefIdeal.τ).loc Cert.ProjSampleRefIdeal.main_v218) = v1 c
          ∧ r.2.mem ((c.tc : Thread Cert.ProjSampleRefIdeal.nD Cert.ProjSampleRefIdeal.τ).loc Cert.ProjSampleRefIdeal.main_v219) = v2 c
          ∧ r.2.mem ((c.tc : Thread Cert.ProjSampleRefIdeal.nD Cert.ProjSampleRefIdeal.τ).loc Cert.ProjSampleRefIdeal.main_v220) = v3 c
          ∧ r.2.mem ((c.tc : Thread Cert.ProjSampleRefIdeal.nD Cert.ProjSampleRefIdeal.τ).loc Cert.ProjSampleRefIdeal.main_v221) = v4 c
          ∧ r.2.mem ((c.tc : Thread Cert.ProjSampleRefIdeal.nD Cert.ProjSampleRefIdeal.τ).loc Cert.ProjSampleRefIdeal.main_v222) = v5 c
          ∧ r.2.mem ((c.tc : Thread Cert.ProjSampleRefIdeal.nD Cert.ProjSampleRefIdeal.τ).loc Cert.ProjSampleRefIdeal.main_v223) = v6 c
          ∧ r.2.mem ((c.tc : Thread Cert.ProjSampleRefIdeal.nD Cert.ProjSampleRefIdeal.τ).loc Cert.ProjSampleRefIdeal.main_v224) = v7 c
          ∧ r.2.mem ((c.tc : Thread Cert.ProjSampleRefIdeal.nD Cert.ProjSampleRefIdeal.τ).loc Cert.ProjSampleRefIdeal.main_v225) = v8 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2))

def preserves_Moba_MobaIdeal : Prop :=
  IdealRules.named_const.Statement Cert.MobaIdeal.κ "mask" .f32 0xF149F2CA#32 ⊥

def algebraic_MobaIdeal_MobaRefIdeal_pre_moba_finite [hMobaIdeal : Cert.MobaIdeal.Facts] [hMobaRefIdeal : Cert.MobaRefIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_moba_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)) →
    ∃ (v0 : (c : Dev Cert.MobaIdeal.nD) → Buf (Elt Ideal) ((c.tc : Thread Cert.MobaIdeal.nD Cert.MobaIdeal.τ).loc Cert.MobaIdeal.main_v2)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v2) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v93) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)) →
    ∃ (v0 : (c : Dev Cert.CompressIdeal.nD) → Buf (Elt Ideal) ((c.tc : Thread Cert.CompressIdeal.nD Cert.CompressIdeal.τ).loc Cert.CompressIdeal.main_v22)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v22) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v72) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5))

def Claim : Prop :=
  ∃ (hMemKv : Cert.MemKv.Facts) (hMemKvIdeal : Cert.MemKvIdeal.Facts) (hMemKvRefIdeal : Cert.MemKvRefIdeal.Facts) (hCross : Cert.Cross.Facts) (hCrossIdeal : Cert.CrossIdeal.Facts) (hCrossRefIdeal : Cert.CrossRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hProjSample : Cert.ProjSample.Facts) (hProjSampleIdeal : Cert.ProjSampleIdeal.Facts) (hProjSampleRefIdeal : Cert.ProjSampleRefIdeal.Facts) (hMoba : Cert.Moba.Facts) (hMobaIdeal : Cert.MobaIdeal.Facts) (hMobaRefIdeal : Cert.MobaRefIdeal.Facts) (hCompress : Cert.Compress.Facts) (hCompressIdeal : Cert.CompressIdeal.Facts) (hCompressRefIdeal : Cert.CompressRefIdeal.Facts) (hPre_cross_finite : Cert.Pre_cross_finite.Facts) (hPre_moba_finite : Cert.Pre_moba_finite.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_Moba (hMoba := hMoba)
    ∧ quiescent_MobaIdeal (hMobaIdeal := hMobaIdeal)
    ∧ quiescent_MobaIdeal_pre_moba_finite (hMobaIdeal := hMobaIdeal) (hPre_moba_finite := hPre_moba_finite)
    ∧ quiescent_MobaRefIdeal (hMobaRefIdeal := hMobaRefIdeal)
    ∧ quiescent_MobaRefIdeal_pre_moba_finite (hMobaRefIdeal := hMobaRefIdeal) (hPre_moba_finite := hPre_moba_finite)
    ∧ quiescent_Compress (hCompress := hCompress)
    ∧ quiescent_CompressIdeal (hCompressIdeal := hCompressIdeal)
    ∧ quiescent_CompressRefIdeal (hCompressRefIdeal := hCompressRefIdeal)
    ∧ preserves_MemKv_MemKvIdeal
    ∧ algebraic_MemKvIdeal_MemKvRefIdeal (hMemKvIdeal := hMemKvIdeal) (hMemKvRefIdeal := hMemKvRefIdeal)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_Moba_MobaIdeal
    ∧ algebraic_MobaIdeal_MobaRefIdeal_pre_moba_finite (hMobaIdeal := hMobaIdeal) (hMobaRefIdeal := hMobaRefIdeal) (hPre_moba_finite := hPre_moba_finite)
    ∧ preserves_Compress_CompressIdeal
    ∧ algebraic_CompressIdeal_CompressRefIdeal (hCompressIdeal := hCompressIdeal) (hCompressRefIdeal := hCompressRefIdeal)
-- ==== Pre_cross_finite.lean ====
abbrev S16x2048x1024 : Shape := ⟨3, ![16, 2048, 1024]⟩
abbrev S16x256x2x4x128 : Shape := ⟨5, ![16, 256, 2, 4, 128]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S16x256x1x4x128 : Shape := ⟨5, ![16, 256, 1, 4, 128]⟩
abbrev S16x256x4x128 : Shape := ⟨4, ![16, 256, 4, 128]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  slices_S16x256x2x4x128_S16x256x1x4x128_0_0_0_0_0 : S16x256x2x4x128.Slices ![0, 0, 0, 0, 0] S16x256x1x4x128
  shapeCasts_S16x256x1x4x128_S16x256x4x128 : S16x256x1x4x128.ShapeCasts S16x256x4x128
  bcast_S_S16x256x4x128 : S_.BroadcastsInDim S16x256x4x128 (![] : Fin 0 → Fin S16x256x4x128.rank)
  reducesTo_S16x256x4x128_S_d0_1_2_3 : S16x256x4x128.ReducesTo [0, 1, 2, 3] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_v15 : IVec S_ 1) (main_v16 : FVec F S1024x512 .f32) (main_cst_4 : FVec F S_ .f32) : IVec S_ 1 :=
  let main_v17 : FVec F S1024x512 .f32 := broadcastInDim S1024x512 ![] bcast_S_S1024x512 main_cst_4
  let main_v18 : IVec S1024x512 1 := cmpf .olt main_v16 main_v17
  let main_c_5 : IVec S_ 1 := constantI S_ 1 1#1
  let main_v19 : IVec S_ 1 := (fun x v => Host.reduce IntOp.andi x v reducesTo_S1024x512_S_d0_1 h_S_) main_v18 main_c_5
  let main_v20 : IVec S_ 1 := andi main_v15 main_v19
  main_v20

def fn {F : FTy → Type} [FloatOps F] (main_arg0 : FVec F S16x2048x1024 .f32) (main_arg1 : FVec F S16x256x2x4x128 .f32) (main_arg2 : FVec F S1024 .f32) (main_arg3 : FVec F S1024x512 .f32) (main_arg4 : FVec F S512x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x256x1x4x128 .f32 := (extractStridedSlice S16x256x1x4x128 ![0, 0, 0, 0, 0] · slices_S16x256x2x4x128_S16x256x1x4x128_0_0_0_0_0) main_arg1
  let main_v5 : FVec F S16x256x4x128 .f32 := shapeCast S16x256x4x128 main_v4 shapeCasts_S16x256x1x4x128_S16x256x4x128
  let main_v6 : FVec F S16x256x4x128 .f32 := Host.absf main_v5
  let main_cst_0 : FVec F S_ .f32 := constant S_ .f32 0x7F800000#32
  let main_v7 : FVec F S16x256x4x128 .f32 := broadcastInDim S16x256x4x128 ![] bcast_S_S16x256x4x128 main_cst_0
  let main_v8 : IVec S16x256x4x128 1 := cmpf .olt main_v6 main_v7
  let main_c_1 : IVec S_ 1 := constantI S_ 1 1#1
  let main_v9 : IVec S_ 1 := (fun x v => Host.reduce IntOp.andi x v reducesTo_S16x256x4x128_S_d0_1_2_3 h_S_) main_v8 main_c_1
  let main_v10 : IVec S_ 1 := andi main_v3 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S1024x512 .f32 := Host.absf main_arg3
  let main_cst_4 : FVec F S_ .f32 := constant S_ .f32 0x7F800000#32
  fn_part1 (F := F) main_v15 main_v16 main_cst_4
-- ==== Pre_moba_finite.lean ====
abbrev S16x2048x8x64 : Shape := ⟨4, ![16, 2048, 8, 64]⟩
abbrev S16x2048x2x8x64 : Shape := ⟨5, ![16, 2048, 2, 8, 64]⟩
abbrev S_ : Shape := ⟨0, ![]⟩
abbrev S16x2048x1x8x64 : Shape := ⟨5, ![16, 2048, 1, 8, 64]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel
  slices_S16x2048x2x8x64_S16x2048x1x8x64_0_0_0_0_0 : S16x2048x2x8x64.Slices ![0, 0, 0, 0, 0] S16x2048x1x8x64
  shapeCasts_S16x2048x1x8x64_S16x2048x8x64 : S16x2048x1x8x64.ShapeCasts S16x2048x8x64

variable [Facts]

def fn {F : FTy → Type} [FloatOps F] (main_arg0 : FVec F S16x2048x8x64 .f32) (main_arg1 : FVec F S16x2048x2x8x64 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x1x8x64 .f32 := (extractStridedSlice S16x2048x1x8x64 ![0, 0, 0, 0, 0] · slices_S16x2048x2x8x64_S16x2048x1x8x64_0_0_0_0_0) main_arg1
  let main_v5 : FVec F S16x2048x8x64 .f32 := shapeCast S16x2048x8x64 main_v4 shapeCasts_S16x2048x1x8x64_S16x2048x8x64
  let main_v6 : FVec F S16x2048x8x64 .f32 := Host.absf main_v5
  let main_cst_0 : FVec F S_ .f32 := constant S_ .f32 0x7F800000#32
  let main_v7 : FVec F S16x2048x8x64 .f32 := broadcastInDim S16x2048x8x64 ![] bcast_S_S16x2048x8x64 main_cst_0
  let main_v8 : IVec S16x2048x8x64 1 := cmpf .olt main_v6 main_v7
  let main_c_1 : IVec S_ 1 := constantI S_ 1 1#1
  let main_v9 : IVec S_ 1 := (fun x v => Host.reduce IntOp.andi x v reducesTo_S16x2048x8x64_S_d0_1_2_3 h_S_) main_v8 main_c_1
  let main_v10 : IVec S_ 1 := andi main_v3 main_v9
  main_v10
-- ==== MemKv.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1024x1024, .bf16⟩
  | .hbm, ⟨5, _⟩ => ⟨S1x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Cross.lean ====
abbrev S16x2048x1024 : Shape := ⟨3, ![16, 2048, 1024]⟩
abbrev S16x256x2x4x128 : Shape := ⟨5, ![16, 256, 2, 4, 128]⟩
abbrev S1024 : Shape := ⟨1, ![1024]⟩
abbrev S1024x512 : Shape := ⟨2, ![1024, 512]⟩
abbrev S512x1024 : Shape := ⟨2, ![512, 1024]⟩
abbrev S16x256x1024 : Shape := ⟨3, ![16, 256, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 10
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x256x2x4x128, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S16x256x1024, .f32⟩
  | .hbm, ⟨6, _⟩ => ⟨S1024x512, .bf16⟩
  | .hbm, ⟨7, _⟩ => ⟨S512x1024, .bf16⟩
  | .hbm, ⟨8, _⟩ => ⟨S1x1024, .f32⟩
  | .hbm, ⟨9, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x512, .bf16⟩
  | .local _ .vmem, ⟨6, _⟩ => ⟨S512x1024, .bf16⟩
  | .local _ .vmem, ⟨7, _⟩ => ⟨S1x256x1024, .f32⟩
  | .local _ .vmem, ⟨8, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossRefIdeal.lean ====
abbrev S16x2048x1024 : Shape := ⟨3, ![16, 2048, 1024]⟩
abbrev S16x256x2x4x128 : Shape := ⟨5, ![16, 256, 2, 4, 128]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x512 : Shape := ⟨3, ![16, 2048, 512]⟩
abbrev S16x2048x4x128 : Shape := ⟨4, ![16, 2048, 4, 128]⟩
abbrev S16x256x1x4x128 : Shape := ⟨5, ![16, 256, 1, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x2x4x128, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x512, .f32⟩
  | .hbm, ⟨22, _⟩ => ⟨S16x2048x4x128, .f32⟩
  | .hbm, ⟨23, _⟩ => ⟨S16x256x1x4x128, .f32⟩
  | .hbm, ⟨24, _⟩ => ⟨S16x256x4x128, .f32⟩
  | .hbm, ⟨25, _⟩ => ⟨S16x4x2048x256, .f32⟩
  | .hbm, ⟨26, _⟩ => ⟨S_, .f32⟩
  | .hbm, ⟨27, _⟩ => ⟨S16x4x2048x256, .f32⟩
  | .hbm, ⟨28, _⟩ => ⟨S16x4x2048x256, .f32⟩
  | .hbm, ⟨29, _⟩ => ⟨S_, .f32⟩
  | .hbm, ⟨30, _⟩ => ⟨S16x4x2048, .f32⟩
  | .hbm, ⟨31, _⟩ => ⟨S_, .f32⟩
  | .hbm, ⟨32, _⟩ => ⟨S16x4x2048, .f32⟩
  | .hbm, ⟨33, _⟩ => ⟨S16x4x2048, .f32⟩
  | .hbm, ⟨34, _⟩ => ⟨S16x4x2048x1, .f32⟩
  | .hbm, ⟨35, _⟩ => ⟨S16x4x2048x256, .f32⟩
  | .hbm, ⟨36, _⟩ => ⟨S16x4x2048x256, .f32⟩
  | .hbm, ⟨37, _⟩ => ⟨S16x4x2048x256, .f32⟩
  | .hbm, ⟨38, _⟩ => ⟨S_, .f32⟩
  | .hbm, ⟨39, _⟩ => ⟨S16x4x2048, .f32⟩
  | .hbm, ⟨40, _⟩ => ⟨S16x4x2048x1, .f32⟩
  | .hbm, ⟨41, _⟩ => ⟨S16x4x2048x256, .f32⟩
  | .hbm, ⟨42, _⟩ => ⟨S16x4x2048x256, .f32⟩
  | .hbm, ⟨43, _⟩ => ⟨S16x256x1x4x128, .f32⟩
  | .hbm, ⟨44, _⟩ => ⟨S16x256x4x128, .f32⟩
  | .hbm, ⟨45, _⟩ => ⟨S16x4x128x2048, .f32⟩
  | .hbm, ⟨46, _⟩ => ⟨S16x2048x4x128, .f32⟩
  | .hbm, ⟨47, _⟩ => ⟨S16x2048x512, .f32⟩
  | .hbm, ⟨48, _⟩ => ⟨S16x2048x1024, .f32⟩
  | .hbm, ⟨49, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x8x64 : Shape := ⟨4, ![16, 2048, 8, 64]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S256x1024 : Shape := ⟨2, ![256, 1024]⟩
abbrev S256x512 : Shape := ⟨2, ![256, 512]⟩

abbrev nBuf : Space → Nat
  | .hbm => 17
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x8x64, .f32⟩
  | .hbm, ⟨2, _⟩ => ⟨S16x2048x8x64, .f32⟩
  | .hbm, ⟨3, _⟩ => ⟨S16x2048x1024, .f32⟩
  | .hbm, ⟨4, _⟩ => ⟨S16x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S32768x1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S32768x1024, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16x2048x1024 : Shape := ⟨3, ![16, 2048, 1024]⟩
abbrev S16x2048x8x64 : Shape := ⟨4, ![16, 2048, 8, 64]⟩
abbrev S512x1024 : Shape := ⟨2, ![512, 1024]⟩
abbrev S1024x1024 : Shape := ⟨2, ![1024, 1024]⟩
abbrev S16x2048x512 : Shape := ⟨3, ![16, 2048, 512]⟩
abbrev S_ : Shape := ⟨0, ![]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x8x64, .f32⟩
  | .hbm, ⟨2, _⟩ => ⟨S16x2048x8x64, .f32⟩
  | .hbm, ⟨3, _⟩ => ⟨S16x2048x1024, .f32⟩
  | .hbm, ⟨4, _⟩ => ⟨S16x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16x2048x512, .f32⟩
  | .hbm, ⟨9, _⟩ => ⟨S16x2048x1024, .f32⟩
  | .hbm, ⟨10, _⟩ => ⟨S16x2048x512, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proj.lean ====
abbrev S16x2048x1024 : Shape := ⟨3, ![16, 2048, 1024]⟩
abbrev S1024 : Shape := ⟨1, ![1024]⟩
abbrev S1024x4888 : Shape := ⟨2, ![1024, 4888]⟩
abbrev S1024x2816 : Shape := ⟨2, ![1024, 2816]⟩
abbrev S1024x24 : Shape := ⟨2, ![1024, 24]⟩
abbrev S_ : Shape := ⟨0, ![]⟩
abbrev S1024x128 : Shape := ⟨2, ![1024, 128]⟩
abbrev S1024x2048 : Shape := ⟨2, ![1024, 2048]⟩
abbrev S1024x4992 : Shape := ⟨2, ![1024, 4992]⟩
abbrev S32768x1024 : Shape := ⟨2, ![32768, 1024]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S32768x512 : Shape := ⟨2, ![32768, 512]⟩
abbrev S32768x256 : Shape := ⟨2, ![32768, 256]⟩
abbrev S32768x128 : Shape := ⟨2, ![32768, 128]⟩
abbrev S256x1024 : Shape := ⟨2, ![256, 1024]⟩
abbrev S256x128 : Shape := ⟨2, ![256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x128 : Shape := ⟨2, ![1, 128]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 48
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4888, .f32⟩
  | .hbm, ⟨3, _⟩ => ⟨S1024x2816, .f32⟩
  | .hbm, ⟨4, _⟩ => ⟨S1024x24, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x2048, .f32⟩
  | .hbm, ⟨9, _⟩ => ⟨S1024x4992, .f32⟩
  | .hbm, ⟨10, _⟩ => ⟨S1024x4992, .bf16⟩
  | .hbm, ⟨11, _⟩ => ⟨S32768x1024, .f32⟩
  | .hbm, ⟨12, _⟩ => ⟨S2048, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S2048x32, .f32⟩
  | .hbm, ⟨34, _⟩ => ⟨S2048x64, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S1x1024, .f32⟩
  | .hbm, ⟨39, _⟩ => ⟨S32768x512, .f32⟩
  | .hbm, ⟨40, _⟩ => ⟨S32768x1024, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x256, .f32⟩
  | .hbm, ⟨45, _⟩ => ⟨S32768x128, .f32⟩
  | .hbm, ⟨46, _⟩ => ⟨S32768x1024, .f32⟩
  | .hbm, ⟨47, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4992, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x256, .f32⟩
  | .local _ .vmem, ⟨19, _⟩ => ⟨S256x256, .f32⟩
  | .local _ .vmem, ⟨20, _⟩ => ⟨S256x128, .f32⟩
  | .local _ .vmem, ⟨21, _⟩ => ⟨S256x128, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev main_v32_6 : Ref sig .tc := ⟨.hbm, 45, rfl⟩
abbrev main_v32_7 : Ref sig .tc := ⟨.hbm, 46, rfl⟩
abbrev main_v32_8 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S16x2048x1024 : Shape := ⟨3, ![16, 2048, 1024]⟩
abbrev S1024 : Shape := ⟨1, ![1024]⟩
abbrev S1024x4888 : Shape := ⟨2, ![1024, 4888]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4888 : Shape := ⟨3, ![16, 2048, 4888]⟩
abbrev S16x2048x512 : Shape := ⟨3, ![16, 2048, 512]⟩
abbrev S16x2048x128 : Shape := ⟨3, ![16, 2048, 128]⟩
abbrev S16x2048x24 : Shape := ⟨3, ![16, 2048, 24]⟩
abbrev S16x2048x8x64 : Shape := ⟨4, ![16, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16x2048x1x8x64 : Shape := ⟨5, ![16, 2048, 1, 8, 64]⟩
abbrev S16x2048x2x8x64 : Shape := ⟨5, ![16, 2048, 2, 8, 64]⟩
abbrev S16x2048x2x64 : Shape := ⟨4, ![16, 2048, 2, 64]⟩
abbrev S16x2048x2x32 : Shape := ⟨4, ![16, 2048, 2, 32]⟩
abbrev S16x2048x1x2x64 : Shape := ⟨5, ![16, 2048, 1, 2, 64]⟩
abbrev S16x2048x4x2x64 : Shape := ⟨5, ![16, 2048, 4, 2, 64]⟩
abbrev S16x2048x2x2x64 : Shape := ⟨5, ![16, 2048, 2, 2, 64]⟩
abbrev S32768x512 : Shape := ⟨2, ![32768, 512]⟩
abbrev S32768x1024 : Shape := ⟨2, ![32768, 1024]⟩
abbrev S32768x256 : Shape := ⟨2, ![32768, 256]⟩
abbrev S32768x128 : Shape := ⟨2, ![32768, 128]⟩

abbrev nBuf : Space → Nat
  | .hbm => 242
  | .vmem => 0
  | .smem => 0
  | _ => 0

abbrev hbmTy0_0 (i : Nat) : BufTy := match i % 128 with
  | 0 => ⟨S16x2048x1024, .f32⟩
  | 1 => ⟨S1024, .f32⟩
  | 2 => ⟨S1024x4888, .f32⟩
  | 3 => ⟨S2048, .i32⟩
  | 4 => ⟨S16x2048x1024, .f32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S_, .f32⟩
  | 12 => ⟨S16x2048x1, .f32⟩
  | 13 => ⟨S16x2048x1, .f32⟩
  | 14 => ⟨S16x2048x1, .f32⟩
  | 15 => ⟨S16x2048x1024, .f32⟩
  | 16 => ⟨S16x2048x1024, .f32⟩
  | 17 => ⟨S1x1x1024, .f32⟩
  | 18 => ⟨S16x2048x1024, .f32⟩
  | 19 => ⟨S16x2048x1024, .f32⟩
  | 20 => ⟨S16x2048x4888, .f32⟩
  | 21 => ⟨S16x2048x512, .f32⟩
  | 22 => ⟨S16x2048x512, .f32⟩
  | 23 => ⟨S16x2048x512, .f32⟩
  | 24 => ⟨S16x2048x512, .f32⟩
  | 25 => ⟨S16x2048x128, .f32⟩
  | 26 => ⟨S16x2048x128, .f32⟩
  | 27 => ⟨S16x2048x128, .f32⟩
  | 28 => ⟨S16x2048x128, .f32⟩
  | 29 => ⟨S16x2048x128, .f32⟩
  | 30 => ⟨S16x2048x128, .f32⟩
  | 31 => ⟨S16x2048x24, .f32⟩
  | 32 => ⟨S16x2048x1024, .f32⟩
  | 33 => ⟨S16x2048x1024, .f32⟩
  | 34 => ⟨S16x2048x8x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S2048, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S2048x1x32, .f32⟩
  | 51 => ⟨S2048x32, .f32⟩
  | 52 => ⟨S2048x1x32, .f32⟩
  | 53 => ⟨S16x2048x8x32, .f32⟩
  | 54 => ⟨S16x2048x8x32, .f32⟩
  | 55 => ⟨S1x2048x1x32, .f32⟩
  | 56 => ⟨S16x2048x8x32, .f32⟩
  | 57 => ⟨S16x2048x8x32, .f32⟩
  | 58 => ⟨S1x2048x1x32, .f32⟩
  | 59 => ⟨S16x2048x8x32, .f32⟩
  | 60 => ⟨S16x2048x8x32, .f32⟩
  | 61 => ⟨S16x2048x8x32, .f32⟩
  | 62 => ⟨S1x2048x1x32, .f32⟩
  | 63 => ⟨S16x2048x8x32, .f32⟩
  | 64 => ⟨S16x2048x8x32, .f32⟩
  | 65 => ⟨S1x2048x1x32, .f32⟩
  | 66 => ⟨S16x2048x8x32, .f32⟩
  | 67 => ⟨S16x2048x8x32, .f32⟩
  | 68 => ⟨S16x2048x8x32, .f32⟩
  | 69 => ⟨S16x2048x8x64, .f32⟩
  | 70 => ⟨S16x2048x8x64, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S2048, .f32⟩
  | 80 => ⟨S2048x1, .f32⟩
  | 81 => ⟨S1x32, .f32⟩
  | 82 => ⟨S2048x32, .f32⟩
  | 83 => ⟨S2048x32, .f32⟩
  | 84 => ⟨S2048x32, .f32⟩
  | 85 => ⟨S2048x32, .f32⟩
  | 86 => ⟨S2048x1x32, .f32⟩
  | 87 => ⟨S2048x32, .f32⟩
  | 88 => ⟨S2048x1x32, .f32⟩
  | 89 => ⟨S16x2048x8x32, .f32⟩
  | 90 => ⟨S16x2048x8x32, .f32⟩
  | 91 => ⟨S1x2048x1x32, .f32⟩
  | 92 => ⟨S16x2048x8x32, .f32⟩
  | 93 => ⟨S16x2048x8x32, .f32⟩
  | 94 => ⟨S1x2048x1x32, .f32⟩
  | 95 => ⟨S16x2048x8x32, .f32⟩
  | 96 => ⟨S16x2048x8x32, .f32⟩
  | 97 => ⟨S16x2048x8x32, .f32⟩
  | 98 => ⟨S1x2048x1x32, .f32⟩
  | 99 => ⟨S16x2048x8x32, .f32⟩
  | 100 => ⟨S16x2048x8x32, .f32⟩
  | 101 => ⟨S1x2048x1x32, .f32⟩
  | 102 => ⟨S16x2048x8x32, .f32⟩
  | 103 => ⟨S16x2048x8x32, .f32⟩
  | 104 => ⟨S16x2048x8x32, .f32⟩
  | 105 => ⟨S16x2048x8x64, .f32⟩
  | 106 => ⟨S16x2048x8x64, .f32⟩
  | 107 => ⟨S16x2048x1x8x64, .f32⟩
  | 108 => ⟨S16x2048x1x8x64, .f32⟩
  | 109 => ⟨S16x2048x2x8x64, .f32⟩
  | 110 => ⟨S16x2048x8x64, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S2048, .f32⟩
  | 120 => ⟨S2048x1, .f32⟩
  | 121 => ⟨S1x32, .f32⟩
  | 122 => ⟨S2048x32, .f32⟩
  | 123 => ⟨S2048x32, .f32⟩
  | 124 => ⟨S2048x32, .f32⟩
  | 125 => ⟨S2048x32, .f32⟩
  | 126 => ⟨S2048x1x32, .f32⟩
  | 127 => ⟨S2048x32, .f32⟩
  | _ => ⟨S16x2048x1024, .f32⟩

abbrev hbmTy0_1 (i : Nat) : BufTy := match i % 128 with
  | 0 => ⟨S2048x1x32, .f32⟩
  | 1 => ⟨S16x2048x8x32, .f32⟩
  | 2 => ⟨S16x2048x8x32, .f32⟩
  | 3 => ⟨S1x2048x1x32, .f32⟩
  | 4 => ⟨S16x2048x8x32, .f32⟩
  | 5 => ⟨S16x2048x8x32, .f32⟩
  | 6 => ⟨S1x2048x1x32, .f32⟩
  | 7 => ⟨S16x2048x8x32, .f32⟩
  | 8 => ⟨S16x2048x8x32, .f32⟩
  | 9 => ⟨S16x2048x8x32, .f32⟩
  | 10 => ⟨S1x2048x1x32, .f32⟩
  | 11 => ⟨S16x2048x8x32, .f32⟩
  | 12 => ⟨S16x2048x8x32, .f32⟩
  | 13 => ⟨S1x2048x1x32, .f32⟩
  | 14 => ⟨S16x2048x8x32, .f32⟩
  | 15 => ⟨S16x2048x8x32, .f32⟩
  | 16 => ⟨S16x2048x8x32, .f32⟩
  | 17 => ⟨S16x2048x8x64, .f32⟩
  | 18 => ⟨S16x2048x2x64, .f32⟩
  | 19 => ⟨S16x2048x2x64, .f32⟩
  | 20 => ⟨S16x2048x2x64, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S2048, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x32, .f32⟩
  | 36 => ⟨S2048x1x32, .f32⟩
  | 37 => ⟨S2048x32, .f32⟩
  | 38 => ⟨S2048x1x32, .f32⟩
  | 39 => ⟨S16x2048x2x32, .f32⟩
  | 40 => ⟨S16x2048x2x32, .f32⟩
  | 41 => ⟨S1x2048x1x32, .f32⟩
  | 42 => ⟨S16x2048x2x32, .f32⟩
  | 43 => ⟨S16x2048x2x32, .f32⟩
  | 44 => ⟨S1x2048x1x32, .f32⟩
  | 45 => ⟨S16x2048x2x32, .f32⟩
  | 46 => ⟨S16x2048x2x32, .f32⟩
  | 47 => ⟨S16x2048x2x32, .f32⟩
  | 48 => ⟨S1x2048x1x32, .f32⟩
  | 49 => ⟨S16x2048x2x32, .f32⟩
  | 50 => ⟨S16x2048x2x32, .f32⟩
  | 51 => ⟨S1x2048x1x32, .f32⟩
  | 52 => ⟨S16x2048x2x32, .f32⟩
  | 53 => ⟨S16x2048x2x32, .f32⟩
  | 54 => ⟨S16x2048x2x32, .f32⟩
  | 55 => ⟨S16x2048x2x64, .f32⟩
  | 56 => ⟨S16x2048x2x64, .f32⟩
  | 57 => ⟨S16x2048x1x2x64, .f32⟩
  | 58 => ⟨S16x2048x1x2x64, .f32⟩
  | 59 => ⟨S16x2048x1x2x64, .f32⟩
  | 60 => ⟨S16x2048x1x2x64, .f32⟩
  | 61 => ⟨S16x2048x4x2x64, .f32⟩
  | 62 => ⟨S16x2048x2x64, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S2048, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S2048x1x32, .f32⟩
  | 79 => ⟨S2048x32, .f32⟩
  | 80 => ⟨S2048x1x32, .f32⟩
  | 81 => ⟨S16x2048x2x32, .f32⟩
  | 82 => ⟨S16x2048x2x32, .f32⟩
  | 83 => ⟨S1x2048x1x32, .f32⟩
  | 84 => ⟨S16x2048x2x32, .f32⟩
  | 85 => ⟨S16x2048x2x32, .f32⟩
  | 86 => ⟨S1x2048x1x32, .f32⟩
  | 87 => ⟨S16x2048x2x32, .f32⟩
  | 88 => ⟨S16x2048x2x32, .f32⟩
  | 89 => ⟨S16x2048x2x32, .f32⟩
  | 90 => ⟨S1x2048x1x32, .f32⟩
  | 91 => ⟨S16x2048x2x32, .f32⟩
  | 92 => ⟨S16x2048x2x32, .f32⟩
  | 93 => ⟨S1x2048x1x32, .f32⟩
  | 94 => ⟨S16x2048x2x32, .f32⟩
  | 95 => ⟨S16x2048x2x32, .f32⟩
  | 96 => ⟨S16x2048x2x32, .f32⟩
  | 97 => ⟨S16x2048x2x64, .f32⟩
  | 98 => ⟨S16x2048x2x64, .f32⟩
  | 99 => ⟨S16x2048x1x2x64, .f32⟩
  | 100 => ⟨S16x2048x1x2x64, .f32⟩
  | 101 => ⟨S16x2048x2x2x64, .f32⟩
  | 102 => ⟨S_, .i32⟩
  | 103 => ⟨S_, .f32⟩
  | 104 => ⟨S16x2048x128, .f32⟩
  | 105 => ⟨S32768x512, .f32⟩
  | 106 => ⟨S32768x1024, .f32⟩
  | 107 => ⟨S32768x512, .f32⟩
  | 108 => ⟨S32768x512, .f32⟩
  | 109 => ⟨S32768x512, .f32⟩
  | 110 => ⟨S32768x256, .f32⟩
  | 111 => ⟨S32768x128, .f32⟩
  | 112 => ⟨S32768x1024, .f32⟩
  | 113 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_cst_5 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_cst_6 : Ref sig .tc := ⟨.hbm, 113, rfl⟩
abbrev main_v103 : Ref sig .tc := ⟨.hbm, 114, rfl⟩
abbrev main_v104 : Ref sig .tc := ⟨.hbm, 115, rfl⟩
abbrev main_cst_7 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_cst_8 : Ref sig .tc := ⟨.hbm, 151, rfl⟩
abbrev main_v139 : Ref sig .tc := ⟨.hbm, 152, rfl⟩
abbrev main_v140 : Ref sig .tc := ⟨.hbm, 153, rfl⟩
abbrev main_cst_9 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_cst_10 : Ref sig .tc := ⟨.hbm, 193, rfl⟩
abbrev main_v179 : Ref sig .tc := ⟨.hbm, 194, rfl⟩
abbrev main_v180 : Ref sig .tc := ⟨.hbm, 195, rfl⟩
abbrev main_cst_11 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_c : Ref sig .tc := ⟨.hbm, 230, rfl⟩
abbrev main_call0_v0 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩

abbrev nD : Nat := 1
abbrev τ : Topo := Topo.v7x

variable {F : FTy → Type} [FloatOps F]
-- ==== ProjSample.lean ====
abbrev S32x4x1024 : Shape := ⟨3, ![32, 4, 1024]⟩
abbrev S1024 : Shape := ⟨1, ![1024]⟩
abbrev S1024x4888 : Shape := ⟨2, ![1024, 4888]⟩
abbrev S1024x2816 : Shape := ⟨2, ![1024, 2816]⟩
abbrev S1024x24 : Shape := ⟨2, ![1024, 24]⟩
abbrev S_ : Shape := ⟨0, ![]⟩
abbrev S1024x128 : Shape := ⟨2, ![1024, 128]⟩
abbrev S1024x2048 : Shape := ⟨2, ![1024, 2048]⟩
abbrev S1024x4992 : Shape := ⟨2, ![1024, 4992]⟩
abbrev S128x1024 : Shape := ⟨2, ![128, 1024]⟩
abbrev S4 : Shape := ⟨1, ![4]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x64 : Shape := ⟨2, ![4, 64]⟩
abbrev S1x4x1x64 : Shape := ⟨4, ![1, 4, 1, 64]⟩
abbrev S1x4x2x64 : Shape := ⟨4, ![1, 4, 2, 64]⟩
abbrev S4x128 : Shape := ⟨2, ![4, 128]⟩
abbrev S1x4x1x128 : Shape := ⟨4, ![1, 4, 1, 128]⟩
abbrev S32x4x1x128 : Shape := ⟨4, ![32, 4, 1, 128]⟩
abbrev S128x128 : Shape := ⟨2, ![128, 128]⟩
abbrev S1x1024 : Shape := ⟨2, ![1, 1024]⟩
abbrev S128x512 : Shape := ⟨2, ![128, 512]⟩
abbrev S128x256 : Shape := ⟨2, ![128, 256]⟩
abbrev S128 : Shape := ⟨1, ![128]⟩
abbrev S128x1 : Shape := ⟨2, ![128, 1]⟩
abbrev S1x128 : Shape := ⟨2, ![1, 128]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 57
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4888, .f32⟩
  | .hbm, ⟨3, _⟩ => ⟨S1024x2816, .f32⟩
  | .hbm, ⟨4, _⟩ => ⟨S1024x24, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x2048, .f32⟩
  | .hbm, ⟨9, _⟩ => ⟨S1024x4992, .f32⟩
  | .hbm, ⟨10, _⟩ => ⟨S1024x4992, .bf16⟩
  | .hbm, ⟨11, _⟩ => ⟨S128x1024, .f32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4, .f32⟩
  | .hbm, ⟨25, _⟩ => ⟨S4x1, .f32⟩
  | .hbm, ⟨26, _⟩ => ⟨S1x32, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S4x32, .f32⟩
  | .hbm, ⟨32, _⟩ => ⟨S4x64, .f32⟩
  | .hbm, ⟨33, _⟩ => ⟨S1x4x1x64, .f32⟩
  | .hbm, ⟨34, _⟩ => ⟨S1x4x2x64, .f32⟩
  | .hbm, ⟨35, _⟩ => ⟨S4x128, .f32⟩
  | .hbm, ⟨36, _⟩ => ⟨S4x32, .f32⟩
  | .hbm, ⟨37, _⟩ => ⟨S4x64, .f32⟩
  | .hbm, ⟨38, _⟩ => ⟨S1x4x1x64, .f32⟩
  | .hbm, ⟨39, _⟩ => ⟨S1x4x2x64, .f32⟩
  | .hbm, ⟨40, _⟩ => ⟨S4x128, .f32⟩
  | .hbm, ⟨41, _⟩ => ⟨S1x4x1x128, .f32⟩
  | .hbm, ⟨42, _⟩ => ⟨S32x4x1x128, .f32⟩
  | .hbm, ⟨43, _⟩ => ⟨S128x128, .f32⟩
  | .hbm, ⟨44, _⟩ => ⟨S1x4x1x128, .f32⟩
  | .hbm, ⟨45, _⟩ => ⟨S32x4x1x128, .f32⟩
  | .hbm, ⟨46, _⟩ => ⟨S128x128, .f32⟩
  | .hbm, ⟨47, _⟩ => ⟨S1x1024, .f32⟩
  | .hbm, ⟨48, _⟩ => ⟨S128x512, .f32⟩
  | .hbm, ⟨49, _⟩ => ⟨S128x1024, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S128x256, .f32⟩
  | .hbm, ⟨54, _⟩ => ⟨S128x128, .f32⟩
  | .hbm, ⟨55, _⟩ => ⟨S128x1024, .f32⟩
  | .hbm, ⟨56, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4992, .bf16⟩
  | .local _ .vmem, ⟨3, _⟩ => ⟨S128x128, .f32⟩
  | .local _ .vmem, ⟨4, _⟩ => ⟨S128x128, .f32⟩
  | .local _ .vmem, ⟨5, _⟩ => ⟨S128x512, .f32⟩
  | .local _ .vmem, ⟨6, _⟩ => ⟨S128x1024, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x256, .f32⟩
  | .local _ .vmem, ⟨11, _⟩ => ⟨S128x128, .f32⟩
  | .local _ .vmem, ⟨12, _⟩ => ⟨S128x1024, .f32⟩
  | .local _ .vmem, ⟨13, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40_0 : Ref sig .tc := ⟨.hbm, 48, rfl⟩
abbrev main_v40_1 : Ref sig .tc := ⟨.hbm, 49, rfl⟩
abbrev main_v40_2 : Ref sig .tc := ⟨.hbm, 50, rfl⟩
abbrev main_v40_3 : Ref sig .tc := ⟨.hbm, 51, rfl⟩
abbrev main_v40_4 : Ref sig .tc := ⟨.hbm, 52, rfl⟩
abbrev main_v40_5 : Ref sig .tc := ⟨.hbm, 53, rfl⟩
abbrev main_v40_6 : Ref sig .tc := ⟨.hbm, 54, rfl⟩
abbrev main_v40_7 : Ref sig .tc := ⟨.hbm, 55, rfl⟩
abbrev main_v40_8 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjSampleRefIdeal.lean ====
abbrev S32x4x1024 : Shape := ⟨3, ![32, 4, 1024]⟩
abbrev S1024 : Shape := ⟨1, ![1024]⟩
abbrev S1024x4888 : Shape := ⟨2, ![1024, 4888]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4888 : Shape := ⟨3, ![32, 4, 4888]⟩
abbrev S32x4x512 : Shape := ⟨3, ![32, 4, 512]⟩
abbrev S32x4x128 : Shape := ⟨3, ![32, 4, 128]⟩
abbrev S32x4x24 : Shape := ⟨3, ![32, 4, 24]⟩
abbrev S32x4x8x64 : Shape := ⟨4, ![32, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S32x4x8x32 : Shape := ⟨4, ![32, 4, 8, 32]⟩
abbrev S1x4x1x32 : Shape := ⟨4, ![1, 4, 1, 32]⟩
abbrev S32x4x1x8x64 : Shape := ⟨5, ![32, 4, 1, 8, 64]⟩
abbrev S32x4x2x8x64 : Shape := ⟨5, ![32, 4, 2, 8, 64]⟩
abbrev S32x4x2x64 : Shape := ⟨4, ![32, 4, 2, 64]⟩
abbrev S32x4x2x32 : Shape := ⟨4, ![32, 4, 2, 32]⟩
abbrev S32x4x1x2x64 : Shape := ⟨5, ![32, 4, 1, 2, 64]⟩
abbrev S32x4x4x2x64 : Shape := ⟨5, ![32, 4, 4, 2, 64]⟩
abbrev S32x4x2x2x64 : Shape := ⟨5, ![32, 4, 2, 2, 64]⟩
abbrev S128x512 : Shape := ⟨2, ![128, 512]⟩
abbrev S128x1024 : Shape := ⟨2, ![128, 1024]⟩
abbrev S128x256 : Shape := ⟨2, ![128, 256]⟩
abbrev S128x128 : Shape := ⟨2, ![128, 128]⟩

abbrev nBuf : Space → Nat
  | .hbm => 245
  | .vmem => 0
  | .smem => 0
  | _ => 0

abbrev hbmTy0_0 (i : Nat) : BufTy := match i % 128 with
  | 0 => ⟨S32x4x1024, .f32⟩
  | 1 => ⟨S1024, .f32⟩
  | 2 => ⟨S1024x4888, .f32⟩
  | 3 => ⟨S4, .i32⟩
  | 4 => ⟨S_, .i32⟩
  | 5 => ⟨S4, .i32⟩
  | 6 => ⟨S4, .i32⟩
  | 7 => ⟨S32x4x1024, .f32⟩
  | 8 => ⟨S_, .f32⟩
  | 9 => ⟨S32x4, .f32⟩
  | 10 => ⟨S32x4x1, .f32⟩
  | 11 => ⟨S_, .f32⟩
  | 12 => ⟨S32x4x1, .f32⟩
  | 13 => ⟨S32x4x1, .f32⟩
  | 14 => ⟨S_, .f32⟩
  | 15 => ⟨S32x4x1, .f32⟩
  | 16 => ⟨S32x4x1, .f32⟩
  | 17 => ⟨S32x4x1, .f32⟩
  | 18 => ⟨S32x4x1024, .f32⟩
  | 19 => ⟨S32x4x1024, .f32⟩
  | 20 => ⟨S1x1x1024, .f32⟩
  | 21 => ⟨S32x4x1024, .f32⟩
  | 22 => ⟨S32x4x1024, .f32⟩
  | 23 => ⟨S32x4x4888, .f32⟩
  | 24 => ⟨S32x4x512, .f32⟩
  | 25 => ⟨S32x4x512, .f32⟩
  | 26 => ⟨S32x4x512, .f32⟩
  | 27 => ⟨S32x4x512, .f32⟩
  | 28 => ⟨S32x4x128, .f32⟩
  | 29 => ⟨S32x4x128, .f32⟩
  | 30 => ⟨S32x4x128, .f32⟩
  | 31 => ⟨S32x4x128, .f32⟩
  | 32 => ⟨S32x4x128, .f32⟩
  | 33 => ⟨S32x4x128, .f32⟩
  | 34 => ⟨S32x4x24, .f32⟩
  | 35 => ⟨S32x4x1024, .f32⟩
  | 36 => ⟨S32x4x1024, .f32⟩
  | 37 => ⟨S32x4x8x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4, .f32⟩
  | 47 => ⟨S4x1, .f32⟩
  | 48 => ⟨S1x32, .f32⟩
  | 49 => ⟨S4x32, .f32⟩
  | 50 => ⟨S4x32, .f32⟩
  | 51 => ⟨S4x32, .f32⟩
  | 52 => ⟨S4x32, .f32⟩
  | 53 => ⟨S4x1x32, .f32⟩
  | 54 => ⟨S4x32, .f32⟩
  | 55 => ⟨S4x1x32, .f32⟩
  | 56 => ⟨S32x4x8x32, .f32⟩
  | 57 => ⟨S32x4x8x32, .f32⟩
  | 58 => ⟨S1x4x1x32, .f32⟩
  | 59 => ⟨S32x4x8x32, .f32⟩
  | 60 => ⟨S32x4x8x32, .f32⟩
  | 61 => ⟨S1x4x1x32, .f32⟩
  | 62 => ⟨S32x4x8x32, .f32⟩
  | 63 => ⟨S32x4x8x32, .f32⟩
  | 64 => ⟨S32x4x8x32, .f32⟩
  | 65 => ⟨S1x4x1x32, .f32⟩
  | 66 => ⟨S32x4x8x32, .f32⟩
  | 67 => ⟨S32x4x8x32, .f32⟩
  | 68 => ⟨S1x4x1x32, .f32⟩
  | 69 => ⟨S32x4x8x32, .f32⟩
  | 70 => ⟨S32x4x8x32, .f32⟩
  | 71 => ⟨S32x4x8x32, .f32⟩
  | 72 => ⟨S32x4x8x64, .f32⟩
  | 73 => ⟨S32x4x8x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4, .f32⟩
  | 83 => ⟨S4x1, .f32⟩
  | 84 => ⟨S1x32, .f32⟩
  | 85 => ⟨S4x32, .f32⟩
  | 86 => ⟨S4x32, .f32⟩
  | 87 => ⟨S4x32, .f32⟩
  | 88 => ⟨S4x32, .f32⟩
  | 89 => ⟨S4x1x32, .f32⟩
  | 90 => ⟨S4x32, .f32⟩
  | 91 => ⟨S4x1x32, .f32⟩
  | 92 => ⟨S32x4x8x32, .f32⟩
  | 93 => ⟨S32x4x8x32, .f32⟩
  | 94 => ⟨S1x4x1x32, .f32⟩
  | 95 => ⟨S32x4x8x32, .f32⟩
  | 96 => ⟨S32x4x8x32, .f32⟩
  | 97 => ⟨S1x4x1x32, .f32⟩
  | 98 => ⟨S32x4x8x32, .f32⟩
  | 99 => ⟨S32x4x8x32, .f32⟩
  | 100 => ⟨S32x4x8x32, .f32⟩
  | 101 => ⟨S1x4x1x32, .f32⟩
  | 102 => ⟨S32x4x8x32, .f32⟩
  | 103 => ⟨S32x4x8x32, .f32⟩
  | 104 => ⟨S1x4x1x32, .f32⟩
  | 105 => ⟨S32x4x8x32, .f32⟩
  | 106 => ⟨S32x4x8x32, .f32⟩
  | 107 => ⟨S32x4x8x32, .f32⟩
  | 108 => ⟨S32x4x8x64, .f32⟩
  | 109 => ⟨S32x4x8x64, .f32⟩
  | 110 => ⟨S32x4x1x8x64, .f32⟩
  | 111 => ⟨S32x4x1x8x64, .f32⟩
  | 112 => ⟨S32x4x2x8x64, .f32⟩
  | 113 => ⟨S32x4x8x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S4, .f32⟩
  | 123 => ⟨S4x1, .f32⟩
  | 124 => ⟨S1x32, .f32⟩
  | 125 => ⟨S4x32, .f32⟩
  | 126 => ⟨S4x32, .f32⟩
  | 127 => ⟨S4x32, .f32⟩
  | _ => ⟨S32x4x1024, .f32⟩

abbrev hbmTy0_1 (i : Nat) : BufTy := match i % 128 with
  | 0 => ⟨S4x32, .f32⟩
  | 1 => ⟨S4x1x32, .f32⟩
  | 2 => ⟨S4x32, .f32⟩
  | 3 => ⟨S4x1x32, .f32⟩
  | 4 => ⟨S32x4x8x32, .f32⟩
  | 5 => ⟨S32x4x8x32, .f32⟩
  | 6 => ⟨S1x4x1x32, .f32⟩
  | 7 => ⟨S32x4x8x32, .f32⟩
  | 8 => ⟨S32x4x8x32, .f32⟩
  | 9 => ⟨S1x4x1x32, .f32⟩
  | 10 => ⟨S32x4x8x32, .f32⟩
  | 11 => ⟨S32x4x8x32, .f32⟩
  | 12 => ⟨S32x4x8x32, .f32⟩
  | 13 => ⟨S1x4x1x32, .f32⟩
  | 14 => ⟨S32x4x8x32, .f32⟩
  | 15 => ⟨S32x4x8x32, .f32⟩
  | 16 => ⟨S1x4x1x32, .f32⟩
  | 17 => ⟨S32x4x8x32, .f32⟩
  | 18 => ⟨S32x4x8x32, .f32⟩
  | 19 => ⟨S32x4x8x32, .f32⟩
  | 20 => ⟨S32x4x8x64, .f32⟩
  | 21 => ⟨S32x4x2x64, .f32⟩
  | 22 => ⟨S32x4x2x64, .f32⟩
  | 23 => ⟨S32x4x2x64, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S4, .f32⟩
  | 33 => ⟨S4x1, .f32⟩
  | 34 => ⟨S1x32, .f32⟩
  | 35 => ⟨S4x32, .f32⟩
  | 36 => ⟨S4x32, .f32⟩
  | 37 => ⟨S4x32, .f32⟩
  | 38 => ⟨S4x32, .f32⟩
  | 39 => ⟨S4x1x32, .f32⟩
  | 40 => ⟨S4x32, .f32⟩
  | 41 => ⟨S4x1x32, .f32⟩
  | 42 => ⟨S32x4x2x32, .f32⟩
  | 43 => ⟨S32x4x2x32, .f32⟩
  | 44 => ⟨S1x4x1x32, .f32⟩
  | 45 => ⟨S32x4x2x32, .f32⟩
  | 46 => ⟨S32x4x2x32, .f32⟩
  | 47 => ⟨S1x4x1x32, .f32⟩
  | 48 => ⟨S32x4x2x32, .f32⟩
  | 49 => ⟨S32x4x2x32, .f32⟩
  | 50 => ⟨S32x4x2x32, .f32⟩
  | 51 => ⟨S1x4x1x32, .f32⟩
  | 52 => ⟨S32x4x2x32, .f32⟩
  | 53 => ⟨S32x4x2x32, .f32⟩
  | 54 => ⟨S1x4x1x32, .f32⟩
  | 55 => ⟨S32x4x2x32, .f32⟩
  | 56 => ⟨S32x4x2x32, .f32⟩
  | 57 => ⟨S32x4x2x32, .f32⟩
  | 58 => ⟨S32x4x2x64, .f32⟩
  | 59 => ⟨S32x4x2x64, .f32⟩
  | 60 => ⟨S32x4x1x2x64, .f32⟩
  | 61 => ⟨S32x4x1x2x64, .f32⟩
  | 62 => ⟨S32x4x1x2x64, .f32⟩
  | 63 => ⟨S32x4x1x2x64, .f32⟩
  | 64 => ⟨S32x4x4x2x64, .f32⟩
  | 65 => ⟨S32x4x2x64, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S4, .f32⟩
  | 75 => ⟨S4x1, .f32⟩
  | 76 => ⟨S1x32, .f32⟩
  | 77 => ⟨S4x32, .f32⟩
  | 78 => ⟨S4x32, .f32⟩
  | 79 => ⟨S4x32, .f32⟩
  | 80 => ⟨S4x32, .f32⟩
  | 81 => ⟨S4x1x32, .f32⟩
  | 82 => ⟨S4x32, .f32⟩
  | 83 => ⟨S4x1x32, .f32⟩
  | 84 => ⟨S32x4x2x32, .f32⟩
  | 85 => ⟨S32x4x2x32, .f32⟩
  | 86 => ⟨S1x4x1x32, .f32⟩
  | 87 => ⟨S32x4x2x32, .f32⟩
  | 88 => ⟨S32x4x2x32, .f32⟩
  | 89 => ⟨S1x4x1x32, .f32⟩
  | 90 => ⟨S32x4x2x32, .f32⟩
  | 91 => ⟨S32x4x2x32, .f32⟩
  | 92 => ⟨S32x4x2x32, .f32⟩
  | 93 => ⟨S1x4x1x32, .f32⟩
  | 94 => ⟨S32x4x2x32, .f32⟩
  | 95 => ⟨S32x4x2x32, .f32⟩
  | 96 => ⟨S1x4x1x32, .f32⟩
  | 97 => ⟨S32x4x2x32, .f32⟩
  | 98 => ⟨S32x4x2x32, .f32⟩
  | 99 => ⟨S32x4x2x32, .f32⟩
  | 100 => ⟨S32x4x2x64, .f32⟩
  | 101 => ⟨S32x4x2x64, .f32⟩
  | 102 => ⟨S32x4x1x2x64, .f32⟩
  | 103 => ⟨S32x4x1x2x64, .f32⟩
  | 104 => ⟨S32x4x2x2x64, .f32⟩
  | 105 => ⟨S_, .i32⟩
  | 106 => ⟨S_, .f32⟩
  | 107 => ⟨S32x4x128, .f32⟩
  | 108 => ⟨S128x512, .f32⟩
  | 109 => ⟨S128x1024, .f32⟩
  | 110 => ⟨S128x512, .f32⟩
  | 111 => ⟨S128x512, .f32⟩
  | 112 => ⟨S128x512, .f32⟩
  | 113 => ⟨S128x256, .f32⟩
  | 114 => ⟨S128x128, .f32⟩
  | 115 => ⟨S128x1024, .f32⟩
  | 116 => ⟨S128x1024, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_cst_6 : Ref sig .tc := ⟨.hbm, 116, rfl⟩
abbrev main_v105 : Ref sig .tc := ⟨.hbm, 117, rfl⟩
abbrev main_v106 : Ref sig .tc := ⟨.hbm, 118, rfl⟩
abbrev main_cst_7 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_cst_8 : Ref sig .tc := ⟨.hbm, 154, rfl⟩
abbrev main_v141 : Ref sig .tc := ⟨.hbm, 155, rfl⟩
abbrev main_v142 : Ref sig .tc := ⟨.hbm, 156, rfl⟩
abbrev main_cst_9 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_cst_10 : Ref sig .tc := ⟨.hbm, 196, rfl⟩
abbrev main_v181 : Ref sig .tc := ⟨.hbm, 197, rfl⟩
abbrev main_v182 : Ref sig .tc := ⟨.hbm, 198, rfl⟩
abbrev main_cst_11 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_c_12 : Ref sig .tc := ⟨.hbm, 233, rfl⟩
abbrev main_call0_v0 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩

abbrev nD : Nat := 1
abbrev τ : Topo := Topo.v7x

variable {F : FTy → Type} [FloatOps F]
-- ==== Moba.lean ====
abbrev S16x2048x8x64 : Shape := ⟨4, ![16, 2048, 8, 64]⟩
abbrev S16x2048x2x8x64 : Shape := ⟨5, ![16, 2048, 2, 8, 64]⟩
abbrev S16x2048x512 : Shape := ⟨3, ![16, 2048, 512]⟩
abbrev S16x2048x1024 : Shape := ⟨3, ![16, 2048, 1024]⟩
abbrev S1x2048x128 : Shape := ⟨3, ![1, 2048, 128]⟩
abbrev S2048x128 : Shape := ⟨2, ![2048, 128]⟩
abbrev S1x128 : Shape := ⟨2, ![1, 128]⟩
abbrev S256x128 : Shape := ⟨2, ![256, 128]⟩
abbrev S128 : Shape := ⟨1, ![128]⟩
abbrev S8x128 : Shape := ⟨2, ![8, 128]⟩
abbrev S8x256 : Shape := ⟨2, ![8, 256]⟩
abbrev S128x2048 : Shape := ⟨2, ![128, 2048]⟩
abbrev S256x256 : Shape := ⟨2, ![256, 256]⟩
abbrev S1x256x128 : Shape := ⟨3, ![1, 256, 128]⟩
abbrev S512x128 : Shape := ⟨2, ![512, 128]⟩
abbrev S512x256 : Shape := ⟨2, ![512, 256]⟩
abbrev S2x256x256 : Shape := ⟨3, ![2, 256, 256]⟩
abbrev S1x256x256 : Shape := ⟨3, ![1, 256, 256]⟩
abbrev S2x256 : Shape := ⟨2, ![2, 256]⟩
abbrev S2x256x1 : Shape := ⟨3, ![2, 256, 1]⟩
abbrev S2x256x128 : Shape := ⟨3, ![2, 256, 128]⟩
abbrev S256x512 : Shape := ⟨2, ![256, 512]⟩
abbrev S512x512 : Shape := ⟨2, ![512, 512]⟩
abbrev S2x256x512 : Shape := ⟨3, ![2, 256, 512]⟩
abbrev S1x256x512 : Shape := ⟨3, ![1, 256, 512]⟩
abbrev S256x768 : Shape := ⟨2, ![256, 768]⟩
abbrev S768x128 : Shape := ⟨2, ![768, 128]⟩
abbrev S512x768 : Shape := ⟨2, ![512, 768]⟩
abbrev S2x256x768 : Shape := ⟨3, ![2, 256, 768]⟩
abbrev S1x256x768 : Shape := ⟨3, ![1, 256, 768]⟩
abbrev S256x1024 : Shape := ⟨2, ![256, 1024]⟩
abbrev S1024x128 : Shape := ⟨2, ![1024, 128]⟩
abbrev S512x1024 : Shape := ⟨2, ![512, 1024]⟩
abbrev S2x256x1024 : Shape := ⟨3, ![2, 256, 1024]⟩
abbrev S1x256x1024 : Shape := ⟨3, ![1, 256, 1024]⟩
abbrev S256 : Shape := ⟨1, ![256]⟩
abbrev S1x256 : Shape := ⟨2, ![1, 256]⟩
abbrev S120x256 : Shape := ⟨2, ![120, 256]⟩
abbrev S128x256 : Shape := ⟨2, ![128, 256]⟩
abbrev S128x1024 : Shape := ⟨2, ![128, 1024]⟩
abbrev S256x1280 : Shape := ⟨2, ![256, 1280]⟩
abbrev S1280x128 : Shape := ⟨2, ![1280, 128]⟩
abbrev S512x1280 : Shape := ⟨2, ![512, 1280]⟩
abbrev S2x256x1280 : Shape := ⟨3, ![2, 256, 1280]⟩
abbrev S1x256x1280 : Shape := ⟨3, ![1, 256, 1280]⟩
abbrev S128x1280 : Shape := ⟨2, ![128, 1280]⟩
abbrev S256x1536 : Shape := ⟨2, ![256, 1536]⟩
abbrev S1536x128 : Shape := ⟨2, ![1536, 128]⟩
abbrev S512x1536 : Shape := ⟨2, ![512, 1536]⟩
abbrev S2x256x1536 : Shape := ⟨3, ![2, 256, 1536]⟩
abbrev S1x256x1536 : Shape := ⟨3, ![1, 256, 1536]⟩
abbrev S128x1536 : Shape := ⟨2, ![128, 1536]⟩
abbrev S256x1792 : Shape := ⟨2, ![256, 1792]⟩
abbrev S1792x128 : Shape := ⟨2, ![1792, 128]⟩
abbrev S512x1792 : Shape := ⟨2, ![512, 1792]⟩
abbrev S2x256x1792 : Shape := ⟨3, ![2, 256, 1792]⟩
abbrev S1x256x1792 : Shape := ⟨3, ![1, 256, 1792]⟩
abbrev S128x1792 : Shape := ⟨2, ![128, 1792]⟩
abbrev S256x2048 : Shape := ⟨2, ![256, 2048]⟩
abbrev S512x2048 : Shape := ⟨2, ![512, 2048]⟩
abbrev S2x256x2048 : Shape := ⟨3, ![2, 256, 2048]⟩
abbrev S1x256x2048 : Shape := ⟨3, ![1, 256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x8x64, .f32⟩
  | .hbm, ⟨2, _⟩ => ⟨S16x2048x512, .f32⟩
  | .hbm, ⟨3, _⟩ => ⟨S16x2048x1024, .f32⟩
  | .hbm, ⟨4, _⟩ => ⟨S16x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MobaIdeal.lean ====
variable {F : FTy → Type} [FloatOps F] [Named F]
def κ : String → Option EReal := fun
  | "mask" => some ⊥
  | _ => none
-- ==== MobaRefIdeal.lean ====
abbrev S16x2048x8x64 : Shape := ⟨4, ![16, 2048, 8, 64]⟩
abbrev S16x2048x2x8x64 : Shape := ⟨5, ![16, 2048, 2, 8, 64]⟩
abbrev S2048 : Shape := ⟨1, ![2048]⟩
abbrev S16x8x256x2x8x64 : Shape := ⟨6, ![16, 8, 256, 2, 8, 64]⟩
abbrev S16x8x8x256x2x64 : Shape := ⟨6, ![16, 8, 8, 256, 2, 64]⟩
abbrev S16x8x8x256x1x64 : Shape := ⟨6, ![16, 8, 8, 256, 1, 64]⟩
abbrev S16x8x8x256x64 : Shape := ⟨5, ![16, 8, 8, 256, 64]⟩
abbrev S_ : Shape := ⟨0, ![]⟩
abbrev S16x8x8x64 : Shape := ⟨4, ![16, 8, 8, 64]⟩
abbrev S16 : Shape := ⟨1, ![16]⟩
abbrev S16x1x1x1 : Shape := ⟨4, ![16, 1, 1, 1]⟩
abbrev S8 : Shape := ⟨1, ![8]⟩
abbrev S1x8x1x1 : Shape := ⟨4, ![1, 8, 1, 1]⟩
abbrev S256 : Shape := ⟨1, ![256]⟩
abbrev S16x8x2048x64 : Shape := ⟨4, ![16, 8, 2048, 64]⟩
abbrev S16x8x2048x8 : Shape := ⟨4, ![16, 8, 2048, 8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S16x8x2048x1 : Shape := ⟨4, ![16, 8, 2048, 1]⟩
abbrev S16x8x2048x4 : Shape := ⟨4, ![16, 8, 2048, 4]⟩
abbrev S1x1x2048x1 : Shape := ⟨4, ![1, 1, 2048, 1]⟩
abbrev S16x8x2048x4x1 : Shape := ⟨5, ![16, 8, 2048, 4, 1]⟩
abbrev S16x8x2048x4x3 : Shape := ⟨5, ![16, 8, 2048, 4, 3]⟩
abbrev S16x8x2048x4x256x2x64 : Shape := ⟨7, ![16, 8, 2048, 4, 256, 2, 64]⟩
abbrev S1x1x1x1x256 : Shape := ⟨5, ![1, 1, 1, 1, 256]⟩
abbrev S16x8x2048x4x256 : Shape := ⟨5, ![16, 8, 2048, 4, 256]⟩
abbrev S2048x1x1 : Shape := ⟨3, ![2048, 1, 1]⟩
abbrev S1x1x2048x1x1 : Shape := ⟨5, ![1, 1, 2048, 1, 1]⟩
abbrev S16x8x2048x1024 : Shape := ⟨4, ![16, 8, 2048, 1024]⟩
abbrev S16x8x2048x4x256x1x64 : Shape := ⟨7, ![16, 8, 2048, 4, 256, 1, 64]⟩
abbrev S16x8x2048x4x256x64 : Shape := ⟨6, ![16, 8, 2048, 4, 256, 64]⟩
abbrev S16x8x2048 : Shape := ⟨3, ![16, 8, 2048]⟩
abbrev S16x8x2048x1024x64 : Shape := ⟨5, ![16, 8, 2048, 1024, 64]⟩
abbrev S16x2048x512 : Shape := ⟨3, ![16, 2048, 512]⟩

abbrev nBuf : Space → Nat
  | .hbm => 139
  | .vmem => 0
  | .smem => 0
  | _ => 0

abbrev hbmTy0_0 (i : Nat) : BufTy := match i % 128 with
  | 0 => ⟨S16x2048x8x64, .f32⟩
  | 1 => ⟨S16x2048x2x8x64, .f32⟩
  | 2 => ⟨S2048, .i32⟩
  | 3 => ⟨S16x8x256x2x8x64, .f32⟩
  | 4 => ⟨S16x8x8x256x2x64, .f32⟩
  | 5 => ⟨S16x8x8x256x1x64, .f32⟩
  | 6 => ⟨S16x8x8x256x64, .f32⟩
  | 7 => ⟨S_, .f32⟩
  | 8 => ⟨S16x8x8x64, .f32⟩
  | 9 => ⟨S_, .f32⟩
  | 10 => ⟨S16x8x8x64, .f32⟩
  | 11 => ⟨S16x8x8x64, .f32⟩
  | 12 => ⟨S16, .i32⟩
  | 13 => ⟨S16x1x1x1, .i32⟩
  | 14 => ⟨S8, .i32⟩
  | 15 => ⟨S1x8x1x1, .i32⟩
  | 16 => ⟨S8, .i32⟩
  | 17 => ⟨S256, .i32⟩
  | 18 => ⟨S16x8x2048x64, .f32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S16x8x2048x8, .f32⟩
  | 38 => ⟨S1x8, .i32⟩
  | 39 => ⟨S2048x1, .i32⟩
  | 40 => ⟨S2048x8, .i32⟩
  | 41 => ⟨S2048x8, .i32⟩
  | 42 => ⟨S2048x8, .i1⟩
  | 43 => ⟨S_, .f32⟩
  | 44 => ⟨S_, .f32⟩
  | 45 => ⟨S16x8x2048x8, .i1⟩
  | 46 => ⟨S16x8x2048x8, .f32⟩
  | 47 => ⟨S16x8x2048x8, .f32⟩
  | 48 => ⟨S16x8x2048x3, .f32⟩
  | 49 => ⟨S16x8x2048x3, .i32⟩
  | 50 => ⟨S2048x1, .i32⟩
  | 51 => ⟨S16x8x2048x1, .i32⟩
  | 52 => ⟨S16x8x2048x4, .i32⟩
  | 53 => ⟨S2048x1, .i32⟩
  | 54 => ⟨S1x1x2048x1, .i32⟩
  | 55 => ⟨S16x8x2048x3, .i32⟩
  | 56 => ⟨S16x8x2048x3, .i1⟩
  | 57 => ⟨S_, .i1⟩
  | 58 => ⟨S16x8x2048x1, .i1⟩
  | 59 => ⟨S16x8x2048x4, .i1⟩
  | 60 => ⟨S_, .i32⟩
  | 61 => ⟨S16x1x1x1, .i32⟩
  | 62 => ⟨S16x1x1x1, .i1⟩
  | 63 => ⟨S_, .i32⟩
  | 64 => ⟨S16x1x1x1, .i32⟩
  | 65 => ⟨S16x1x1x1, .i32⟩
  | 66 => ⟨S16x1x1x1, .i32⟩
  | 67 => ⟨S_, .i32⟩
  | 68 => ⟨S1x8x1x1, .i32⟩
  | 69 => ⟨S1x8x1x1, .i1⟩
  | 70 => ⟨S_, .i32⟩
  | 71 => ⟨S1x8x1x1, .i32⟩
  | 72 => ⟨S1x8x1x1, .i32⟩
  | 73 => ⟨S1x8x1x1, .i32⟩
  | 74 => ⟨S_, .i32⟩
  | 75 => ⟨S16x8x2048x4, .i32⟩
  | 76 => ⟨S16x8x2048x4, .i1⟩
  | 77 => ⟨S_, .i32⟩
  | 78 => ⟨S16x8x2048x4, .i32⟩
  | 79 => ⟨S16x8x2048x4, .i32⟩
  | 80 => ⟨S16x8x2048x4, .i32⟩
  | 81 => ⟨S16x8x2048x4, .i32⟩
  | 82 => ⟨S16x8x2048x4, .i32⟩
  | 83 => ⟨S16x8x2048x4x1, .i32⟩
  | 84 => ⟨S16x8x2048x4x1, .i32⟩
  | 85 => ⟨S16x8x2048x4x1, .i32⟩
  | 86 => ⟨S16x8x2048x4x3, .i32⟩
  | 87 => ⟨S16x8x2048x4x256x2x64, .f32⟩
  | 88 => ⟨S16x8x2048x4x1, .i32⟩
  | 89 => ⟨S_, .i32⟩
  | 90 => ⟨S16x8x2048x4x1, .i32⟩
  | 91 => ⟨S16x8x2048x4x1, .i32⟩
  | 92 => ⟨S1x1x1x1x256, .i32⟩
  | 93 => ⟨S16x8x2048x4x256, .i32⟩
  | 94 => ⟨S16x8x2048x4x256, .i32⟩
  | 95 => ⟨S16x8x2048x4x256, .i32⟩
  | 96 => ⟨S16x8x2048x4x1, .i1⟩
  | 97 => ⟨S2048x1x1, .i32⟩
  | 98 => ⟨S1x1x2048x1x1, .i32⟩
  | 99 => ⟨S16x8x2048x4x256, .i32⟩
  | 100 => ⟨S16x8x2048x4x256, .i1⟩
  | 101 => ⟨S16x8x2048x4x256, .i1⟩
  | 102 => ⟨S16x8x2048x4x256, .i1⟩
  | 103 => ⟨S16x8x2048x1024, .i1⟩
  | 104 => ⟨S16x8x2048x4x256x1x64, .f32⟩
  | 105 => ⟨S16x8x2048x4x256x64, .f32⟩
  | 106 => ⟨S16x8x2048x4x256, .f32⟩
  | 107 => ⟨S_, .f32⟩
  | 108 => ⟨S16x8x2048x4x256, .f32⟩
  | 109 => ⟨S16x8x2048x4x256, .f32⟩
  | 110 => ⟨S16x8x2048x1024, .f32⟩
  | 111 => ⟨S_, .f32⟩
  | 112 => ⟨S_, .f32⟩
  | 113 => ⟨S16x8x2048x1024, .f32⟩
  | 114 => ⟨S16x8x2048x1024, .f32⟩
  | 115 => ⟨S_, .f32⟩
  | 116 => ⟨S16x8x2048, .f32⟩
  | 117 => ⟨S_, .f32⟩
  | 118 => ⟨S16x8x2048, .f32⟩
  | 119 => ⟨S16x8x2048, .f32⟩
  | 120 => ⟨S16x8x2048x1, .f32⟩
  | 121 => ⟨S16x8x2048x1024, .f32⟩
  | 122 => ⟨S16x8x2048x1024, .f32⟩
  | 123 => ⟨S16x8x2048x1024, .f32⟩
  | 124 => ⟨S_, .f32⟩
  | 125 => ⟨S16x8x2048, .f32⟩
  | 126 => ⟨S16x8x2048x1, .f32⟩
  | 127 => ⟨S16x8x2048x1024, .f32⟩
  | _ => ⟨S16x2048x8x64, .f32⟩

abbrev hbmTy0_1 (i : Nat) : BufTy := match i % 128 with
  | 0 => ⟨S16x8x2048x1024, .f32⟩
  | 1 => ⟨S_, .f32⟩
  | 2 => ⟨S_, .f32⟩
  | 3 => ⟨S16x8x2048x1024, .f32⟩
  | 4 => ⟨S16x8x2048x1024, .f32⟩
  | 5 => ⟨S16x8x2048x4x256x1x64, .f32⟩
  | 6 => ⟨S16x8x2048x4x256x64, .f32⟩
  | 7 => ⟨S16x8x2048x1024x64, .f32⟩
  | 8 => ⟨S16x8x2048x64, .f32⟩
  | 9 => ⟨S16x2048x8x64, .f32⟩
  | 10 => ⟨S16x2048x512, .f32⟩
  | _ => ⟨S16x2048x8x64, .f32⟩

abbrev hbmTy (i : Nat) : BufTy := match i / 128 with
  | 0 => hbmTy0_0 i
  | 1 => hbmTy0_1 i
  | _ => ⟨S16x2048x8x64, .f32⟩

abbrev bufTy : (tb : Table) → Fin (tcTables nBuf tb) → BufTy
  | .hbm, ⟨i, _⟩ => hbmTy i
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_values : Ref sig .tc := ⟨.hbm, 48, rfl⟩
abbrev main_indices : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_2 : Ref sig .tc := ⟨.hbm, 57, rfl⟩
abbrev main_v30 : Ref sig .tc := ⟨.hbm, 58, rfl⟩
abbrev main_v31 : Ref sig .tc := ⟨.hbm, 59, rfl⟩
abbrev main_c_3 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_c_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_7 : Ref sig .tc := ⟨.hbm, 74, rfl⟩
abbrev main_v42 : Ref sig .tc := ⟨.hbm, 75, rfl⟩
abbrev main_v43 : Ref sig .tc := ⟨.hbm, 76, rfl⟩
abbrev main_c_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_10 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_11 : Ref sig .tc := ⟨.hbm, 111, rfl⟩
abbrev main_call2_v0 : Ref sig .tc := ⟨.hbm, 112, rfl⟩
abbrev main_call2_v1 : Ref sig .tc := ⟨.hbm, 113, rfl⟩
abbrev main_v75 : Ref sig .tc := ⟨.hbm, 114, rfl⟩
abbrev main_cst_12 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_14 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_15 : Ref sig .tc := ⟨.hbm, 129, rfl⟩
abbrev main_call3_v0 : Ref sig .tc := ⟨.hbm, 130, rfl⟩
abbrev main_call3_v1 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩

abbrev nD : Nat := 1
abbrev τ : Topo := Topo.v7x

variable {F : FTy → Type} [FloatOps F]
-- ==== Compress.lean ====
abbrev S16x2048x4x2x64 : Shape := ⟨5, ![16, 2048, 4, 2, 64]⟩
abbrev S32x64 : Shape := ⟨2, ![32, 64]⟩
abbrev S2048x64 : Shape := ⟨2, ![2048, 64]⟩
abbrev S64x64 : Shape := ⟨2, ![64, 64]⟩
abbrev S16x2048x512 : Shape := ⟨3, ![16, 2048, 512]⟩
abbrev S32x64x64 : Shape := ⟨3, ![32, 64, 64]⟩
abbrev S_ : Shape := ⟨0, ![]⟩
abbrev S32x64x256 : Shape := ⟨3, ![32, 64, 256]⟩
abbrev S32x256x256 : Shape := ⟨3, ![32, 256, 256]⟩
abbrev S1x32x1x64 : Shape := ⟨4, ![1, 32, 1, 64]⟩
abbrev S1x32x4x64 : Shape := ⟨4, ![1, 32, 4, 64]⟩
abbrev S32x256 : Shape := ⟨2, ![32, 256]⟩
abbrev S16x256x256 : Shape := ⟨3, ![16, 256, 256]⟩
abbrev S64x256 : Shape := ⟨2, ![64, 256]⟩
abbrev S256x256 : Shape := ⟨2, ![256, 256]⟩
abbrev S16x128x256 : Shape := ⟨3, ![16, 128, 256]⟩
abbrev S1x2048x128 : Shape := ⟨3, ![1, 2048, 128]⟩
abbrev S1x128x256 : Shape := ⟨3, ![1, 128, 256]⟩
abbrev S128x256 : Shape := ⟨2, ![128, 256]⟩
abbrev S2048x128 : Shape := ⟨2, ![2048, 128]⟩
abbrev S128x128 : Shape := ⟨2, ![128, 128]⟩
abbrev S1x256 : Shape := ⟨2, ![1, 256]⟩
abbrev S1x256x256 : Shape := ⟨3, ![1, 256, 256]⟩

abbrev nBuf : Space → Nat
  | .hbm => 31
  | .vmem => 10
  | .smem => 0
  | _ => 0

abbrev bufTy : (tb : Table) → Fin (tcTables nBuf tb) → BufTy
  | .hbm, ⟨0, _⟩ => ⟨S16x2048x4x2x64, .f32⟩
  | .hbm, ⟨1, _⟩ => ⟨S32x64, .f32⟩
  | .hbm, ⟨2, _⟩ => ⟨S2048x64, .f32⟩
  | .hbm, ⟨3, _⟩ => ⟨S64x64, .f32⟩
  | .hbm, ⟨4, _⟩ => ⟨S2048x64, .f32⟩
  | .hbm, ⟨5, _⟩ => ⟨S64x64, .f32⟩
  | .hbm, ⟨6, _⟩ => ⟨S16x2048x512, .f32⟩
  | .hbm, ⟨7, _⟩ => ⟨S32x64x64, .f32⟩
  | .hbm, ⟨8, _⟩ => ⟨S32x64x64, .f32⟩
  | .hbm, ⟨9, _⟩ => ⟨S_, .f32⟩
  | .hbm, ⟨10, _⟩ => ⟨S32x64x64, .f32⟩
  | .hbm, ⟨11, _⟩ => ⟨S32x64x256, .f32⟩
  | .hbm, ⟨12, _⟩ => ⟨S32x64x256, .f32⟩
  | .hbm, ⟨13, _⟩ => ⟨S32x64x256, .f32⟩
  | .hbm, ⟨14, _⟩ => ⟨S32x64x256, .f32⟩
  | .hbm, ⟨15, _⟩ => ⟨S32x256x256, .f32⟩
  | .hbm, ⟨16, _⟩ => ⟨S32x256x256, .bf16⟩
  | .hbm, ⟨17, _⟩ => ⟨S1x32x1x64, .f32⟩
  | .hbm, ⟨18, _⟩ => ⟨S1x32x4x64, .f32⟩
  | .hbm, ⟨19, _⟩ => ⟨S32x256, .f32⟩
  | .hbm, ⟨20, _⟩ => ⟨S16x256x256, .bf16⟩
  | .hbm, ⟨21, _⟩ => ⟨S16x256x256, .bf16⟩
  | .hbm, ⟨22, _⟩ => ⟨S_, .f32⟩
  | .hbm, ⟨23, _⟩ => ⟨S64x64, .f32⟩
  | .hbm, ⟨24, _⟩ => ⟨S64x256, .f32⟩
  | .hbm, ⟨25, _⟩ => ⟨S64x256, .f32⟩
  | .hbm, ⟨26, _⟩ => ⟨S64x256, .f32⟩
  | .hbm, ⟨27, _⟩ => ⟨S64x256, .f32⟩
  | .hbm, ⟨28, _⟩ => ⟨S256x256, .f32⟩
  | .hbm, ⟨29, _⟩ => ⟨S256x256, .bf16⟩
  | .hbm, ⟨30, _⟩ => ⟨S16x128x256, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S32x256, .f32⟩
  | .local _ .vmem, ⟨5, _⟩ => ⟨S16x256x256, .bf16⟩
  | .local _ .vmem, ⟨6, _⟩ => ⟨S16x256x256, .bf16⟩
  | .local _ .vmem, ⟨7, _⟩ => ⟨S256x256, .bf16⟩
  | .local _ .vmem, ⟨8, _⟩ => ⟨S1x128x256, .f32⟩
  | .local _ .vmem, ⟨9, _⟩ => ⟨S1x128x256, .f32⟩
  | _, _ => ⟨S16x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CompressRefIdeal.lean ====
abbrev S16x2048x4x2x64 : Shape := ⟨5, ![16, 2048, 4, 2, 64]⟩
abbrev S32x64 : Shape := ⟨2, ![32, 64]⟩
abbrev S2048x64 : Shape := ⟨2, ![2048, 64]⟩
abbrev S64x64 : Shape := ⟨2, ![64, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S16x2048x1x2x64 : Shape := ⟨5, ![16, 2048, 1, 2, 64]⟩
abbrev S16x2048x2x64 : Shape := ⟨4, ![16, 2048, 2, 64]⟩
abbrev S127x32x1 : Shape := ⟨3, ![127, 32, 1]⟩
abbrev S16x127x32x2x64 : Shape := ⟨5, ![16, 127, 32, 2, 64]⟩
abbrev S32x1x64 : Shape := ⟨3, ![32, 1, 64]⟩
abbrev S1x1x32x1x64 : Shape := ⟨5, ![1, 1, 32, 1, 64]⟩
abbrev S16x127x2x32x64 : Shape := ⟨5, ![16, 127, 2, 32, 64]⟩
abbrev S16x127x2x2048 : Shape := ⟨4, ![16, 127, 2, 2048]⟩
abbrev S16x127x2x64 : Shape := ⟨4, ![16, 127, 2, 64]⟩
abbrev S16x127x128 : Shape := ⟨3, ![16, 127, 128]⟩
abbrev S16x127x256 : Shape := ⟨3, ![16, 127, 256]⟩
abbrev S16x128x256 : Shape := ⟨3, ![16, 128, 256]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x4x2x64, .f32⟩
  | .hbm, ⟨1, _⟩ => ⟨S32x64, .f32⟩
  | .hbm, ⟨2, _⟩ => ⟨S2048x64, .f32⟩
  | .hbm, ⟨3, _⟩ => ⟨S64x64, .f32⟩
  | .hbm, ⟨4, _⟩ => ⟨S2048x64, .f32⟩
  | .hbm, ⟨5, _⟩ => ⟨S64x64, .f32⟩
  | .hbm, ⟨6, _⟩ => ⟨S127, .i32⟩
  | .hbm, ⟨7, _⟩ => ⟨S127x1, .i32⟩
  | .hbm, ⟨8, _⟩ => ⟨S_, .i32⟩
  | .hbm, ⟨9, _⟩ => ⟨S127x1, .i32⟩
  | .hbm, ⟨10, _⟩ => ⟨S127x1, .i32⟩
  | .hbm, ⟨11, _⟩ => ⟨S32, .i32⟩
  | .hbm, ⟨12, _⟩ => ⟨S1x32, .i32⟩
  | .hbm, ⟨13, _⟩ => ⟨S127x32, .i32⟩
  | .hbm, ⟨14, _⟩ => ⟨S127x32, .i32⟩
  | .hbm, ⟨15, _⟩ => ⟨S127x32, .i32⟩
  | .hbm, ⟨16, _⟩ => ⟨S16x2048x1x2x64, .f32⟩
  | .hbm, ⟨17, _⟩ => ⟨S16x2048x2x64, .f32⟩
  | .hbm, ⟨18, _⟩ => ⟨S_, .i32⟩
  | .hbm, ⟨19, _⟩ => ⟨S127x32, .i32⟩
  | .hbm, ⟨20, _⟩ => ⟨S127x32, .i1⟩
  | .hbm, ⟨21, _⟩ => ⟨S_, .i32⟩
  | .hbm, ⟨22, _⟩ => ⟨S127x32, .i32⟩
  | .hbm, ⟨23, _⟩ => ⟨S127x32, .i32⟩
  | .hbm, ⟨24, _⟩ => ⟨S127x32, .i32⟩
  | .hbm, ⟨25, _⟩ => ⟨S127x32x1, .i32⟩
  | .hbm, ⟨26, _⟩ => ⟨S16x127x32x2x64, .f32⟩
  | .hbm, ⟨27, _⟩ => ⟨S32x1x64, .f32⟩
  | .hbm, ⟨28, _⟩ => ⟨S1x1x32x1x64, .f32⟩
  | .hbm, ⟨29, _⟩ => ⟨S16x127x32x2x64, .f32⟩
  | .hbm, ⟨30, _⟩ => ⟨S16x127x32x2x64, .f32⟩
  | .hbm, ⟨31, _⟩ => ⟨S16x127x2x32x64, .f32⟩
  | .hbm, ⟨32, _⟩ => ⟨S16x127x2x2048, .f32⟩
  | .hbm, ⟨33, _⟩ => ⟨S16x127x2x64, .f32⟩
  | .hbm, ⟨34, _⟩ => ⟨S16x127x2x64, .f32⟩
  | .hbm, ⟨35, _⟩ => ⟨S16x127x2x64, .f32⟩
  | .hbm, ⟨36, _⟩ => ⟨S_, .f32⟩
  | .hbm, ⟨37, _⟩ => ⟨S16x127x2x64, .f32⟩
  | .hbm, ⟨38, _⟩ => ⟨S16x127x2x64, .f32⟩
  | .hbm, ⟨39, _⟩ => ⟨S16x127x2x64, .f32⟩
  | .hbm, ⟨40, _⟩ => ⟨S_, .f32⟩
  | .hbm, ⟨41, _⟩ => ⟨S16x127x2x64, .f32⟩
  | .hbm, ⟨42, _⟩ => ⟨S16x127x2x64, .f32⟩
  | .hbm, ⟨43, _⟩ => ⟨S16x127x2x64, .f32⟩
  | .hbm, ⟨44, _⟩ => ⟨S_, .f32⟩
  | .hbm, ⟨45, _⟩ => ⟨S16x127x2x64, .f32⟩
  | .hbm, ⟨46, _⟩ => ⟨S16x127x2x64, .f32⟩
  | .hbm, ⟨47, _⟩ => ⟨S_, .f32⟩
  | .hbm, ⟨48, _⟩ => ⟨S16x127x2x64, .f32⟩
  | .hbm, ⟨49, _⟩ => ⟨S16x127x2x64, .f32⟩
  | .hbm, ⟨50, _⟩ => ⟨S16x127x2x64, .f32⟩
  | .hbm, ⟨51, _⟩ => ⟨S16x127x2x64, .f32⟩
  | .hbm, ⟨52, _⟩ => ⟨S16x2048x1x2x64, .f32⟩
  | .hbm, ⟨53, _⟩ => ⟨S16x2048x2x64, .f32⟩
  | .hbm, ⟨54, _⟩ => ⟨S_, .i32⟩
  | .hbm, ⟨55, _⟩ => ⟨S127x32, .i32⟩
  | .hbm, ⟨56, _⟩ => ⟨S127x32, .i1⟩
  | .hbm, ⟨57, _⟩ => ⟨S_, .i32⟩
  | .hbm, ⟨58, _⟩ => ⟨S127x32, .i32⟩
  | .hbm, ⟨59, _⟩ => ⟨S127x32, .i32⟩
  | .hbm, ⟨60, _⟩ => ⟨S127x32, .i32⟩
  | .hbm, ⟨61, _⟩ => ⟨S127x32x1, .i32⟩
  | .hbm, ⟨62, _⟩ => ⟨S16x127x32x2x64, .f32⟩
  | .hbm, ⟨63, _⟩ => ⟨S32x1x64, .f32⟩
  | .hbm, ⟨64, _⟩ => ⟨S1x1x32x1x64, .f32⟩
  | .hbm, ⟨65, _⟩ => ⟨S16x127x32x2x64, .f32⟩
  | .hbm, ⟨66, _⟩ => ⟨S16x127x32x2x64, .f32⟩
  | .hbm, ⟨67, _⟩ => ⟨S16x127x2x32x64, .f32⟩
  | .hbm, ⟨68, _⟩ => ⟨S16x127x2x2048, .f32⟩
  | .hbm, ⟨69, _⟩ => ⟨S16x127x2x64, .f32⟩
  | .hbm, ⟨70, _⟩ => ⟨S16x127x2x64, .f32⟩
  | .hbm, ⟨71, _⟩ => ⟨S16x127x2x64, .f32⟩
  | .hbm, ⟨72, _⟩ => ⟨S_, .f32⟩
  | .hbm, ⟨73, _⟩ => ⟨S16x127x2x64, .f32⟩
  | .hbm, ⟨74, _⟩ => ⟨S16x127x2x64, .f32⟩
  | .hbm, ⟨75, _⟩ => ⟨S16x127x2x64, .f32⟩
  | .hbm, ⟨76, _⟩ => ⟨S_, .f32⟩
  | .hbm, ⟨77, _⟩ => ⟨S16x127x2x64, .f32⟩
  | .hbm, ⟨78, _⟩ => ⟨S16x127x2x64, .f32⟩
  | .hbm, ⟨79, _⟩ => ⟨S16x127x2x64, .f32⟩
  | .hbm, ⟨80, _⟩ => ⟨S_, .f32⟩
  | .hbm, ⟨81, _⟩ => ⟨S16x127x2x64, .f32⟩
  | .hbm, ⟨82, _⟩ => ⟨S16x127x2x64, .f32⟩
  | .hbm, ⟨83, _⟩ => ⟨S_, .f32⟩
  | .hbm, ⟨84, _⟩ => ⟨S16x127x2x64, .f32⟩
  | .hbm, ⟨85, _⟩ => ⟨S16x127x2x64, .f32⟩
  | .hbm, ⟨86, _⟩ => ⟨S16x127x2x64, .f32⟩
  | .hbm, ⟨87, _⟩ => ⟨S16x127x2x64, .f32⟩
  | .hbm, ⟨88, _⟩ => ⟨S16x127x128, .f32⟩
  | .hbm, ⟨89, _⟩ => ⟨S16x127x128, .f32⟩
  | .hbm, ⟨90, _⟩ => ⟨S16x127x256, .f32⟩
  | .hbm, ⟨91, _⟩ => ⟨S_, .i32⟩
  | .hbm, ⟨92, _⟩ => ⟨S_, .f32⟩
  | .hbm, ⟨93, _⟩ => ⟨S16x128x256, .f32⟩
  | _, _ => ⟨S16x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_11 : Ref sig .tc := ⟨.hbm, 91, rfl⟩
abbrev main_call0_v0 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Proof.Mem.Value.lean ====
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import Idealize.ShloMosaic.Lib.Claim

@[expose] public section

set_option maxRecDepth 16384

noncomputable section

/-! The memory's keys and values: `RMSNorm(mem) @ w_ckv`, one block of 256 rows at each grid point. -/

namespace Cert.MemKvRefIdeal

open Cert.MemKvRefIdeal.Gen Idealize.ShloMosaic

/-- Element `i` of what the reference computes from its three arguments. -/
def REF (x : FVec Ideal S16x256x1024 .f32) (g : FVec Ideal S1024 .f32) (w : FVec Ideal S1024x1024 .f32) :
    FVec Ideal S4096x1024 .f32 :=
  shapeCast S4096x1024 (Host.dotGeneral dot_S16x256x1024_S1024x1024_S16x256x1024_2_0_01_1_n_n none (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) w) shapeCasts_S16x256x1024_S4096x1024

/-- Element `(r, d)` of the reference's result: the row's scaled entries against column `d` of the weights. -/
theorem REF_at (x : FVec Ideal S16x256x1024 .f32) (g : FVec Ideal S1024 .f32) (w : FVec Ideal S1024x1024 .f32)
    (b : Fin 16) (r : Fin 256) (d : Fin 1024) : REF x g w (ix2 ⟨b.val * 256 + r.val, by omega⟩ d)
      = ∑ k, x (ix3 b r k) * Ideal.rsqrt (Ideal.div (∑ k, x (ix3 b r k) * x (ix3 b r k)) (Ideal.ofBits .f32 1149239296#32)
          + Ideal.ofBits .f32 897988541#32) * g (ix1 k) * w (ix2 k d) := by
  have hb : (⟨(b.val * 256 + r.val) / 256, by omega⟩ : Fin 16) = b := Fin.ext (by simp only []; omega)
  have hr : (⟨(b.val * 256 + r.val) % 256, by omega⟩ : Fin 256) = r := Fin.ext (by simp only []; omega)
  pointwise [REF]

end Cert.MemKvRefIdeal

namespace Cert.MemKvIdeal.Proved

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem emb0 (t : Fin cfg0.N) (y : Fin 256) (k : Fin 1024) : ((cfg0.win 0).blk t).view.emb (ix2 y k)
    = (ix2 ⟨t.val * 256 + y.val, by have := t.isLt; change _ < 16 at this; omega⟩ k : S4096x1024.Idx) := by
  blk_ext [idx t]

theorem emb1 (t : Fin cfg0.N) (k : Fin 1024) : ((cfg0.win 1).blk t).view.emb (ix2 0 k) = (ix2 0 k : S1x1024.Idx) := by
  blk_ext [idx t]

theorem emb2 (t : Fin cfg0.N) (k d : Fin 1024) : ((cfg0.win 2).blk t).view.emb (ix2 k d) = (ix2 k d : S1024x1024.Idx) := by
  blk_ext [idx t]

theorem emb3 (t : Fin cfg0.N) (y : Fin 256) (k : Fin 1024) : ((cfg0.win 3).blk t).view.emb (ix2 y k)
    = (ix2 ⟨t.val * 256 + y.val, by have := t.isLt; change _ < 16 at this; omega⟩ k : S4096x1024.Idx) := by
  blk_ext [idx t]

theorem blk0 (c : Dev nD) (t : Fin cfg0.N) (y : Fin 256) (k : Fin 1024) : iblk m c 0 t (ix2 y k)
    = m ((c : Thread nD τ).loc main_arg0) (ix3 ⟨t.val, t.isLt⟩ y k) := by
  have hV : iblk m c 0 t (ix2 y k) = V m c main_v0 (((cfg0.win 0).blk t).view.emb (ix2 y k)) := rfl
  rw [hV, emb0]
  entry_read
  pointwise
  blk_ext

theorem blk1 (c : Dev nD) (t : Fin cfg0.N) (k : Fin 1024) : iblk m c 1 t (ix2 0 k)
    = m ((c : Thread nD τ).loc main_arg1) (ix1 k) := by
  have hV : iblk m c 1 t (ix2 0 k) = V m c main_v2 (((cfg0.win 1).blk t).view.emb (ix2 0 k)) := rfl
  rw [hV, emb1]
  entry_read
  pointwise

theorem blk2 (c : Dev nD) (t : Fin cfg0.N) (k d : Fin 1024) : iblk m c 2 t (ix2 k d)
    = m ((c : Thread nD τ).loc main_arg2) (ix2 k d) := by
  have hV : iblk m c 2 t (ix2 k d) = V m c main_v1 (((cfg0.win 2).blk t).view.emb (ix2 k d)) := rfl
  rw [hV, emb2]
  entry_read
  pointwise

/-- The result array after the run is the reference's term of the arguments. -/
theorem final (c : Dev nD) : (dats m 0 c).arrAt 3 (cfgs 0).N
    = Cert.MemKvRefIdeal.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 1024), y = ix2 r d := ⟨y 0, y 1, eq_ix2 y⟩
  rw [emb3]
  refine Eq.trans ?_ (Cert.MemKvRefIdeal.REF_at _ _ _ ⟨t.val, t.isLt⟩ r d).symm
  blk_simp
  rw [after0_3]; frame_out
  pointwise [k0_pay1]
  simp only [blk0, blk1, blk2]
  rfl

end Cert.MemKvIdeal.Proved
-- ==== Proof.Claims.Mem.lean ====
module

public import proofs.«01_k».proof.Defs
public import proofs.«01_k».proof.Proof.Gen.MemKv.Frame
public import proofs.«01_k».proof.Proof.Gen.MemKvRefIdeal.Run
public import proofs.«01_k».proof.Proof.Mem.Value
public import Idealize.ShloMosaic.Lib.Claim
public import Idealize.ShloMosaic.Adequacy
public import Idealize.ShloMosaic.Init

@[expose] public section

noncomputable section

namespace Cert.Proof

open Idealize.ShloMosaic Idealize.SL.Sem

theorem frame_memkv : Cert.quiescent_MemKv := fun m ρ _ => Cert.MemKv.Gen.frame m ρ

theorem frame_memkv_ideal : Cert.quiescent_MemKvIdeal := fun m ρ _ => Cert.MemKvIdeal.Gen.frame m ρ

theorem frame_memkv_ref : Cert.quiescent_MemKvRefIdeal :=
  fun m ρ _ => (θ_run Cert.MemKvRefIdeal.defs _ _).mono
    (fun r h => ⟨fun c => (h c).2, Idealize.ShloMosaic.sem_eq_zero_of_no_sems (by decide) r.2⟩)
    (Cert.MemKvRefIdeal.Value.run m ρ)

theorem algebraic_memkv : Cert.algebraic_MemKvIdeal_MemKvRefIdeal := by
  pair_intro
  · run_from Cert.MemKvIdeal.Gen.run_main m g
  · hlo_run
    exact (Cert.MemKvIdeal.Proved.final m c).symm

end Cert.Proof

end
-- ==== Proof.Attn.Soft.lean ====
module

public import Idealize.ShloMosaic.PureOps.Ideal.Laws

@[expose] public section

noncomputable section

/-! Softmax-weighted sums over the extended reals, taken over a set of keys. -/

namespace Cert.Attn

open Idealize.ShloMosaic

/-- `x` is a real number. -/
def Re (x : EReal) : Prop := ∃ r : ℝ, x = (r : EReal)

theorem Re.mul {x y : EReal} : Re x → Re y → Re (x * y) := by
  rintro ⟨a, rfl⟩ ⟨b, rfl⟩; exact ⟨a * b, (EReal.coe_mul a b).symm⟩

theorem Re.add {x y : EReal} : Re x → Re y → Re (x + y) := by
  rintro ⟨a, rfl⟩ ⟨b, rfl⟩; exact ⟨a + b, (EReal.coe_add a b).symm⟩

theorem Re.zero : Re 0 := ⟨0, rfl⟩

theorem Re.sum {ι : Type} (A : Finset ι) {f : ι → EReal} (h : ∀ i ∈ A, Re (f i)) : Re (∑ i ∈ A, f i) := by
  classical
  induction A using Finset.induction_on with
  | empty => exact ⟨0, by simp⟩
  | insert a s ha ih =>
    rw [Finset.sum_insert ha]
    exact (h a (Finset.mem_insert_self a s)).add (ih fun i hi => h i (Finset.mem_insert_of_mem hi))

theorem Re.ne_bot {x : EReal} : Re x → x ≠ ⊥ := by rintro ⟨a, rfl⟩; exact EReal.coe_ne_bot a
theorem Re.ne_top {x : EReal} : Re x → x ≠ ⊤ := by rintro ⟨a, rfl⟩; exact EReal.coe_ne_top a

theorem re_of_ne {x : EReal} (h : x ≠ ⊥) (h' : x ≠ ⊤) : Re x := ⟨x.toReal, (EReal.coe_toReal h' h).symm⟩

theorem exp_re {x y : EReal} : Re x → Re y → ∃ r : ℝ, 0 < r ∧ Ideal.exp (x - y) = (r : EReal) := by
  rintro ⟨a, rfl⟩ ⟨b, rfl⟩
  exact ⟨Real.exp (a - b), Real.exp_pos _, by rw [← EReal.coe_sub]; rfl⟩

theorem exp_bot_sub {y : EReal} : Ideal.exp (⊥ - y) = 0 := by rw [EReal.bot_sub]; rfl

theorem sum_mul_right {ι : Type} (A : Finset ι) (f : ι → EReal) {c : EReal} (h0 : 0 ≤ c) (ht : c ≠ ⊤) :
    (∑ i ∈ A, f i) * c = ∑ i ∈ A, f i * c := by
  classical
  induction A using Finset.induction_on with
  | empty => simp
  | insert a s ha ih => rw [Finset.sum_insert ha, Finset.sum_insert ha, EReal.right_distrib_of_nonneg_of_ne_top h0 ht, ih]

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

theorem fold_max {ι : Type} (A : Finset ι) (f : ι → EReal) : A.fold max (Ideal.ofBits .f32 0xFF800000#32) f = A.sup f := by
  rw [neg_inf]; rfl

theorem max_neg_inf (x : EReal) : max (Ideal.ofBits .f32 0xFF800000#32) x = x := by rw [neg_inf]; exact max_bot_left x

section
variable {κ : Type} (A : Finset κ) (S v : κ → EReal)

/-- The weight of key `j` before the division. -/
def wt (j : κ) : EReal := Ideal.exp (S j - A.sup S)

/-- The sum of the weights. -/
def den : EReal := ∑ j ∈ A, wt A S j

/-- The weighted sum of the values over the keys in `A`, divided by the sum of the weights. -/
def att : EReal := (∑ j ∈ A, wt A S j * v j) * (den A S)⁻¹

variable {A S}

theorem sup_re (hA : A.Nonempty) (hS : ∀ j ∈ A, Re (S j)) : Re (A.sup S) := by
  obtain ⟨i, hi, e⟩ := Finset.exists_mem_eq_sup A hA S
  rw [e]; exact hS i hi

theorem den_pos (hA : A.Nonempty) (hS : ∀ j ∈ A, Re (S j)) : ∃ r : ℝ, 0 < r ∧ den A S = (r : EReal) := by
  classical
  have hw : ∀ j ∈ A, ∃ r : ℝ, 0 < r ∧ wt A S j = (r : EReal) := fun j hj => exp_re (hS j hj) (sup_re hA hS)
  obtain ⟨r, hr⟩ : Re (den A S) := Re.sum A fun j hj => (hw j hj).imp fun r h => h.2
  refine ⟨r, ?_, hr⟩
  obtain ⟨i, hi⟩ := hA
  obtain ⟨s, hs, es⟩ := hw i hi
  have hle : wt A S i ≤ den A S := Finset.single_le_sum (f := wt A S) (fun j hj => by
    obtain ⟨q, hq, eq⟩ := hw j hj
    rw [eq]; exact_mod_cast hq.le) hi
  rw [es, hr] at hle
  exact lt_of_lt_of_le hs (by exact_mod_cast hle)

variable {ι : Type} [Fintype ι] (P : ι → Prop) (e : ι → κ) {f w : ι → EReal}

/-- Scores listed at places `ι`, the place's key in `A` when `P` holds and the least score otherwise: the same greatest score. -/
theorem sup_eq (hf : ∀ i, P i → f i = S (e i)) (hn : ∀ i, ¬ P i → f i = ⊥) (hm : ∀ i, P i → e i ∈ A)
    (hs : ∀ j ∈ A, ∃ i, P i ∧ e i = j) : Finset.univ.sup f = A.sup S := by
  refine le_antisymm (Finset.sup_le fun i _ => ?_) (Finset.sup_le fun j hj => ?_)
  · by_cases h : P i
    · rw [hf i h]; exact Finset.le_sup (hm i h)
    · rw [hn i h]; exact bot_le
  · obtain ⟨i, hi, rfl⟩ := hs j hj
    rw [← hf i hi]; exact Finset.le_sup (Finset.mem_univ i)

/-- A sum over the places where `P` holds is the sum over the keys in `A`. -/
theorem sum_eq {g : ι → EReal} {G : κ → EReal} (hg : ∀ i, P i → g i = G (e i)) (hn : ∀ i, ¬ P i → g i = 0)
    (hm : ∀ i, P i → e i ∈ A) (hi : ∀ i j, P i → P j → e i = e j → i = j) (hs : ∀ j ∈ A, ∃ i, P i ∧ e i = j) :
    ∑ i, g i = ∑ j ∈ A, G j := by
  classical
  rw [← Finset.sum_filter_add_sum_filter_not Finset.univ P, Finset.sum_eq_zero (s := Finset.univ.filter fun i => ¬ P i)
    (fun i hi => hn i (Finset.mem_filter.mp hi).2), add_zero]
  refine Finset.sum_bij (fun i _ => e i) (fun i h => hm i (Finset.mem_filter.mp h).2)
    (fun i h j k => hi i j (Finset.mem_filter.mp h).2 (Finset.mem_filter.mp k).2) (fun j hj => ?_)
    (fun i h => hg i (Finset.mem_filter.mp h).2)
  obtain ⟨i, hi, rfl⟩ := hs j hj
  exact ⟨i, Finset.mem_filter.mpr ⟨Finset.mem_univ i, hi⟩, rfl⟩

variable {v} (hA : A.Nonempty) (hS : ∀ j ∈ A, Re (S j)) (hf : ∀ i, P i → f i = S (e i)) (hn : ∀ i, ¬ P i → f i = ⊥)
  (hm : ∀ i, P i → e i ∈ A) (hi : ∀ i j, P i → P j → e i = e j → i = j) (hs : ∀ j ∈ A, ∃ i, P i ∧ e i = j)
include hf hn hm hi hs

theorem den_eq : ∑ i, Ideal.exp (f i - Finset.univ.sup f) = den A S := by
  rw [sup_eq P e hf hn hm hs]
  exact sum_eq (G := wt A S) P e (fun i h => by rw [hf i h]; rfl) (fun i h => by rw [hn i h, exp_bot_sub]) hm hi hs

theorem num_eq (hw : ∀ i, P i → w i = v (e i)) :
    ∑ i, Ideal.exp (f i - Finset.univ.sup f) * w i = ∑ j ∈ A, wt A S j * v j := by
  rw [sup_eq P e hf hn hm hs]
  exact sum_eq (G := fun j => wt A S j * v j) P e (fun i h => by rw [hf i h, hw i h]; rfl)
    (fun i h => by rw [hn i h, exp_bot_sub, zero_mul]) hm hi hs

include hA hS

/-- The weighted sum divided at the end. -/
theorem att_of_sum (hw : ∀ i, P i → w i = v (e i)) :
    Ideal.div (∑ i, Ideal.exp (f i - Finset.univ.sup f) * w i) (∑ i, Ideal.exp (f i - Finset.univ.sup f)) = att A S v := by
  obtain ⟨r, hr, er⟩ := den_pos hA hS
  rw [den_eq P e hf hn hm hi hs, num_eq P e hf hn hm hi hs hw, att, Ideal.div, if_neg]
  rw [er]; exact_mod_cast hr.ne'

/-- The weighted sum times the reciprocal that is taken only when the sum of the weights is positive. -/
theorem att_of_inv (hw : ∀ i, P i → w i = v (e i)) :
    (∑ i, Ideal.exp (f i - Finset.univ.sup f) * w i) * (if 0 < ∑ i, Ideal.exp (f i - Finset.univ.sup f) then
      Ideal.div 1 (if 0 < ∑ i, Ideal.exp (f i - Finset.univ.sup f) then ∑ i, Ideal.exp (f i - Finset.univ.sup f) else 1) else 0)
      = att A S v := by
  obtain ⟨r, hr, er⟩ := den_pos hA hS
  have h0 : (0 : EReal) < r := by exact_mod_cast hr
  rw [den_eq P e hf hn hm hi hs, num_eq P e hf hn hm hi hs hw, att, er, if_pos h0, if_pos h0, Ideal.div, if_neg h0.ne', one_mul]

/-- Every weight divided first, and the masked ones dropped. -/
theorem att_of_div [DecidablePred P] (hw : ∀ i, P i → w i = v (e i)) :
    ∑ i, (if P i then Ideal.div (Ideal.exp (f i - Finset.univ.sup f)) (∑ i, Ideal.exp (f i - Finset.univ.sup f)) else 0) * w i
      = att A S v := by
  obtain ⟨r, hr, er⟩ := den_pos hA hS
  have h0 : (0 : EReal) < r := by exact_mod_cast hr
  rw [den_eq P e hf hn hm hi hs, sup_eq P e hf hn hm hs, att, sum_mul_right]
  · refine sum_eq (G := fun j => wt A S j * v j * (den A S)⁻¹) P e (fun i h => ?_) (fun i h => by rw [if_neg h, zero_mul]) hm hi hs
    rw [if_pos h, hf i h, hw i h, Ideal.div, if_neg (by rw [er]; exact h0.ne'), mul_right_comm]; rfl
  · rw [er, ← EReal.coe_inv]; exact_mod_cast (inv_pos.mpr hr).le
  · rw [er, ← EReal.coe_inv]; exact EReal.coe_ne_top _

end

end Cert.Attn
-- ==== Proof.Attn.Finite.lean ====
module

public import Idealize.ShloMosaic.Lib.ReduceAll
public import Idealize.ShloMosaic.Lib.Affine
public import Idealize.ShloMosaic.Lib.KernelVsHost
public import proofs.«01_k».proof.Proof.Attn.Soft

@[expose] public section

noncomputable section

/-! Real numbers under the operations of a layer. -/

namespace Cert.Attn

open Idealize.ShloMosaic

/-- What a test `|x| < ∞` that holds says. -/
theorem re_of_test {x : EReal} (h : FloatOps.cmpf (F := Ideal) (φ := .f32) .olt (FloatOps.hostAbsf (F := Ideal) (φ := .f32) x)
    (FloatOps.ofBits (F := Ideal) .f32 0x7F800000#32) = 1#1) : Re x := by
  rw [← Ideal.xori_weird_eq_hostAbsf_olt_inf] at h
  have h' : IntOp.xori (BitVec.ofBool (decide (x = ⊤ ∨ x = ⊥))) 1#1 = 1#1 := h
  by_cases hx : x = ⊤ ∨ x = ⊥
  · rw [decide_eq_true hx] at h'; exact absurd h' (by decide)
  · exact re_of_ne (fun e => hx (Or.inr e)) (fun e => hx (Or.inl e))

theorem and_one {a b : BitVec 1} : IntOp.andi a b = 1#1 ↔ a = 1#1 ∧ b = 1#1 := by revert a b; decide

/-- The reciprocal square root of a positive real. -/
theorem rsqrt_re {x : EReal} {r : ℝ} (h : 0 < r) (e : x = r) : Re (Ideal.rsqrt x) := by
  subst e
  show Re (if r < 0 then ⊥ else if r = 0 then ⊤ else (((Real.sqrt r)⁻¹ : ℝ) : EReal))
  rw [if_neg h.le.not_gt, if_neg h.ne']
  exact ⟨_, rfl⟩

theorem sq_sum_re {n : Nat} {x : Fin n → EReal} (h : ∀ k, Re (x k)) : ∃ r : ℝ, 0 ≤ r ∧ ∑ k, x k * x k = (r : EReal) := by
  choose f hf using h
  refine ⟨∑ k, f k * f k, Finset.sum_nonneg fun k _ => mul_self_nonneg _, ?_⟩
  have : ∀ s : Finset (Fin n), ∑ k ∈ s, x k * x k = ((∑ k ∈ s, f k * f k : ℝ) : EReal) := fun s => by
    classical
    induction s using Finset.induction_on with
    | empty => simp
    | insert a s ha ih => rw [Finset.sum_insert ha, Finset.sum_insert ha, ih, hf a, ← EReal.coe_mul, ← EReal.coe_add]
  exact this _

/-- The scale of a row by its root mean square is a real number. -/
theorem rms_re {n : Nat} {x : Fin n → EReal} (h : ∀ k, Re (x k)) :
    Re (Ideal.rsqrt (Ideal.div (∑ k, x k * x k) (Ideal.ofBits .f32 1149239296#32) + Ideal.ofBits .f32 897988541#32)) := by
  obtain ⟨r, hr, e⟩ := sq_sum_re h
  have e1 : Ideal.ofBits .f32 1149239296#32 = ((1024 : ℝ) : EReal) := by
    simp [Ideal.ofBits, Ideal.ieee, -EReal.coe_mul]; norm_num
  obtain ⟨s, hs, e2⟩ : ∃ s : ℝ, 0 < s ∧ Ideal.ofBits .f32 897988541#32 = (s : EReal) := by
    refine ⟨_, ?_, by simp [Ideal.ofBits, Ideal.ieee, -EReal.coe_mul]; rfl⟩
    norm_num
  refine rsqrt_re (r := r * (1024)⁻¹ + s) (by positivity) ?_
  rw [e, e1, e2, Ideal.div, if_neg (by norm_num), ← EReal.coe_inv, ← EReal.coe_mul, ← EReal.coe_add]

theorem scale_re : Re (Ideal.ofBits .f32 0x3DB504F3#32) :=
  ⟨_, by simp [Ideal.ofBits, Ideal.ieee, -EReal.coe_mul]; rfl⟩

end Cert.Attn
-- ==== Proof.Cross.Ker.lean ====
module

public import proofs.«01_k».proof.Proof.Gen.CrossIdeal.Value
public import proofs.«01_k».proof.Proof.Attn.Soft
public import Idealize.ShloMosaic.Lib.Pipeline.ValueKit
public import Idealize.ShloMosaic.Lib.Pointwise
public import Idealize.ShloMosaic.Lib.Claim

@[expose] public section

set_option maxRecDepth 16384

noncomputable section

/-! Cross attention over the memory: what the kernel's body computes from its blocks, entry by entry. -/

namespace Cert.CrossIdeal.Proved

open Cert.CrossIdeal Cert.CrossIdeal.Gen Idealize.ShloMosaic Idealize.ShloMosaic.TcCoe Idealize.SL.Sem Cert.Attn

section
variable (x : Vec Ideal S1x256x1024 .f32) (g : Vec Ideal S1x1024 .f32) (wq : Vec Ideal S1024x512 .bf16)

/-- A row's query entry. -/
def qry (r : Fin 256) (j : Fin 512) : EReal :=
  ∑ k, x (ix3 0 r k) * Ideal.rsqrt (Ideal.div (∑ k, x (ix3 0 r k) * x (ix3 0 r k)) (Ideal.ofBits .f32 1149239296#32)
          + Ideal.ofBits .f32 897988541#32) * g (ix2 0 k) * wq (ix2 k j)

theorem q_at (r : Fin 256) (j : Fin 512) : k0_pay2 x g wq (ix2 r j) = qry x g wq r j := by
  pointwise [k0_pay2, k0_pay1, qry]

end

variable (q : FVec Ideal S256x512 .f32) (k v : Vec Ideal S1x256x128 .f32)

/-- A row's score of memory slot `s`, from the query's lanes starting at `o`. -/
def sco (o : Fin 4) (r s : Fin 256) : EReal :=
  (∑ d : Fin 128, q (ix2 r ⟨o.val * 128 + d.val, by omega⟩) * k (ix3 0 s d)) * Ideal.ofBits .f32 0x3DB504F3#32

/-- A row's output entry for a head. -/
def hout (o : Fin 4) (r : Fin 256) (d : Fin 128) : EReal :=
  Ideal.div (∑ s, Ideal.exp (sco q k o r s - Finset.univ.sup (sco q k o r)) * v (ix3 0 s d))
    (∑ s, Ideal.exp (sco q k o r s - Finset.univ.sup (sco q k o r)))

theorem h1_at (r : Fin 256) (d : Fin 128) : k0_pay7 q k v (ix2 r d) = hout q k v 1 r d := by
  pointwise [k0_pay7, hout, sco]
  simp only [fold_max]
  rfl

theorem h0_at (x : Vec Ideal S1x256x1024 .f32) (g : Vec Ideal S1x1024 .f32) (wq : Vec Ideal S1024x512 .bf16) (r : Fin 256) (d : Fin 128) :
    k0_pay6 (k0_pay3 v) (k0_pay4 x g wq k) (k0_pay5 x g wq k) (constant S256x128 .f32 0x00000000#32) (ix2 r d) = hout (k0_pay2 x g wq) k v 0 r d := by
  pointwise [k0_pay6, k0_pay5, k0_pay4, k0_pay3]
  generalize k0_pay2 x g wq = q
  have e : ∀ j : Fin 128, (⟨j.val, by omega⟩ : Fin 512) = ⟨(0 : Fin 4).val * 128 + j.val, by have : (0 : Fin 4).val = 0 := rfl; omega⟩ :=
    fun j => Fin.ext (by have : (0 : Fin 4).val = 0 := rfl; simp only [this]; omega)
  simp only [fold_max, e]
  rfl

/-- A sum over the four heads' entries side by side. -/
theorem sum_heads (f0 f1 f2 f3 : Fin 128 → EReal) (w : Fin 512 → EReal) :
    ∑ e : Fin 512, (if h : e.val < 128 then f0 ⟨e.val, h⟩ else if h : e.val - 128 < 128 then f1 ⟨e.val - 128, h⟩
      else if h : e.val - 128 - 128 < 128 then f2 ⟨e.val - 128 - 128, h⟩ else f3 ⟨e.val - 128 - 128 - 128, by omega⟩) * w e
      = ∑ h : Fin 4, ∑ d : Fin 128, ![f0, f1, f2, f3] h d * w ⟨h.val * 128 + d.val, by omega⟩ := by
  rw [Fin.sum_univ_tiles 4 128 rfl]
  refine Finset.sum_congr rfl fun h _ => Finset.sum_congr rfl fun d _ => ?_
  congr 1
  fin_cases h <;> simp <;> (try split_ifs) <;> (try omega) <;> congr 1 <;> exact Fin.ext (by dsimp only; omega)

theorem out_at (x : Vec Ideal S1x256x1024 .f32) (o0 o1 : FVec Ideal S256x128 .f32) (k2 v2 k3 v3 : Vec Ideal S1x256x128 .f32)
    (wo : Vec Ideal S512x1024 .bf16) (r : Fin 256) (d : Fin 1024) :
    k0_pay11 (k0_pay1 x) q o0 o1 (k0_pay8 v2) (k0_pay9 q k2) (k0_pay10 q k2) k3 v3 wo (ix3 0 r d)
      = x (ix3 0 r d) + ∑ h : Fin 4, ∑ j : Fin 128, ![fun j => o0 (ix2 r j), fun j => o1 (ix2 r j), hout q k2 v2 2 r, hout q k3 v3 3 r] h j
          * wo (ix2 ⟨h.val * 128 + j.val, by omega⟩ d) := by
  rw [← sum_heads (fun j => o0 (ix2 r j)) (fun j => o1 (ix2 r j)) (hout q k2 v2 2 r) (hout q k3 v3 3 r) fun e => wo (ix2 e d)]
  pointwise [k0_pay11, k0_pay10, k0_pay9, k0_pay8, k0_pay1]
  simp only [fold_max]
  rfl

end Cert.CrossIdeal.Proved
-- ==== Proof.Cross.Ref.lean ====
module

public import proofs.«01_k».proof.Proof.Gen.CrossRefIdeal.Read
public import proofs.«01_k».proof.Proof.Attn.Soft
public import Idealize.ShloMosaic.Lib.Pipeline.ValueKit
public import Idealize.ShloMosaic.Lib.Pointwise
public import Idealize.ShloMosaic.Lib.Claim

@[expose] public section

set_option maxRecDepth 16384

noncomputable section

/-! Cross attention over the memory: what the reference computes, entry by entry. -/

namespace Cert.CrossRefIdeal

open Cert.CrossRefIdeal.Gen Cert.CrossRefIdeal.Read Cert.Attn Idealize.ShloMosaic

variable (x : FVec Ideal S16x2048x1024 .f32) (kv : FVec Ideal S16x256x2x4x128 .f32) (g : FVec Ideal S1024 .f32)
  (wq : FVec Ideal S1024x512 .f32) (wo : FVec Ideal S512x1024 .f32)

/-- A token's normalised entry. -/
def nrm (b : Fin 16) (t : Fin 2048) (k : Fin 1024) : EReal :=
  x (ix3 b t k) * Ideal.rsqrt (Ideal.div (∑ k, x (ix3 b t k) * x (ix3 b t k)) (Ideal.ofBits .f32 1149239296#32)
          + Ideal.ofBits .f32 897988541#32) * g (ix1 k)

/-- A query's entry: column `j` of the product with `w_cq`. -/
def qry (b : Fin 16) (t : Fin 2048) (j : Fin 512) : EReal := ∑ k, nrm x g b t k * wq (ix2 k j)

/-- Column of head `h`, entry `d`. -/
abbrev col (h : Fin 4) (d : Fin 128) : Fin 512 := ⟨h.val * 128 + d.val, by omega⟩

/-- The score of memory slot `s` for head `h`. -/
def sco (b : Fin 16) (t : Fin 2048) (h : Fin 4) (s : Fin 256) : EReal :=
  (∑ d, qry x g wq b t (col h d) * kv (ix5 b s 0 h d)) * Ideal.ofBits .f32 0x3DB504F3#32

theorem v12_at (b : Fin 16) (t : Fin 2048) (k : Fin 1024) : val_main_v12 (F := Ideal) x g (ix3 b t k) = nrm x g b t k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, nrm]

theorem v14_at (b : Fin 16) (t : Fin 2048) (h : Fin 4) (d : Fin 128) : val_main_v14 (F := Ideal) x g wq (ix4 b t h d) = qry x g wq b t (col h d) := by
  pointwise [val_main_v14, val_main_v13, v12_at, qry]

theorem v19_at (b : Fin 16) (h : Fin 4) (t : Fin 2048) (s : Fin 256) : val_main_v19 (F := Ideal) x kv g wq (ix4 b h t s) = sco x kv g wq b t h s := by
  pointwise [val_main_v19, val_main_v18, val_main_cst_2, val_main_v17, val_main_v16, val_main_v15, v14_at, sco]

/-- The greatest score, read from any array of scores. -/
theorem max_at (y : FVec Ideal S16x4x2048x256 .f32) (b : Fin 16) (h : Fin 4) (t : Fin 2048) :
    Host.reduce FloatOps.maximumf y (constant S_ .f32 0xFF800000#32) reducesTo_S16x4x2048x256_S16x4x2048_d3 h_S_ (ix3 b h t)
      = Finset.univ.sup fun s => y (ix4 b h t s) := by
  pointwise
  exact fold_max _ _

theorem v20_at (b : Fin 16) (h : Fin 4) (t : Fin 2048) : val_main_v20 (F := Ideal) x kv g wq (ix3 b h t) = Finset.univ.sup (sco x kv g wq b t h) := by
  unfold val_main_v20 val_main_cst_3
  rw [max_at]
  exact congrArg _ (funext fun s => v19_at x kv g wq b h t s)

theorem v22_at (b : Fin 16) (h : Fin 4) (t : Fin 2048) : val_main_v22 (F := Ideal) x kv g wq (ix3 b h t) = Finset.univ.sup (sco x kv g wq b t h) := by
  rw [val_main_v22_apply, v20_at, val_main_v21_apply, val_main_cst_4_apply]
  exact max_neg_inf _

theorem v30_at (b : Fin 16) (h : Fin 4) (t : Fin 2048) (s : Fin 256) : val_main_v30 (F := Ideal) x kv g wq (ix4 b h t s)
    = Ideal.div (Ideal.exp (sco x kv g wq b t h s - Finset.univ.sup (sco x kv g wq b t h)))
        (∑ s, Ideal.exp (sco x kv g wq b t h s - Finset.univ.sup (sco x kv g wq b t h))) := by
  pointwise [val_main_v30, val_main_v29, val_main_v28, val_main_v27, val_main_cst_5, val_main_v26, val_main_v25, val_main_v24, val_main_v23, v22_at, v19_at]

theorem v37_at (b : Fin 16) (t : Fin 2048) (d : Fin 1024) : val_main_v37 (F := Ideal) x kv g wq wo (ix3 b t d) = x (ix3 b t d) +
    ∑ e : Fin 512, (∑ s, kv (ix5 b s 1 ⟨e.val / 128, by omega⟩ ⟨e.val % 128, by omega⟩)
      * val_main_v30 (F := Ideal) x kv g wq (ix4 b ⟨e.val / 128, by omega⟩ t s)) * wo (ix2 e d) := by
  pointwise [val_main_v37, val_main_v36, val_main_v35, val_main_v34, val_main_v33, val_main_v32, val_main_v31]

end Cert.CrossRefIdeal
-- ==== Proof.Cross.Value.lean ====
module

public import proofs.«01_k».proof.Proof.Gen.Pre_cross_finite
public import proofs.«01_k».proof.Proof.Attn.Finite
public import proofs.«01_k».proof.Proof.Cross.Ker
public import proofs.«01_k».proof.Proof.Cross.Ref

@[expose] public section

set_option maxRecDepth 16384

noncomputable section

/-! Cross attention over the memory: the kernel's result is the reference's, one block of 256 tokens at each grid point. -/

namespace Cert.CrossRefIdeal

open Cert.CrossRefIdeal.Gen Cert.CrossRefIdeal.Read Cert.Attn Idealize.ShloMosaic

variable (x : FVec Ideal S16x2048x1024 .f32) (kv : FVec Ideal S16x256x2x4x128 .f32) (g : FVec Ideal S1024 .f32)
  (wq : FVec Ideal S1024x512 .f32) (wo : FVec Ideal S512x1024 .f32)

/-- The precondition: the normalised tokens' factors, the keys and the query weights are real numbers. -/
structure Fin4 : Prop where
  hx : ∀ i, Re (x i)
  hk : ∀ (b : Fin 16) (s : Fin 256) (h : Fin 4) (d : Fin 128), Re (kv (ix5 b s 0 h d))
  hg : ∀ i, Re (g i)
  hw : ∀ i, Re (wq i)

theorem fin4_of_pre (h : Cert.Pre_cross_finite.fn (F := Ideal) x kv g wq wo = fun _ => 1#1) : Fin4 x kv g wq := by
  have e := congrFun h ix0
  unfold Cert.Pre_cross_finite.fn Cert.Pre_cross_finite.fn_part1 at e
  obtain ⟨e', e4⟩ := and_one.mp e
  obtain ⟨e'', e3⟩ := and_one.mp e'
  obtain ⟨e1, e2⟩ := and_one.mp e''
  have k1 := Host.reduce_andi_all _ _ _ _ _ e1
  have k2 := Host.reduce_andi_all _ _ _ _ _ e2
  have k3 := Host.reduce_andi_all _ _ _ _ _ e3
  have k4 := Host.reduce_andi_all _ _ _ _ _ e4
  refine ⟨fun i => re_of_test (k1 i), fun b s h d => ?_, fun i => re_of_test (k3 i), fun i => re_of_test (k4 i)⟩
  have k := re_of_test (k2 (ix4 b s h d))
  revert k
  pointwise
  exact id

variable {x kv g wq}

theorem sco_re (hp : Fin4 x kv g wq) (b : Fin 16) (t : Fin 2048) (h : Fin 4) (s : Fin 256) : Re (sco x kv g wq b t h s) := by
  refine (Re.sum _ fun d _ => Re.mul (Re.sum _ fun k _ => Re.mul (Re.mul (Re.mul (hp.hx _) ?_) (hp.hg _)) (hp.hw _)) (hp.hk b s h d)).mul scale_re
  exact rms_re (x := fun k => x (ix3 b t k)) fun k => hp.hx _

/-- The reference's output for a head: weights divided first, then summed. -/
def rout (x : FVec Ideal S16x2048x1024 .f32) (kv : FVec Ideal S16x256x2x4x128 .f32) (g : FVec Ideal S1024 .f32)
    (wq : FVec Ideal S1024x512 .f32) (b : Fin 16) (t : Fin 2048) (h : Fin 4) (d : Fin 128) : EReal :=
  ∑ s, kv (ix5 b s 1 h d) * val_main_v30 (F := Ideal) x kv g wq (ix4 b h t s)

theorem rout_eq (hp : Fin4 x kv g wq) (b : Fin 16) (t : Fin 2048) (h : Fin 4) (d : Fin 128) :
    rout x kv g wq b t h d = Ideal.div (∑ s, Ideal.exp (sco x kv g wq b t h s - Finset.univ.sup (sco x kv g wq b t h)) * kv (ix5 b s 1 h d))
      (∑ s, Ideal.exp (sco x kv g wq b t h s - Finset.univ.sup (sco x kv g wq b t h))) := by
  have hS : ∀ j ∈ (Finset.univ : Finset (Fin 256)), Re (sco x kv g wq b t h j) := fun j _ => sco_re hp b t h j
  refine Eq.trans ?_ (att_of_sum (A := Finset.univ) (S := sco x kv g wq b t h) (v := fun s => kv (ix5 b s 1 h d)) (fun _ => True) id
    ⟨0, Finset.mem_univ _⟩ hS (fun _ _ => rfl) (fun _ h => absurd trivial h) (fun _ _ => Finset.mem_univ _) (fun _ _ _ _ e => e)
    (fun j _ => ⟨j, trivial, rfl⟩) fun _ _ => rfl).symm
  refine Eq.trans ?_ (att_of_div (A := Finset.univ) (S := sco x kv g wq b t h) (v := fun s => kv (ix5 b s 1 h d)) (fun _ => True) id
    ⟨0, Finset.mem_univ _⟩ hS (fun _ _ => rfl) (fun _ h => absurd trivial h) (fun _ _ => Finset.mem_univ _) (fun _ _ _ _ e => e)
    (fun j _ => ⟨j, trivial, rfl⟩) fun _ _ => rfl)
  unfold rout
  refine Finset.sum_congr rfl fun s _ => ?_
  rw [v30_at, if_pos trivial, mul_comm]; rfl

theorem ref_at (wo : FVec Ideal S512x1024 .f32) (b : Fin 16) (t : Fin 2048) (d : Fin 1024) : val_main_v37 (F := Ideal) x kv g wq wo (ix3 b t d)
    = x (ix3 b t d) + ∑ h : Fin 4, ∑ j : Fin 128, rout x kv g wq b t h j * wo (ix2 (col h j) d) := by
  rw [v37_at, Fin.sum_univ_tiles 4 128 rfl]
  refine congrArg _ (Finset.sum_congr rfl fun h _ => Finset.sum_congr rfl fun j _ => ?_)
  have e1 : (⟨(h.val * 128 + j.val) / 128, by omega⟩ : Fin 4) = h := Fin.ext (by dsimp only; omega)
  have e2 : (⟨(h.val * 128 + j.val) % 128, by omega⟩ : Fin 128) = j := Fin.ext (by dsimp only; omega)
  show (∑ s, kv (ix5 b s 1 ⟨(h.val * 128 + j.val) / 128, _⟩ ⟨(h.val * 128 + j.val) % 128, _⟩) *
    val_main_v30 (F := Ideal) x kv g wq (ix4 b ⟨(h.val * 128 + j.val) / 128, _⟩ t s)) * _ = _
  rw [e1, e2]; rfl

end Cert.CrossRefIdeal

namespace Cert.CrossIdeal.Proved

open Cert.CrossIdeal Cert.CrossIdeal.Gen Idealize.ShloMosaic Idealize.ShloMosaic.TcCoe Idealize.SL.Sem Cert.Attn
open Idealize.ShloMosaic.Pipeline (Dat)

theorem hout_eq {x : FVec Ideal S16x2048x1024 .f32} {kv : FVec Ideal S16x256x2x4x128 .f32} {g : FVec Ideal S1024 .f32}
    {wq : FVec Ideal S1024x512 .f32} (hp : Cert.CrossRefIdeal.Fin4 x kv g wq) (q : FVec Ideal S256x512 .f32) (k v : Vec Ideal S1x256x128 .f32)
    (b : Fin 16) (t : Fin 2048) (h : Fin 4) (r : Fin 256) (d : Fin 128) (eq : ∀ j, q (ix2 r j) = Cert.CrossRefIdeal.qry x g wq b t j)
    (ek : ∀ s d, k (ix3 0 s d) = kv (ix5 b s 0 h d)) (ev : ∀ s d, v (ix3 0 s d) = kv (ix5 b s 1 h d)) :
    hout q k v h r d = Cert.CrossRefIdeal.rout x kv g wq b t h d := by
  have es : sco q k h r = Cert.CrossRefIdeal.sco x kv g wq b t h := funext fun s => by
    unfold sco Cert.CrossRefIdeal.sco; simp only [eq, ek]
  rw [Cert.CrossRefIdeal.rout_eq hp, hout, es]; simp only [ev]

variable (m : (ℓ : Loc nD τ sig) → Buf (Elt Ideal) ℓ)

theorem idx : ∀ t : Fin cfg0.N, win0_0.index t = ![t.val / 8, t.val % 8, 0] ∧ win0_1.index t = ![t.val / 8, 0, 0] ∧ win0_2.index t = ![0, 0]
    ∧ win0_3.index t = ![0, 0] ∧ win0_4.index t = ![0, 0] ∧ win0_5.index t = ![t.val / 8, t.val % 8, 0] :=
  (by decide +kernel : ∀ t : Fin grid0.N, _)

/-- The batch of point `t`. -/
abbrev bt (t : Fin cfg0.N) : Fin 16 := ⟨t.val / 8, by have := t.isLt; change _ < 128 at this; omega⟩
/-- The token of row `r` at point `t`. -/
abbrev tk (t : Fin cfg0.N) (r : Fin 256) : Fin 2048 := ⟨t.val % 8 * 256 + r.val, by omega⟩

theorem emb0 (t : Fin cfg0.N) (r : Fin 256) (k : Fin 1024) : ((cfg0.win 0).blk t).view.emb (ix3 0 r k) = (ix3 (bt t) (tk t r) k : S16x2048x1024.Idx) := by
  blk_ext [idx t]
theorem emb1 (t : Fin cfg0.N) (s : Fin 256) (k : Fin 1024) : ((cfg0.win 1).blk t).view.emb (ix3 0 s k) = (ix3 (bt t) s k : S16x256x1024.Idx) := by
  blk_ext [idx t]
theorem emb2 (t : Fin cfg0.N) (k : Fin 1024) : ((cfg0.win 2).blk t).view.emb (ix2 0 k) = (ix2 0 k : S1x1024.Idx) := by
  blk_ext [idx t]
theorem emb3 (t : Fin cfg0.N) (k : Fin 1024) (d : Fin 512) : ((cfg0.win 3).blk t).view.emb (ix2 k d) = (ix2 k d : S1024x512.Idx) := by
  blk_ext [idx t]
theorem emb4 (t : Fin cfg0.N) (k : Fin 512) (d : Fin 1024) : ((cfg0.win 4).blk t).view.emb (ix2 k d) = (ix2 k d : S512x1024.Idx) := by
  blk_ext [idx t]
theorem emb5 (t : Fin cfg0.N) (r : Fin 256) (k : Fin 1024) : ((cfg0.win 5).blk t).view.emb (ix3 0 r k) = (ix3 (bt t) (tk t r) k : S16x2048x1024.Idx) := by
  blk_ext [idx t]

theorem blk0 (c : Dev nD) (t : Fin cfg0.N) (r : Fin 256) (k : Fin 1024) : iblk m c 0 t (ix3 0 r k)
    = m ((c : Thread nD τ).loc main_arg0) (ix3 (bt t) (tk t r) k) := by
  have hV : iblk m c 0 t (ix3 0 r k) = V m c main_arg0 (((cfg0.win 0).blk t).view.emb (ix3 0 r k)) := rfl
  rw [hV, emb0, V_main_arg0]

/-- The memory's entry at column `k` of its flat rows. -/
theorem blk1 (c : Dev nD) (t : Fin cfg0.N) (s : Fin 256) (k : Fin 1024) : iblk m c 1 t (ix3 0 s k)
    = m ((c : Thread nD τ).loc main_arg1) (ix5 (bt t) s ⟨k.val / 512, by omega⟩ ⟨k.val / 128 % 4, by omega⟩ ⟨k.val % 128, by omega⟩) := by
  have hV : iblk m c 1 t (ix3 0 s k) = V m c main_v0 (((cfg0.win 1).blk t).view.emb (ix3 0 s k)) := rfl
  rw [hV, emb1]; entry_read; pointwise
  try blk_ext

/-- The same by half, head and entry. -/
theorem blk1_at (c : Dev nD) (t : Fin cfg0.N) (s : Fin 256) (a : Fin 2) (h : Fin 4) (d : Fin 128) (k : Fin 1024)
    (e : k.val = a.val * 512 + h.val * 128 + d.val) : iblk m c 1 t (ix3 0 s k) = m ((c : Thread nD τ).loc main_arg1) (ix5 (bt t) s a h d) := by
  rw [blk1]
  have e1 : (⟨k.val / 512, by omega⟩ : Fin 2) = a := Fin.ext (by dsimp only; omega)
  have e2 : (⟨k.val / 128 % 4, by omega⟩ : Fin 4) = h := Fin.ext (by dsimp only; omega)
  have e3 : (⟨k.val % 128, by omega⟩ : Fin 128) = d := Fin.ext (by dsimp only; omega)
  rw [e1, e2, e3]

theorem blk2 (c : Dev nD) (t : Fin cfg0.N) (k : Fin 1024) : iblk m c 2 t (ix2 0 k)
    = m ((c : Thread nD τ).loc main_arg2) (ix1 k) := by
  have hV : iblk m c 2 t (ix2 0 k) = V m c main_v3 (((cfg0.win 2).blk t).view.emb (ix2 0 k)) := rfl
  rw [hV, emb2]; entry_read; pointwise

theorem blk3 (c : Dev nD) (t : Fin cfg0.N) (k : Fin 1024) (d : Fin 512) : iblk m c 3 t (ix2 k d)
    = m ((c : Thread nD τ).loc main_arg3) (ix2 k d) := by
  have hV : iblk m c 3 t (ix2 k d) = V m c main_v1 (((cfg0.win 3).blk t).view.emb (ix2 k d)) := rfl
  rw [hV, emb3]; entry_read; pointwise

theorem blk4 (c : Dev nD) (t : Fin cfg0.N) (k : Fin 512) (d : Fin 1024) : iblk m c 4 t (ix2 k d)
    = m ((c : Thread nD τ).loc main_arg4) (ix2 k d) := by
  have hV : iblk m c 4 t (ix2 k d) = V m c main_v2 (((cfg0.win 4).blk t).view.emb (ix2 k d)) := rfl
  rw [hV, emb4]; entry_read; pointwise

/-- The result array after the run is the reference's result, where the precondition holds. -/
theorem final (c : Dev nD) (hp : Cert.CrossRefIdeal.Fin4 (m ((c : Thread nD τ).loc main_arg0)) (m ((c : Thread nD τ).loc main_arg1))
      (m ((c : Thread nD τ).loc main_arg2)) (m ((c : Thread nD τ).loc main_arg3))) : (dats m 0 c).arrAt 5 (cfgs 0).N
    = Cert.CrossRefIdeal.Read.val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨r, d, rfl⟩ : ∃ (r : Fin 256) (d : Fin 1024), y = ix3 0 r d :=
    ⟨y 1, y 2, by rw [eq_ix3 y]; congr 1; exact Subsingleton.elim (α := Fin 1) _ _⟩
  rw [emb5]
  refine Eq.trans ?_ (Cert.CrossRefIdeal.ref_at _ (bt t) (tk t r) d).symm
  blk_simp
  rw [after0_5]; frame_out
  have eq0 : ∀ j, k0_pay2 (iblk m c 0 t) (iblk m c 2 t) (iblk m c 3 t) (ix2 r j)
      = Cert.CrossRefIdeal.qry (m ((c : Thread nD τ).loc main_arg0)) (m ((c : Thread nD τ).loc main_arg2)) (m ((c : Thread nD τ).loc main_arg3)) (bt t) (tk t r) j := fun j => by
    rw [q_at]; unfold qry Cert.CrossRefIdeal.qry Cert.CrossRefIdeal.nrm; simp only [blk0, blk2, blk3]
  have eq : ∀ j, k0_pay12 (iblk m c 0 t) (iblk m c 1 t) (iblk m c 2 t) (iblk m c 3 t) (iblk m c 4 t) (ix2 r j)
      = Cert.CrossRefIdeal.qry (m ((c : Thread nD τ).loc main_arg0)) (m ((c : Thread nD τ).loc main_arg2)) (m ((c : Thread nD τ).loc main_arg3)) (bt t) (tk t r) j := fun j => by
    unfold k0_pay12
    frame_out
    exact eq0 j
  refine (out_at _ _ _ _ _ _ _ _ _ r d).trans ?_
  rw [blk0]
  refine congrArg _ (Finset.sum_congr rfl fun h _ => Finset.sum_congr rfl fun j _ => ?_)
  rw [blk4]
  congr 1
  fin_cases h
  · refine (h0_at _ _ _ _ _ r j).trans (hout_eq hp _ _ _ (bt t) (tk t r) 0 r j eq0 (fun s d => ?_) fun s d => ?_) <;> pointwise
    · exact blk1_at m c t s 0 0 d _ (by simp)
    · exact blk1_at m c t s 1 0 d _ (by simp)
  · refine (h1_at _ _ _ r j).trans (hout_eq hp _ _ _ (bt t) (tk t r) 1 r j eq (fun s d => ?_) fun s d => ?_) <;> pointwise
    · exact blk1_at m c t s 0 1 d _ (by simp)
    · exact blk1_at m c t s 1 1 d _ (by simp)
  · refine hout_eq hp _ _ _ (bt t) (tk t r) 2 r j eq (fun s d => ?_) fun s d => ?_ <;> pointwise
    · exact blk1_at m c t s 0 2 d _ (by simp)
    · exact blk1_at m c t s 1 2 d _ (by simp)
  · refine hout_eq hp _ _ _ (bt t) (tk t r) 3 r j eq (fun s d => ?_) fun s d => ?_ <;> pointwise
    · exact blk1_at m c t s 0 3 d _ (by simp)
    · exact blk1_at m c t s 1 3 d _ (by simp)

end Cert.CrossIdeal.Proved
-- ==== Proof.Claims.Cross.lean ====
module

public import proofs.«01_k».proof.Defs
public import proofs.«01_k».proof.Proof.Gen.Cross.Frame
public import proofs.«01_k».proof.Proof.Gen.CrossRefIdeal.Run
public import proofs.«01_k».proof.Proof.Gen.CrossRefIdeal.Read
public import proofs.«01_k».proof.Proof.Gen.Pre_cross_finite
public import proofs.«01_k».proof.Proof.Cross.Value
public import Idealize.ShloMosaic.Lib.Claim
public import Idealize.ShloMosaic.Adequacy
public import Idealize.ShloMosaic.Init

@[expose] public section

noncomputable section

namespace Cert.Proof

open Idealize.ShloMosaic Idealize.SL.Sem

theorem frame_cross : Cert.quiescent_Cross := fun m ρ _ => Cert.Cross.Gen.frame m ρ

theorem frame_cross_ideal : Cert.quiescent_CrossIdeal := fun m ρ _ => Cert.CrossIdeal.Gen.frame m ρ

theorem frame_cross_ref : Cert.quiescent_CrossRefIdeal :=
  fun m ρ _ => (θ_run Cert.CrossRefIdeal.defs _ _).mono
    (fun r h => ⟨fun c => (h c).2, Idealize.ShloMosaic.sem_eq_zero_of_no_sems (by decide) r.2⟩)
    (Cert.CrossRefIdeal.Value.run m ρ)

theorem frame_cross_ideal_pre : Cert.quiescent_CrossIdeal_pre_cross_finite := fun m ρ _ => Cert.CrossIdeal.Gen.frame m ρ

theorem frame_cross_ref_pre : Cert.quiescent_CrossRefIdeal_pre_cross_finite :=
  fun m ρ _ => (θ_run Cert.CrossRefIdeal.defs _ _).mono
    (fun r h => ⟨fun c => (h c).2, Idealize.ShloMosaic.sem_eq_zero_of_no_sems (by decide) r.2⟩)
    (Cert.CrossRefIdeal.Value.run m ρ)

theorem algebraic_cross : Cert.algebraic_CrossIdeal_CrossRefIdeal_pre_cross_finite := by
  pair_intro
  · run_from Cert.CrossIdeal.Gen.run_main m g
  · refine (θ_run Cert.CrossRefIdeal.defs _ _).mono (fun r h c => ?_) (Cert.CrossRefIdeal.Value.run m' g')
    obtain ⟨a0, a1, a2, a3, a4⟩ := hagree c
    refine ⟨(h c).1.trans ((Cert.CrossRefIdeal.Read.val_main_v37_eq m' c).trans (Eq.trans ?_ (Cert.CrossIdeal.Proved.final m c (Cert.CrossRefIdeal.fin4_of_pre _ _ _ _ _ (hpre c))).symm)), (h c).2⟩
    exact congr (congr (congr (congr (congrArg (Cert.CrossRefIdeal.Read.val_main_v37 (F := Ideal)) a0) a1) a2) a3) a4

end Cert.Proof

end
-- ==== Proof.Merge.Value.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

/-! The merge: two gated products added, times `w_o`, on top of the residual; one block of 256 rows at each grid point. -/

namespace Cert.MergeRefIdeal

open Cert.MergeRefIdeal.Gen Idealize.ShloMosaic

/-- What the reference computes from its eight arguments. -/
def REF (x : FVec Ideal S16x2048x1024 .f32) (oa ob : FVec Ideal S16x2048x8x64 .f32) (ga gb : FVec Ideal S16x2048x1024 .f32)
    (pa pb : FVec Ideal S512x1024 .f32) (wo : FVec Ideal S1024x1024 .f32) : FVec Ideal S32768x1024 .f32 :=
  shapeCast S32768x1024 (addf x (Host.dotGeneral dot_S16x2048x1024_S1024x1024_S16x2048x1024_2_0_01_1_n_n none (addf (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf ga)))) (Host.dotGeneral dot_S16x2048x512_S512x1024_S16x2048x1024_2_0_01_1_n_n none (shapeCast S16x2048x512 oa shapeCasts_S16x2048x8x64_S16x2048x512) pa)) (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf gb)))) (Host.dotGeneral dot_S16x2048x512_S512x1024_S16x2048x1024_2_0_01_1_n_n none (shapeCast S16x2048x512 ob shapeCasts_S16x2048x8x64_S16x2048x512) pb))) wo)) shapeCasts_S16x2048x1024_S32768x1024

/-- Row `n`'s batch. -/
abbrev bt (n : Fin 32768) : Fin 16 := ⟨n.val / 2048, by omega⟩
/-- Row `n`'s token. -/
abbrev tk (n : Fin 32768) : Fin 2048 := ⟨n.val % 2048, by omega⟩
/-- Column `k`'s head. -/
abbrev hd (k : Fin 512) : Fin 8 := ⟨k.val / 64, by omega⟩
/-- Column `k`'s entry in its head. -/
abbrev en (k : Fin 512) : Fin 64 := ⟨k.val % 64, by omega⟩

/-- A gated product's entry. -/
abbrev gated (o : FVec Ideal S16x2048x8x64 .f32) (g : FVec Ideal S16x2048x1024 .f32) (p : FVec Ideal S512x1024 .f32)
    (n : Fin 32768) (j : Fin 1024) : EReal :=
  Ideal.div 1 (1 + Ideal.exp (-g (ix3 (bt n) (tk n) j))) * ∑ k : Fin 512, o (ix4 (bt n) (tk n) (hd k) (en k)) * p (ix2 k j)

theorem REF_at (x : FVec Ideal S16x2048x1024 .f32) (oa ob : FVec Ideal S16x2048x8x64 .f32) (ga gb : FVec Ideal S16x2048x1024 .f32)
    (pa pb : FVec Ideal S512x1024 .f32) (wo : FVec Ideal S1024x1024 .f32) (n : Fin 32768) (d : Fin 1024) :
    REF x oa ob ga gb pa pb wo (ix2 n d) = x (ix3 (bt n) (tk n) d)
      + ∑ j : Fin 1024, (gated oa ga pa n j + gated ob gb pb n j) * wo (ix2 j d) := by
  pointwise [REF]

end Cert.MergeRefIdeal

namespace Cert.MergeIdeal.Proved

open Cert.MergeIdeal Cert.MergeIdeal.Gen Idealize.ShloMosaic Idealize.ShloMosaic.TcCoe Idealize.SL.Sem
open Idealize.ShloMosaic.Pipeline (Dat)
open Cert.MergeRefIdeal (bt tk hd en)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

/-- Row `y` of block `t`. -/
abbrev row (t : Fin cfg0.N) (y : Fin 256) : Fin 32768 :=
  ⟨t.val * 256 + y.val, by have := t.isLt; change _ < 128 at this; omega⟩

theorem emb0 (t : Fin cfg0.N) (y : Fin 256) (k : Fin 1024) : ((cfg0.win 0).blk t).view.emb (ix2 y k) = (ix2 (row t y) k : S32768x1024.Idx) := by
  blk_ext [idx t]
theorem emb1 (t : Fin cfg0.N) (y : Fin 256) (k : Fin 512) : ((cfg0.win 1).blk t).view.emb (ix2 y k) = (ix2 (row t y) k : S32768x512.Idx) := by
  blk_ext [idx t]
theorem emb2 (t : Fin cfg0.N) (y : Fin 256) (k : Fin 512) : ((cfg0.win 2).blk t).view.emb (ix2 y k) = (ix2 (row t y) k : S32768x512.Idx) := by
  blk_ext [idx t]
theorem emb3 (t : Fin cfg0.N) (y : Fin 256) (k : Fin 1024) : ((cfg0.win 3).blk t).view.emb (ix2 y k) = (ix2 (row t y) k : S32768x1024.Idx) := by
  blk_ext [idx t]
theorem emb4 (t : Fin cfg0.N) (y : Fin 256) (k : Fin 1024) : ((cfg0.win 4).blk t).view.emb (ix2 y k) = (ix2 (row t y) k : S32768x1024.Idx) := by
  blk_ext [idx t]
theorem emb5 (t : Fin cfg0.N) (k : Fin 512) (d : Fin 1024) : ((cfg0.win 5).blk t).view.emb (ix2 k d) = (ix2 k d : S512x1024.Idx) := by
  blk_ext [idx t]
theorem emb6 (t : Fin cfg0.N) (k : Fin 512) (d : Fin 1024) : ((cfg0.win 6).blk t).view.emb (ix2 k d) = (ix2 k d : S512x1024.Idx) := by
  blk_ext [idx t]
theorem emb7 (t : Fin cfg0.N) (k d : Fin 1024) : ((cfg0.win 7).blk t).view.emb (ix2 k d) = (ix2 k d : S1024x1024.Idx) := by
  blk_ext [idx t]
theorem emb8 (t : Fin cfg0.N) (y : Fin 256) (k : Fin 1024) : ((cfg0.win 8).blk t).view.emb (ix2 y k) = (ix2 (row t y) k : S32768x1024.Idx) := by
  blk_ext [idx t]

theorem blk0 (c : Dev nD) (t : Fin cfg0.N) (y : Fin 256) (k : Fin 1024) : iblk m c 0 t (ix2 y k)
    = m ((c : Thread nD τ).loc main_arg0) (ix3 (bt (row t y)) (tk (row t y)) k) := by
  have hV : iblk m c 0 t (ix2 y k) = V m c main_v0 (((cfg0.win 0).blk t).view.emb (ix2 y k)) := rfl
  rw [hV, emb0]; entry_read; pointwise

theorem blk1 (c : Dev nD) (t : Fin cfg0.N) (y : Fin 256) (k : Fin 512) : iblk m c 1 t (ix2 y k)
    = m ((c : Thread nD τ).loc main_arg1) (ix4 (bt (row t y)) (tk (row t y)) (hd k) (en k)) := by
  have hV : iblk m c 1 t (ix2 y k) = V m c main_v1 (((cfg0.win 1).blk t).view.emb (ix2 y k)) := rfl
  rw [hV, emb1]; entry_read; pointwise

theorem blk2 (c : Dev nD) (t : Fin cfg0.N) (y : Fin 256) (k : Fin 512) : iblk m c 2 t (ix2 y k)
    = m ((c : Thread nD τ).loc main_arg2) (ix4 (bt (row t y)) (tk (row t y)) (hd k) (en k)) := by
  have hV : iblk m c 2 t (ix2 y k) = V m c main_v2 (((cfg0.win 2).blk t).view.emb (ix2 y k)) := rfl
  rw [hV, emb2]; entry_read; pointwise

theorem blk3 (c : Dev nD) (t : Fin cfg0.N) (y : Fin 256) (k : Fin 1024) : iblk m c 3 t (ix2 y k)
    = m ((c : Thread nD τ).loc main_arg3) (ix3 (bt (row t y)) (tk (row t y)) k) := by
  have hV : iblk m c 3 t (ix2 y k) = V m c main_v3 (((cfg0.win 3).blk t).view.emb (ix2 y k)) := rfl
  rw [hV, emb3]; entry_read; pointwise

theorem blk4 (c : Dev nD) (t : Fin cfg0.N) (y : Fin 256) (k : Fin 1024) : iblk m c 4 t (ix2 y k)
    = m ((c : Thread nD τ).loc main_arg4) (ix3 (bt (row t y)) (tk (row t y)) k) := by
  have hV : iblk m c 4 t (ix2 y k) = V m c main_v4 (((cfg0.win 4).blk t).view.emb (ix2 y k)) := rfl
  rw [hV, emb4]; entry_read; pointwise

theorem blk5 (c : Dev nD) (t : Fin cfg0.N) (k : Fin 512) (d : Fin 1024) : iblk m c 5 t (ix2 k d)
    = m ((c : Thread nD τ).loc main_arg5) (ix2 k d) := by
  have hV : iblk m c 5 t (ix2 k d) = V m c main_v5 (((cfg0.win 5).blk t).view.emb (ix2 k d)) := rfl
  rw [hV, emb5]; entry_read; pointwise

theorem blk6 (c : Dev nD) (t : Fin cfg0.N) (k : Fin 512) (d : Fin 1024) : iblk m c 6 t (ix2 k d)
    = m ((c : Thread nD τ).loc main_arg6) (ix2 k d) := by
  have hV : iblk m c 6 t (ix2 k d) = V m c main_v6 (((cfg0.win 6).blk t).view.emb (ix2 k d)) := rfl
  rw [hV, emb6]; entry_read; pointwise

theorem blk7 (c : Dev nD) (t : Fin cfg0.N) (k d : Fin 1024) : iblk m c 7 t (ix2 k d)
    = m ((c : Thread nD τ).loc main_arg7) (ix2 k d) := by
  have hV : iblk m c 7 t (ix2 k d) = V m c main_v7 (((cfg0.win 7).blk t).view.emb (ix2 k d)) := rfl
  rw [hV, emb7]; entry_read; pointwise

/-- The result array after the run is the reference's term of the arguments. -/
theorem final (c : Dev nD) : (dats m 0 c).arrAt 8 (cfgs 0).N
    = Cert.MergeRefIdeal.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  obtain ⟨r, d, rfl⟩ : ∃ (r : Fin 256) (d : Fin 1024), y = ix2 r d := ⟨y 0, y 1, eq_ix2 y⟩
  rw [emb8]
  refine Eq.trans ?_ (Cert.MergeRefIdeal.REF_at _ _ _ _ _ _ _ _ (row t r) d).symm
  blk_simp
  rw [after0_8]; frame_out
  pointwise [k0_pay1, k0_pay2, k0_pay3]
  simp only [blk0, blk1, blk2, blk3, blk4, blk5, blk6, blk7, Cert.MergeRefIdeal.gated, sub_eq_add_neg, zero_add]

end Cert.MergeIdeal.Proved
-- ==== Proof.Claims.Merge.lean ====
module

public import proofs.«01_k».proof.Defs
public import proofs.«01_k».proof.Proof.Gen.Merge.Frame
public import proofs.«01_k».proof.Proof.Gen.MergeRefIdeal.Run
public import proofs.«01_k».proof.Proof.Merge.Value
public import Idealize.ShloMosaic.Lib.Claim
public import Idealize.ShloMosaic.Adequacy
public import Idealize.ShloMosaic.Init

@[expose] public section

noncomputable section

namespace Cert.Proof

open Idealize.ShloMosaic Idealize.SL.Sem

theorem frame_merge : Cert.quiescent_Merge := fun m ρ _ => Cert.Merge.Gen.frame m ρ

theorem frame_merge_ideal : Cert.quiescent_MergeIdeal := fun m ρ _ => Cert.MergeIdeal.Gen.frame m ρ

theorem frame_merge_ref : Cert.quiescent_MergeRefIdeal :=
  fun m ρ _ => (θ_run Cert.MergeRefIdeal.defs _ _).mono
    (fun r h => ⟨fun c => (h c).2, Idealize.ShloMosaic.sem_eq_zero_of_no_sems (by decide) r.2⟩)
    (Cert.MergeRefIdeal.Value.run m ρ)

theorem algebraic_merge : Cert.algebraic_MergeIdeal_MergeRefIdeal := by
  pair_intro
  · run_from Cert.MergeIdeal.Gen.run_main m g
  · hlo_run
    exact (Cert.MergeIdeal.Proved.final m c).symm

end Cert.Proof

end
-- ==== Proof.Proj.Rot.lean ====
module

public import Idealize.ShloMosaic.Lib.Pipeline.ValueKit
public import Idealize.ShloMosaic.Lib.Pointwise
public import Idealize.ShloMosaic.Lib.Claim

@[expose] public section

noncomputable section

/-! Rotary embedding of columns kept in heads of 64: entry `d` of a head is turned with entry `d ± 32` by the angle of `d % 32`. -/

namespace Cert.Proj

open Idealize.ShloMosaic

/-- The column a column is turned with. -/
def mate {n : ℕ} (hn : n % 64 = 0) (c : Fin n) : Fin n :=
  if h : c.val % 64 < 32 then ⟨c.val + 32, by omega⟩ else ⟨c.val - 32, by omega⟩

theorem mate_val {n : ℕ} (hn : n % 64 = 0) (c : Fin n) : (mate hn c).val = if c.val % 64 < 32 then c.val + 32 else c.val - 32 := by
  unfold mate; split_ifs <;> rfl

/-- A turned column: `x₁ cos − x₂ sin` in a head's first half, `x₂ cos + x₁ sin` in its second. -/
def rotv (L : Fin 2816 → EReal) (A : Fin 32 → EReal) (c : Fin 2816) : EReal :=
  if c.val % 64 < 32 then L c * Ideal.cos (A ⟨c.val % 32, by omega⟩) - L (mate (by decide) c) * Ideal.sin (A ⟨c.val % 32, by omega⟩)
  else L c * Ideal.cos (A ⟨c.val % 32, by omega⟩) + L (mate (by decide) c) * Ideal.sin (A ⟨c.val % 32, by omega⟩)

/-- The cosine table, which is over 128 lanes. -/
def cosT (A : Fin 32 → EReal) (l : Fin 128) : EReal := Ideal.cos (A ⟨l.val % 32, by omega⟩)
/-- The signed sine table. -/
def sinT (A : Fin 32 → EReal) (l : Fin 128) : EReal :=
  if l.val % 64 < 32 then -Ideal.sin (A ⟨l.val % 32, by omega⟩) else Ideal.sin (A ⟨l.val % 32, by omega⟩)

/-- Two halves, each written with its own formula. -/
theorem rotv_halves (L : Fin 4888 → EReal) (A : Fin 32 → EReal) (o d : ℕ) (ho : o % 64 = 0) (hb : o + 64 ≤ 2816) (hd : d < 64)
    (c : Fin 2816) (hc : c.val = o + d) (p q : d < 32 → Fin 4888) (r s : ¬d < 32 → Fin 4888) (a a' : d < 32 → Fin 32) (e e' : ¬d < 32 → Fin 32)
    (hp : ∀ h, (p h).val = o + d) (hq : ∀ h, (q h).val = o + (32 + d)) (hr : ∀ h, (r h).val = o + d) (hs : ∀ h, (s h).val = o + (d - 32))
    (ha : ∀ h, (a h).val = d) (ha' : ∀ h, (a' h).val = d) (he : ∀ h, (e h).val = d - 32) (he' : ∀ h, (e' h).val = d - 32) :
    (if h : d < 32 then L (p h) * Ideal.cos (A (a h)) - L (q h) * Ideal.sin (A (a' h)) else L (r h) * Ideal.cos (A (e h)) + L (s h) * Ideal.sin (A (e' h)))
      = rotv (fun c => L ⟨c.val, by omega⟩) A c := by
  unfold rotv mate
  by_cases h : d < 32
  · have h1 : c.val % 64 < 32 := by omega
    have e1 : p h = ⟨c.val, by omega⟩ := Fin.ext (by have := hp h; dsimp only; omega)
    have e2 : a h = ⟨c.val % 32, by omega⟩ := Fin.ext (by have := ha h; dsimp only; omega)
    have e4 : a' h = ⟨c.val % 32, by omega⟩ := Fin.ext (by have := ha' h; dsimp only; omega)
    have e3 : q h = ⟨c.val + 32, by omega⟩ := Fin.ext (by have := hq h; dsimp only; omega)
    rw [dif_pos h, if_pos h1, dif_pos h1, e1, e2, e3, e4]
  · have h1 : ¬ c.val % 64 < 32 := by omega
    have e1 : r h = ⟨c.val, by omega⟩ := Fin.ext (by have := hr h; dsimp only; omega)
    have e2 : e h = ⟨c.val % 32, by omega⟩ := Fin.ext (by have := he h; dsimp only; omega)
    have e4 : e' h = ⟨c.val % 32, by omega⟩ := Fin.ext (by have := he' h; dsimp only; omega)
    have e3 : s h = ⟨c.val - 32, by omega⟩ := Fin.ext (by have := hs h; dsimp only; omega)
    rw [dif_neg h, if_neg h1, dif_neg h1, e1, e2, e3, e4]

/-- A turned column from the two tables. -/
theorem rotv_tables (L : Fin 2816 → EReal) (A : Fin 32 → EReal) (c : Fin 2816) (l : Fin 128) (h : l.val = c.val % 128) :
    L c * cosT A l + L (mate (by decide) c) * sinT A l = rotv L A c := by
  unfold rotv cosT sinT
  have e1 : (⟨l.val % 32, by omega⟩ : Fin 32) = ⟨c.val % 32, by omega⟩ := Fin.ext (by dsimp only; omega)
  rw [e1]
  by_cases h1 : c.val % 64 < 32
  · rw [if_pos (by omega), if_pos h1, mul_neg, sub_eq_add_neg]
  · rw [if_neg (by omega), if_neg h1]

end Cert.Proj
-- ==== Proof.Proj.Ref.lean ====
module

public import proofs.«01_k».proof.Proof.Gen.ProjRefIdeal.Read
public import proofs.«01_k».proof.Proof.Proj.Rot

@[expose] public section

set_option maxRecDepth 16384

noncomputable section

/-! The projection's reference, entry by entry: columns of one product, some of them turned by the rotary angles. -/

namespace Cert.ProjRefIdeal

open Cert.ProjRefIdeal.Gen Cert.ProjRefIdeal.Read Cert.Proj Idealize.ShloMosaic

variable (x : FVec Ideal S16x2048x1024 .f32) (g : FVec Ideal S1024 .f32) (w : FVec Ideal S1024x4888 .f32)

/-- A token's normalised entry. -/
def nrm (b : Fin 16) (t : Fin 2048) (k : Fin 1024) : EReal :=
  x (ix3 b t k) * Ideal.rsqrt (Ideal.div (∑ k, x (ix3 b t k) * x (ix3 b t k)) (Ideal.ofBits .f32 1149239296#32)
          + Ideal.ofBits .f32 897988541#32) * g (ix1 k)

/-- Column `c` of the product with `w_in`. -/
def lin (b : Fin 16) (t : Fin 2048) (c : Fin 4888) : EReal := ∑ k, nrm x g b t k * w (ix2 k c)

/-- The columns that are cut into heads. -/
def colm (b : Fin 16) (t : Fin 2048) (c : Fin 2816) : EReal := lin x g w b t ⟨c.val, by omega⟩

/-- The rotary angle of token `t` at frequency `l`. -/
def ang (t : Fin 2048) (l : Fin 32) : EReal := FloatOps.sitofp (F := Ideal) FTy.f32 (BitVec.ofNat 32 t.val) *
      Ideal.pow (Ideal.ofBits FTy.f32 1176256512#32)
        (Ideal.div (-FloatOps.sitofp (F := Ideal) FTy.f32 (BitVec.ofNat 32 l.val)) (Ideal.ofBits FTy.f32 1107296256#32))

/-- Row `n`'s batch. -/
abbrev bt (n : Fin 32768) : Fin 16 := ⟨n.val / 2048, by omega⟩
/-- Row `n`'s token. -/
abbrev tk (n : Fin 32768) : Fin 2048 := ⟨n.val % 2048, by omega⟩

theorem prod_at (b : Fin 16) (t : Fin 2048) (c : Fin 4888) : val_main_v14 (F := Ideal) x g w (ix3 b t c) = lin x g w b t c := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, nrm, lin]

theorem ang_at (t : Fin 2048) (l : Fin 32) : val_main_v40 (F := Ideal) (ix2 t l) = ang t l := by
  pointwise [val_main_v40, val_main_v39, val_main_v38, val_main_v37, val_main_v36, val_main_v35, val_main_v34, val_main_v33, val_main_v32, val_main_v31, val_main_v30, val_main_v29, val_main_v0, val_main_cst_2, val_main_cst_3, ang]

theorem turn0 (b : Fin 16) (t : Fin 2048) (h : Fin 8) (d : Fin 64) :
    val_main_v61 (F := Ideal) x g w (ix4 b t h d) = rotv (colm x g w b t) (ang t) ⟨0 + (h.val * 64 + d.val), by omega⟩ := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v28, val_main_v15, prod_at, ang_at]
  refine rotv_halves (lin x g w b t) (ang t) (0 + h.val * 64) d.val (by omega) (by omega) d.isLt _ ?_ _ _ _ _ _ _ _ _ ?_ ?_ ?_ ?_ ?_ ?_ ?_ ?_
  all_goals first | (intro h1; dsimp only; omega) | (dsimp only; omega)

theorem turn1 (b : Fin 16) (t : Fin 2048) (h : Fin 8) (d : Fin 64) :
    val_main_v95 (F := Ideal) x g w (ix4 b t h d) = rotv (colm x g w b t) (ang t) ⟨512 + (h.val * 64 + d.val), by omega⟩ := by
  have e : val_main_v74 (F := Ideal) = val_main_v40 (F := Ideal) := rfl
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v62, val_main_v16, prod_at, e, ang_at]
  refine rotv_halves (lin x g w b t) (ang t) (512 + h.val * 64) d.val (by omega) (by omega) d.isLt _ ?_ _ _ _ _ _ _ _ _ ?_ ?_ ?_ ?_ ?_ ?_ ?_ ?_
  all_goals first | (intro h1; dsimp only; omega) | (dsimp only; omega)

theorem turn2 (b : Fin 16) (t : Fin 2048) (h : Fin 8) (d : Fin 64) :
    val_main_v133 (F := Ideal) x g w (ix4 b t h d) = rotv (colm x g w b t) (ang t) ⟨1536 + (h.val * 64 + d.val), by omega⟩ := by
  have e : val_main_v112 (F := Ideal) = val_main_v40 (F := Ideal) := rfl
  pointwise [val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v100, val_main_v18, prod_at, e, ang_at]
  refine rotv_halves (lin x g w b t) (ang t) (1536 + h.val * 64) d.val (by omega) (by omega) d.isLt _ ?_ _ _ _ _ _ _ _ _ ?_ ?_ ?_ ?_ ?_ ?_ ?_ ?_
  all_goals first | (intro h1; dsimp only; omega) | (dsimp only; omega)

theorem turn3 (b : Fin 16) (t : Fin 2048) (h : Fin 2) (d : Fin 64) :
    val_main_v169 (F := Ideal) x g w (ix4 b t h d) = rotv (colm x g w b t) (ang t) ⟨2304 + (h.val * 64 + d.val), by omega⟩ := by
  have e : val_main_v148 (F := Ideal) = val_main_v40 (F := Ideal) := rfl
  pointwise [val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v136, val_main_v21, prod_at, e, ang_at]
  refine rotv_halves (lin x g w b t) (ang t) (2304 + h.val * 64) d.val (by omega) (by omega) d.isLt _ ?_ _ _ _ _ _ _ _ _ ?_ ?_ ?_ ?_ ?_ ?_ ?_ ?_
  all_goals first | (intro h1; dsimp only; omega) | (dsimp only; omega)

theorem turn4 (b : Fin 16) (t : Fin 2048) (h : Fin 2) (d : Fin 64) :
    val_main_v209 (F := Ideal) x g w (ix4 b t h d) = rotv (colm x g w b t) (ang t) ⟨2560 + (h.val * 64 + d.val), by omega⟩ := by
  have e : val_main_v188 (F := Ideal) = val_main_v40 (F := Ideal) := rfl
  pointwise [val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v176, val_main_v23, prod_at, e, ang_at]
  refine rotv_halves (lin x g w b t) (ang t) (2560 + h.val * 64) d.val (by omega) (by omega) d.isLt _ ?_ _ _ _ _ _ _ _ _ ?_ ?_ ?_ ?_ ?_ ?_ ?_ ?_
  all_goals first | (intro h1; dsimp only; omega) | (dsimp only; omega)

theorem out0 (n : Fin 32768) (k : Fin 512) : val_main_v215 (F := Ideal) x g w (ix2 n k) = rotv (colm x g w (bt n) (tk n)) (ang (tk n)) ⟨k.val, by omega⟩ := by
  pointwise [val_main_v215, turn0]
  refine congrArg _ (Fin.ext ?_); dsimp only; omega
theorem out1 (n : Fin 32768) (k : Fin 1024) : val_main_v216 (F := Ideal) x g w (ix2 n k)
    = if k.val < 512 then rotv (colm x g w (bt n) (tk n)) (ang (tk n)) ⟨512 + k.val, by omega⟩ else colm x g w (bt n) (tk n) ⟨512 + k.val, by omega⟩ := by
  pointwise [val_main_v216, val_main_v99, val_main_v98, val_main_v97, val_main_v96, val_main_v17, turn1, prod_at]
  by_cases h : k.val < 512
  · refine (dif_pos (by omega)).trans (Eq.trans ?_ (if_pos h).symm)
    refine congrArg _ (Fin.ext ?_); dsimp only; omega
  · refine (dif_neg (by omega)).trans (Eq.trans ?_ (if_neg h).symm)
    unfold colm
    refine congrArg _ (Fin.ext ?_); dsimp only; omega
theorem out2 (n : Fin 32768) (k : Fin 512) : val_main_v217 (F := Ideal) x g w (ix2 n k) = colm x g w (bt n) (tk n) ⟨1536 + k.val, by omega⟩ := by
  pointwise [val_main_v217, val_main_v100, val_main_v18, prod_at]
  rfl
theorem out3 (n : Fin 32768) (k : Fin 512) : val_main_v218 (F := Ideal) x g w (ix2 n k) = rotv (colm x g w (bt n) (tk n)) (ang (tk n)) ⟨1536 + k.val, by omega⟩ := by
  pointwise [val_main_v218, turn2]
  refine congrArg _ (Fin.ext ?_); dsimp only; omega
theorem out4 (n : Fin 32768) (k : Fin 512) : val_main_v219 (F := Ideal) x g w (ix2 n k)
    = if k.val / 128 = 2 then rotv (colm x g w (bt n) (tk n)) (ang (tk n)) ⟨2048 + k.val, by omega⟩ else colm x g w (bt n) (tk n) ⟨2048 + k.val, by omega⟩ := by
  pointwise [val_main_v219, val_main_v175, val_main_v174, val_main_v173, val_main_v172, val_main_v171, val_main_v170, val_main_v135, val_main_v134, val_main_v22, val_main_v20, val_main_v19, turn3, prod_at]
  by_cases h0 : k.val / 128 < 1
  · refine (dif_pos h0).trans (Eq.trans ?_ (if_neg (by omega)).symm)
    unfold colm
    refine congrArg _ (Fin.ext ?_); dsimp only; omega
  refine (dif_neg h0).trans ?_
  by_cases h1 : k.val / 128 - 1 < 1
  · refine (dif_pos h1).trans (Eq.trans ?_ (if_neg (by omega)).symm)
    unfold colm
    refine congrArg _ (Fin.ext ?_); dsimp only; omega
  refine (dif_neg h1).trans ?_
  by_cases h2 : k.val / 128 - 1 - 1 < 1
  · refine (dif_pos h2).trans (Eq.trans ?_ (if_pos (by omega)).symm)
    refine congrArg _ (Fin.ext ?_); dsimp only; omega
  refine (dif_neg h2).trans (Eq.trans ?_ (if_neg (by omega)).symm)
  unfold colm
  refine congrArg _ (Fin.ext ?_); dsimp only; omega
theorem out5 (n : Fin 32768) (k : Fin 256) : val_main_v220 (F := Ideal) x g w (ix2 n k)
    = if k.val < 128 then rotv (colm x g w (bt n) (tk n)) (ang (tk n)) ⟨2560 + k.val, by omega⟩ else colm x g w (bt n) (tk n) ⟨2560 + k.val, by omega⟩ := by
  pointwise [val_main_v220, val_main_v213, val_main_v212, val_main_v211, val_main_v210, val_main_v24, turn4, prod_at]
  by_cases h : k.val < 128
  · refine (dif_pos (by omega)).trans (Eq.trans ?_ (if_pos h).symm)
    refine congrArg _ (Fin.ext ?_); dsimp only; omega
  · refine (dif_neg (by omega)).trans (Eq.trans ?_ (if_neg h).symm)
    unfold colm
    refine congrArg _ (Fin.ext ?_); dsimp only; omega
theorem out6 (n : Fin 32768) (k : Fin 128) : val_main_v221 (F := Ideal) x g w (ix2 n k)
    = if h : k.val < 24 then lin x g w (bt n) (tk n) ⟨2816 + k.val, by omega⟩ else 0 := by
  pointwise [val_main_v221, val_main_v214, val_main_call0_v0, val_main_v25, prod_at]
  by_cases h : k.val < 24
  · refine (dif_pos ⟨by omega, by omega, h⟩).trans (Eq.trans ?_ (dif_pos h).symm)
    rfl
  · refine (dif_neg fun e => h e.2.2).trans (Eq.trans ?_ (dif_neg h).symm)
    show ((((0#32 : BitVec 32).toInt : ℝ)) : EReal) = 0
    simp
theorem out7 (n : Fin 32768) (k : Fin 1024) : val_main_v222 (F := Ideal) x g w (ix2 n k) = lin x g w (bt n) (tk n) ⟨2840 + k.val, by omega⟩ := by
  pointwise [val_main_v222, val_main_v26, prod_at]
theorem out8 (n : Fin 32768) (k : Fin 1024) : val_main_v223 (F := Ideal) x g w (ix2 n k) = lin x g w (bt n) (tk n) ⟨3864 + k.val, by omega⟩ := by
  pointwise [val_main_v223, val_main_v27, prod_at]

end Cert.ProjRefIdeal
-- ==== Proof.Proj.Value.lean ====
module

public import proofs.«01_k».proof.Proof.Gen.ProjIdeal.Value
public import proofs.«01_k».proof.Proof.Proj.Ref

@[expose] public section

set_option maxRecDepth 16384

noncomputable section

/-! The projection kernel: one block of 256 rows, entry by entry, over any blocks; then every result array. -/

namespace Cert.ProjIdeal.Proved

open Cert.ProjIdeal Cert.ProjIdeal.Gen Cert.Proj Idealize.ShloMosaic Idealize.ShloMosaic.TcCoe Idealize.SL.Sem
open Idealize.ShloMosaic.Pipeline (Dat)
open Cert.ProjRefIdeal (nrm lin colm ang bt tk)

/-- The lanes of a head's first half. -/
theorem half_at (l : Fin 128) : k0_pay7 (ix2 0 l) = if l.val % 64 < 32 then 1#1 else 0#1 := by
  revert l; decide +kernel

/-- A tile of 128 lanes turned by the tables. -/
def turned (p cs sn : FVec Ideal S256x128 .f32) (q : IVec S1x128 1) : FVec Ideal S256x128 .f32 :=
  addf (mulf p cs) (mulf (select (broadcastTo S256x128 (shapeCast S1x128 q shapeCasts_S1x128_S1x128) broadcasts_S1x128_S256x128)
    (dynamicRotate 1 96#32 none p rotates_S256x128_d1) (dynamicRotate 1 32#32 none p rotates_S256x128_d1)) sn)

theorem turned_at (p cs sn : FVec Ideal S256x128 .f32) (r : Fin 256) (l : Fin 128) :
    turned p cs sn k0_pay7 (ix2 r l) = p (ix2 r l) * cs (ix2 r l) + p (ix2 r (mate (by decide) l)) * sn (ix2 r l) := by
  pointwise [turned, half_at]
  have e : Scalar.select (if l.val % 64 < 32 then 1#1 else 0#1) (p (ix2 r ⟨(l.val + 128 - 96) % 128, by omega⟩))
      (p (ix2 r ⟨(l.val + 128 - 32) % 128, by omega⟩)) = p (ix2 r (mate (by decide) l)) := by
    have hm := mate_val (by decide) l
    by_cases h : l.val % 64 < 32
    · rw [if_pos h]
      rw [if_pos h] at hm
      exact congrArg (fun j => p (ix2 r j)) (Fin.ext (by rw [hm]; dsimp only; omega))
    · rw [if_neg h]
      rw [if_neg h] at hm
      exact congrArg (fun j => p (ix2 r j)) (Fin.ext (by rw [hm]; dsimp only; omega))
  exact congrArg (fun z => p (ix2 r l) * cs (ix2 r l) + z * sn (ix2 r l)) e

/-- Four tiles side by side. -/
theorem tiles_at (a b c d : FVec Ideal S256x128 .f32) (f : Fin 512 → EReal) (r : Fin 256) (k : Fin 512)
    (ha : ∀ l : Fin 128, a (ix2 r l) = f ⟨l.val, by omega⟩) (hb : ∀ l : Fin 128, b (ix2 r l) = f ⟨128 + l.val, by omega⟩)
    (hc : ∀ l : Fin 128, c (ix2 r l) = f ⟨256 + l.val, by omega⟩) (hd : ∀ l : Fin 128, d (ix2 r l) = f ⟨384 + l.val, by omega⟩) :
    concatenate S256x512 1 [⟨S256x128, a⟩, ⟨S256x128, b⟩, ⟨S256x128, c⟩, ⟨S256x128, d⟩] concatenates_S256x128_S256x128_S256x128_S256x128_S256x512_d1 (ix2 r k) = f k := by
  pointwise [ha, hb, hc, hd]
  split_ifs
  all_goals (refine congrArg f (Fin.ext ?_); dsimp only; try omega)

/-- A row of 512 lanes turned tile by tile. -/
def wide (P : FVec Ideal S256x512 .f32) (cs sn : FVec Ideal S256x128 .f32) (q : IVec S1x128 1) : FVec Ideal S256x512 .f32 :=
  concatenate S256x512 1 [⟨S256x128, turned (extractStridedSlice S256x128 ![0, 0] P slices_S256x512_o0_0_S256x128) cs sn q⟩,
    ⟨S256x128, turned (extractStridedSlice S256x128 ![0, 128] P slices_S256x512_o0_128_S256x128) cs sn q⟩,
    ⟨S256x128, turned (extractStridedSlice S256x128 ![0, 256] P slices_S256x512_o0_256_S256x128) cs sn q⟩,
    ⟨S256x128, turned (extractStridedSlice S256x128 ![0, 384] P slices_S256x512_o0_384_S256x128) cs sn q⟩] concatenates_S256x128_S256x128_S256x128_S256x128_S256x512_d1

/-- A tile whose entries are 128 columns of a row, from a column that starts a tile, turned: those columns turned. -/
theorem turn_rot (p cs sn : FVec Ideal S256x128 .f32) (L : Fin 2816 → EReal) (A : Fin 32 → EReal) (o : Nat) (ho : o % 128 = 0) (hle : o + 128 ≤ 2816) (r : Fin 256)
    (hp : ∀ l : Fin 128, p (ix2 r l) = L ⟨o + l.val, by omega⟩) (hcs : ∀ l : Fin 128, cs (ix2 r l) = cosT A l) (hsn : ∀ l : Fin 128, sn (ix2 r l) = sinT A l) (l : Fin 128) :
    turned p cs sn k0_pay7 (ix2 r l) = rotv L A ⟨o + l.val, by omega⟩ := by
  rw [turned_at, hp, hp, hcs, hsn]
  refine Eq.trans ?_ (rotv_tables L A ⟨o + l.val, by omega⟩ l (by dsimp only; omega))
  refine congrArg (fun z => L ⟨o + l.val, by omega⟩ * cosT A l + z * sinT A l) (congrArg L (Fin.ext ?_))
  simp only [mate_val]
  split_ifs <;> omega

theorem wide_rot (P : FVec Ideal S256x512 .f32) (cs sn : FVec Ideal S256x128 .f32) (L : Fin 2816 → EReal) (A : Fin 32 → EReal) (o : Nat) (ho : o % 128 = 0) (hle : o + 512 ≤ 2816) (r : Fin 256)
    (hp : ∀ k : Fin 512, P (ix2 r k) = L ⟨o + k.val, by omega⟩) (hcs : ∀ l : Fin 128, cs (ix2 r l) = cosT A l) (hsn : ∀ l : Fin 128, sn (ix2 r l) = sinT A l) (k : Fin 512) :
    wide P cs sn k0_pay7 (ix2 r k) = rotv L A ⟨o + k.val, by omega⟩ := by
  unfold wide
  refine tiles_at _ _ _ _ (fun k => rotv L A ⟨o + k.val, by omega⟩) r k ?_ ?_ ?_ ?_
  · exact turn_rot _ _ _ L A o ho (by omega) r (fun l => by pointwise [hp]) hcs hsn
  · intro l
    refine (turn_rot _ _ _ L A (o + 128) (by omega) (by omega) r (fun l => ?_) hcs hsn l).trans (congrArg (rotv L A) (Fin.ext (by dsimp only; omega)))
    pointwise [hp]
    exact congrArg L (Fin.ext (by dsimp only; omega))
  · intro l
    refine (turn_rot _ _ _ L A (o + 256) (by omega) (by omega) r (fun l => ?_) hcs hsn l).trans (congrArg (rotv L A) (Fin.ext (by dsimp only; omega)))
    pointwise [hp]
    exact congrArg L (Fin.ext (by dsimp only; omega))
  · intro l
    refine (turn_rot _ _ _ L A (o + 384) (by omega) (by omega) r (fun l => ?_) hcs hsn l).trans (congrArg (rotv L A) (Fin.ext (by dsimp only; omega)))
    pointwise [hp]
    exact congrArg L (Fin.ext (by dsimp only; omega))

/-- Two tiles after a pair of tiles fill the block. -/
theorem cover_three (P Q : FVec Ideal S256x128 .f32) (S : FVec Ideal S256x256 .f32) (r : Fin 256) (k : Fin 512) :
    ∃ p ∈ ([⟨Rect.unit ![0, 384] ![256, 128] inb_S256x512_S256x128_0_384, P⟩, ⟨Rect.unit ![0, 256] ![256, 128] inb_S256x512_S256x128_0_256, Q⟩,
      ⟨Rect.unit ![0, 0] ![256, 256] inb_S256x512_S256x256_0_0, S⟩] : List (View.Piece (Elt Ideal) S256x512 .f32)), ix2 r k ∈ p.fst.set := by
  by_cases h3 : 384 ≤ k.val
  · exact ⟨_, List.mem_cons_self, (Rect.mem_set_unit (inb := inb_S256x512_S256x128_0_384)).mpr (Fin.forall_fin_two.mpr ⟨⟨Nat.zero_le _, by show r.val < 0 + 256; omega⟩, ⟨h3, by show k.val < 384 + 128; omega⟩⟩)⟩
  · by_cases h2 : 256 ≤ k.val
    · exact ⟨_, List.mem_cons_of_mem _ List.mem_cons_self, (Rect.mem_set_unit (inb := inb_S256x512_S256x128_0_256)).mpr (Fin.forall_fin_two.mpr ⟨⟨Nat.zero_le _, by show r.val < 0 + 256; omega⟩, ⟨h2, by show k.val < 256 + 128; omega⟩⟩)⟩
    · exact ⟨_, List.mem_cons_of_mem _ (List.mem_cons_of_mem _ List.mem_cons_self), (Rect.mem_set_unit (inb := inb_S256x512_S256x256_0_0)).mpr (Fin.forall_fin_two.mpr ⟨⟨Nat.zero_le _, by show r.val < 0 + 256; omega⟩, ⟨Nat.zero_le _, by show k.val < 0 + 256; omega⟩⟩)⟩

theorem pay8_wide (U : FVec Ideal S256x1024 .bf16) (cs sn : FVec Ideal S256x128 .f32) (q : IVec S1x128 1) (W : Vec Ideal S1024x512 .bf16) :
    k0_pay8 U cs sn q W = wide (k0_pay9 U W) cs sn q := rfl

theorem pay10_wide (P : FVec Ideal S256x512 .f32) (cs sn : FVec Ideal S256x128 .f32) (q : IVec S1x128 1) : k0_pay10 cs sn q P = wide P cs sn q := rfl

theorem pay13_wide (U : FVec Ideal S256x1024 .bf16) (cs sn : FVec Ideal S256x128 .f32) (q : IVec S1x128 1) (W : Vec Ideal S1024x512 .bf16) :
    k0_pay13 U cs sn q W = wide (k0_pay12 U W) cs sn q := rfl

theorem pay16_turned (U : FVec Ideal S256x1024 .bf16) (cs sn : FVec Ideal S256x128 .f32) (q : IVec S1x128 1) (W : Vec Ideal S1024x512 .bf16) :
    k0_pay16 U cs sn q W = turned (extractStridedSlice S256x128 ![0, 256] (k0_pay14 U W) slices_S256x512_o0_256_S256x128) cs sn q := rfl

theorem pay19_turned (U : FVec Ideal S256x1024 .bf16) (cs sn : FVec Ideal S256x128 .f32) (q : IVec S1x128 1) (W : Vec Ideal S1024x256 .bf16) :
    k0_pay19 U cs sn q W = turned (extractStridedSlice S256x128 ![0, 0] (k0_pay18 U W) slices_S256x256_o0_0_S256x128) cs sn q := rfl

theorem u_at (v0 : Vec Ideal S256x1024 .f32) (v2 : Vec Ideal S1x1024 .f32) (r : Fin 256) (k : Fin 1024) : k0_pay4 (F := Ideal) v0 v2 (ix2 r k)
    = v0 (ix2 r k) * Ideal.rsqrt (Ideal.div (∑ k, v0 (ix2 r k) * v0 (ix2 r k)) (Ideal.ofBits .f32 1149239296#32)
          + Ideal.ofBits .f32 897988541#32) * v2 (ix2 0 k) := by
  pointwise [k0_pay4]

variable (m : (ℓ : Loc nD τ sig) → Buf (Elt Ideal) ℓ)

/-- Row `y` of block `t`. -/
abbrev row (t : Fin cfg0.N) (y : Fin 256) : Fin 32768 := ⟨t.val * 256 + y.val, by have : t.val < 128 := t.isLt; omega⟩

theorem idx : ∀ t : Fin cfg0.N, win0_0.index t = ![t.val, 0]
    ∧ win0_1.index t = ![0, 0]
    ∧ win0_2.index t = ![0, 0]
    ∧ win0_3.index t = ![t.val % 8, 0]
    ∧ win0_4.index t = ![t.val % 8, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0] :=
  (by decide +kernel : ∀ t : Fin grid0.N, win0_0.index t = ![t.val, 0]
    ∧ win0_1.index t = ![0, 0]
    ∧ win0_2.index t = ![0, 0]
    ∧ win0_3.index t = ![t.val % 8, 0]
    ∧ win0_4.index t = ![t.val % 8, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0])

theorem emb0 (t : Fin cfg0.N) (y : Fin 256) (k : Fin 1024) : ((cfg0.win 0).blk t).view.emb (ix2 y k) = (ix2 (row t y) k : S32768x1024.Idx) := by
  blk_ext [idx t]
theorem emb1 (t : Fin cfg0.N) (k : Fin 1024) : ((cfg0.win 1).blk t).view.emb (ix2 0 k) = (ix2 0 k : S1x1024.Idx) := by
  blk_ext [idx t]
theorem emb2 (t : Fin cfg0.N) (k : Fin 1024) (c : Fin 4992) : ((cfg0.win 2).blk t).view.emb (ix2 k c) = (ix2 k c : S1024x4992.Idx) := by
  blk_ext [idx t]
theorem emb3 (t : Fin cfg0.N) (y : Fin 256) (l : Fin 128) : ((cfg0.win 3).blk t).view.emb (ix2 y l) = (ix2 (tk (row t y)) l : S2048x128.Idx) := by
  blk_ext [idx t]
theorem emb4 (t : Fin cfg0.N) (y : Fin 256) (l : Fin 128) : ((cfg0.win 4).blk t).view.emb (ix2 y l) = (ix2 (tk (row t y)) l : S2048x128.Idx) := by
  blk_ext [idx t]
theorem emb5 (t : Fin cfg0.N) (y : Fin 256) (k : Fin 512) : ((cfg0.win 5).blk t).view.emb (ix2 y k) = (ix2 (row t y) k : S32768x512.Idx) := by
  blk_ext [idx t]
theorem emb6 (t : Fin cfg0.N) (y : Fin 256) (k : Fin 1024) : ((cfg0.win 6).blk t).view.emb (ix2 y k) = (ix2 (row t y) k : S32768x1024.Idx) := by
  blk_ext [idx t]
theorem emb7 (t : Fin cfg0.N) (y : Fin 256) (k : Fin 512) : ((cfg0.win 7).blk t).view.emb (ix2 y k) = (ix2 (row t y) k : S32768x512.Idx) := by
  blk_ext [idx t]
theorem emb8 (t : Fin cfg0.N) (y : Fin 256) (k : Fin 512) : ((cfg0.win 8).blk t).view.emb (ix2 y k) = (ix2 (row t y) k : S32768x512.Idx) := by
  blk_ext [idx t]
theorem emb9 (t : Fin cfg0.N) (y : Fin 256) (k : Fin 512) : ((cfg0.win 9).blk t).view.emb (ix2 y k) = (ix2 (row t y) k : S32768x512.Idx) := by
  blk_ext [idx t]
theorem emb10 (t : Fin cfg0.N) (y : Fin 256) (k : Fin 256) : ((cfg0.win 10).blk t).view.emb (ix2 y k) = (ix2 (row t y) k : S32768x256.Idx) := by
  blk_ext [idx t]
theorem emb11 (t : Fin cfg0.N) (y : Fin 256) (k : Fin 128) : ((cfg0.win 11).blk t).view.emb (ix2 y k) = (ix2 (row t y) k : S32768x128.Idx) := by
  blk_ext [idx t]
theorem emb12 (t : Fin cfg0.N) (y : Fin 256) (k : Fin 1024) : ((cfg0.win 12).blk t).view.emb (ix2 y k) = (ix2 (row t y) k : S32768x1024.Idx) := by
  blk_ext [idx t]
theorem emb13 (t : Fin cfg0.N) (y : Fin 256) (k : Fin 1024) : ((cfg0.win 13).blk t).view.emb (ix2 y k) = (ix2 (row t y) k : S32768x1024.Idx) := by
  blk_ext [idx t]

/-- The host's operations before the kernel as one list. -/
theorem opened (c : Dev nD) (b : Ref sig .tc) : V m c b = StableHlo.after (hostOps0 ++ (hostOps0_1 ++ hostOps0_2)) (fun b => m (c, b)) b := by
  unfold V
  simp only [List.flatten_cons, List.flatten_nil, List.append_nil]

theorem blk0 (c : Dev nD) (t : Fin cfg0.N) (y : Fin 256) (k : Fin 1024) : iblk m c 0 t (ix2 y k)
    = m ((c : Thread nD τ).loc main_arg0) (ix3 (bt (row t y)) (tk (row t y)) k) := by
  have hV : iblk m c 0 t (ix2 y k) = V m c main_v6 (((cfg0.win 0).blk t).view.emb (ix2 y k)) := rfl
  rw [hV, emb0]; rw [opened]; simp only [hostOps0, hostOps0_1, hostOps0_2, List.cons_append, List.nil_append]; entry_read; pointwise

theorem blk1 (c : Dev nD) (t : Fin cfg0.N) (k : Fin 1024) : iblk m c 1 t (ix2 0 k) = m ((c : Thread nD τ).loc main_arg1) (ix1 k) := by
  have hV : iblk m c 1 t (ix2 0 k) = V m c main_v31 (((cfg0.win 1).blk t).view.emb (ix2 0 k)) := rfl
  rw [hV, emb1]; rw [opened]; simp only [hostOps0, hostOps0_1, hostOps0_2, List.cons_append, List.nil_append]; entry_read; pointwise

/-- Two lists of host operations, one after the other. -/
theorem after_two {α : Topo} {β : RefSig} {Val : EltTy → Type} (l₁ l₂ : List (HloOp α β Val)) (V : Valuation α β Val) :
    StableHlo.after (l₁ ++ l₂) V = StableHlo.after l₂ (StableHlo.after l₁ V) := by
  induction l₁ generalizing V with
  | nil => rfl
  | cons op l ih => exact ih _

theorem pad_read (σ : Valuation τ sig (Elt Ideal)) : StableHlo.after (hostOps0_1 (F := Ideal)) σ (Proc.devRef .tc main_v2)
    = (pad S1024x128 ![0, 0] ![0, 104] ![0, 0] (σ (Proc.devRef .tc main_v1) : FVec Ideal S1024x24 .f32) (sitofp .f32 (σ (Proc.devRef .tc main_c) : IVec S_ 32) : FVec Ideal S_ .f32) pads_S1024x24_S1024x128_000_01040 h_S_ : FVec Ideal S1024x128 .f32) := by
  simp only [hostOps0_1]
  entry_read
  rfl

theorem keep_v0 (σ : Valuation τ sig (Elt Ideal)) : StableHlo.after (hostOps0_1 (F := Ideal)) σ (Proc.devRef .tc main_v0) = σ (Proc.devRef .tc main_v0) := by
  simp only [hostOps0_1]
  entry_read
  rfl

theorem keep_arg2 (σ : Valuation τ sig (Elt Ideal)) : StableHlo.after (hostOps0_1 (F := Ideal)) σ (Proc.devRef .tc main_arg2) = σ (Proc.devRef .tc main_arg2) := by
  simp only [hostOps0_1]
  entry_read
  rfl

theorem first_reads (σ : Valuation τ sig (Elt Ideal)) :
    StableHlo.after (hostOps0 (F := Ideal)) σ (Proc.devRef .tc main_v0) = (extractStridedSlice S1024x2816 ![0, 0] (σ (Proc.devRef .tc main_arg2) : FVec Ideal S1024x4888 .f32) slices_S1024x4888_S1024x2816_0_0 : FVec Ideal S1024x2816 .f32)
    ∧ StableHlo.after (hostOps0 (F := Ideal)) σ (Proc.devRef .tc main_v1) = (extractStridedSlice S1024x24 ![0, 2816] (σ (Proc.devRef .tc main_arg2) : FVec Ideal S1024x4888 .f32) slices_S1024x4888_S1024x24_0_2816 : FVec Ideal S1024x24 .f32)
    ∧ StableHlo.after (hostOps0 (F := Ideal)) σ (Proc.devRef .tc main_c) = (constantI S_ 32 0#32 : IVec S_ 32)
    ∧ StableHlo.after (hostOps0 (F := Ideal)) σ (Proc.devRef .tc main_arg2) = σ (Proc.devRef .tc main_arg2) := by
  simp only [hostOps0]
  refine ⟨?_, ?_, ?_, ?_⟩
  all_goals (entry_read; try rfl)

theorem drop_keep (σ : Valuation τ sig (Elt Ideal)) : StableHlo.after ((hostOps0_2 (F := Ideal)).drop 3) σ (Proc.devRef .tc main_v5) = σ (Proc.devRef .tc main_v5) := by
  simp only [hostOps0_2, List.drop_succ_cons, List.drop_zero]
  entry_read
  rfl

theorem take_read (σ : Valuation τ sig (Elt Ideal)) : StableHlo.after ((hostOps0_2 (F := Ideal)).take 3) σ (Proc.devRef .tc main_v5)
 = (truncf .bf16 (concatenate S1024x4992 1 [⟨S1024x2816, (σ (Proc.devRef .tc main_v0) : FVec Ideal S1024x2816 .f32)⟩, ⟨S1024x128, (σ (Proc.devRef .tc main_v2) : FVec Ideal S1024x128 .f32)⟩,
        ⟨S1024x2048, (extractStridedSlice S1024x2048 ![0, 2840] (σ (Proc.devRef .tc main_arg2) : FVec Ideal S1024x4888 .f32) slices_S1024x4888_S1024x2048_0_2840 : FVec Ideal S1024x2048 .f32)⟩] concatenates_S1024x2816_S1024x128_S1024x2048_S1024x4992_d1 : FVec Ideal S1024x4992 .f32) bitsLt_bf16_f32 : FVec Ideal S1024x4992 .bf16) := by
  simp only [hostOps0_2, List.take_succ_cons, List.take_zero, StableHlo.after_cons, StableHlo.after_nil]
  refine (StableHlo.unary_result ..).trans ?_
  refine congrArg (fun z : FVec Ideal S1024x4992 .f32 => (truncf .bf16 z bitsLt_bf16_f32 : FVec Ideal S1024x4992 .bf16)) ?_
  refine (StableHlo.nary_result ..).trans ?_
  refine StableHlo.concatenate_congr _ _ ?_ _ _
  refine congrArg₂ List.cons (congrArg (Sigma.mk _) ?_) (congrArg₂ List.cons (congrArg (Sigma.mk _) ?_) (congrArg₂ List.cons (congrArg (Sigma.mk _) ?_) rfl))
  · exact StableHlo.unary_result_ne _ _ _ _ _ _ (by decide)
  · exact StableHlo.unary_result_ne _ _ _ _ _ _ (by decide)
  · exact StableHlo.unary_result ..

theorem split_read (σ : Valuation τ sig (Elt Ideal)) : StableHlo.after (hostOps0_2 (F := Ideal)) σ (Proc.devRef .tc main_v5) = StableHlo.after ((hostOps0_2 (F := Ideal)).take 3) σ (Proc.devRef .tc main_v5) := by
  have e := after_two ((hostOps0_2 (F := Ideal)).take 3) ((hostOps0_2 (F := Ideal)).drop 3) σ
  rw [List.take_append_drop] at e
  rw [e, drop_keep]

theorem pack_at (a : FVec Ideal S1024x4888 .f32) (k : Fin 1024) (d : Fin 4992) :
    (truncf .bf16 (concatenate S1024x4992 1 [⟨S1024x2816, (extractStridedSlice S1024x2816 ![0, 0] a slices_S1024x4888_S1024x2816_0_0 : FVec Ideal S1024x2816 .f32)⟩,
        ⟨S1024x128, (pad S1024x128 ![0, 0] ![0, 104] ![0, 0] (extractStridedSlice S1024x24 ![0, 2816] a slices_S1024x4888_S1024x24_0_2816 : FVec Ideal S1024x24 .f32) (sitofp .f32 (constantI S_ 32 0#32) : FVec Ideal S_ .f32) pads_S1024x24_S1024x128_000_01040 h_S_ : FVec Ideal S1024x128 .f32)⟩,
        ⟨S1024x2048, (extractStridedSlice S1024x2048 ![0, 2840] a slices_S1024x4888_S1024x2048_0_2840 : FVec Ideal S1024x2048 .f32)⟩] concatenates_S1024x2816_S1024x128_S1024x2048_S1024x4992_d1 : FVec Ideal S1024x4992 .f32) bitsLt_bf16_f32 : FVec Ideal S1024x4992 .bf16) (ix2 k d)
    = (if h : d.val < 2816 then a (ix2 k ⟨d.val, by omega⟩)
      else if h : d.val - 2816 < 128 then (if h : d.val - 2816 < 24 then a (ix2 k ⟨2816 + (d.val - 2816), by omega⟩) else 0)
      else a (ix2 k ⟨2840 + (d.val - 2816 - 128), by omega⟩) : EReal) := by
  have hz : (FloatOps.sitofp (F := Ideal) FTy.f32 (0#32 : BitVec 32) : EReal) = 0 := by
    show ((((0#32 : BitVec 32).toInt : ℝ)) : EReal) = 0
    simp
  pointwise [hz]

/-- The packed weight: the heads' columns, the gates' columns with zeros after them, the rest. -/
theorem blk2 (c : Dev nD) (t : Fin cfg0.N) (k : Fin 1024) (d : Fin 4992) : iblk m c 2 t (ix2 k d)
    = (if h : d.val < 2816 then m ((c : Thread nD τ).loc main_arg2) (ix2 k ⟨d.val, by omega⟩)
      else if h : d.val - 2816 < 128 then (if h : d.val - 2816 < 24 then m ((c : Thread nD τ).loc main_arg2) (ix2 k ⟨2816 + (d.val - 2816), by omega⟩) else 0)
      else m ((c : Thread nD τ).loc main_arg2) (ix2 k ⟨2840 + (d.val - 2816 - 128), by omega⟩) : EReal) := by
  have hV : iblk m c 2 t (ix2 k d) = V m c main_v5 (((cfg0.win 2).blk t).view.emb (ix2 k d)) := rfl
  obtain ⟨h0, h1, h2, h3⟩ := first_reads (fun b => m (c, b))
  rw [hV, emb2, opened, after_two, after_two]
  refine (congrFun ((split_read _).trans (take_read _)) (ix2 k d)).trans ?_
  rw [keep_v0, keep_arg2, pad_read, h0, h1, h2, h3]
  exact pack_at _ k d

theorem blk3 (c : Dev nD) (t : Fin cfg0.N) (y : Fin 256) (l : Fin 128) : iblk m c 3 t (ix2 y l) = cosT (ang (tk (row t y))) l := by
  have hV : iblk m c 3 t (ix2 y l) = V m c main_v25 (((cfg0.win 3).blk t).view.emb (ix2 y l)) := rfl
  rw [hV, emb3]; rw [opened]; simp only [hostOps0, hostOps0_1, hostOps0_2, List.cons_append, List.nil_append]; entry_read; pointwise [cosT, ang]
  rcases Nat.lt_or_ge (l.val % 64) 32 with h | h
  · rw [dif_pos h, show l.val % 64 = l.val % 32 by omega]
  · rw [dif_neg (by omega), show l.val % 64 - 32 = l.val % 32 by omega]

theorem blk4 (c : Dev nD) (t : Fin cfg0.N) (y : Fin 256) (l : Fin 128) : iblk m c 4 t (ix2 y l) = sinT (ang (tk (row t y))) l := by
  have hV : iblk m c 4 t (ix2 y l) = V m c main_v30 (((cfg0.win 4).blk t).view.emb (ix2 y l)) := rfl
  rw [hV, emb4]; rw [opened]; simp only [hostOps0, hostOps0_1, hostOps0_2, List.cons_append, List.nil_append]; entry_read; pointwise [sinT, ang]
  rcases Nat.lt_or_ge (l.val % 64) 32 with h | h
  · rw [dif_pos h, if_pos h, show l.val % 64 = l.val % 32 by omega]
  · rw [dif_neg (by omega), if_neg (by omega), show l.val % 64 - 32 = l.val % 32 by omega]

theorem blkm (c : Dev nD) (t : Fin cfg0.N) (k : Fin 1024) (d : Fin 2816) : iblk m c 2 t (ix2 k ⟨d.val, by omega⟩) = m ((c : Thread nD τ).loc main_arg2) (ix2 k ⟨d.val, by omega⟩) :=
  (blk2 m c t k _).trans (dif_pos d.isLt)

theorem blkg (c : Dev nD) (t : Fin cfg0.N) (k : Fin 1024) (d : Fin 128) : iblk m c 2 t (ix2 k ⟨2816 + d.val, by omega⟩)
    = if h : d.val < 24 then m ((c : Thread nD τ).loc main_arg2) (ix2 k ⟨2816 + d.val, by omega⟩) else (0 : EReal) := by
  refine (blk2 m c t k _).trans ((dif_neg (by dsimp only; omega)).trans ((dif_pos (by dsimp only; omega)).trans ?_))
  by_cases h : d.val < 24
  · refine (dif_pos (by dsimp only; omega)).trans (Eq.trans ?_ (dif_pos h).symm)
    exact congrArg (fun j => m ((c : Thread nD τ).loc main_arg2) (ix2 k j)) (Fin.ext (by dsimp only; omega))
  · rw [dif_neg h]
    exact dif_neg (by dsimp only; omega)

theorem blko (c : Dev nD) (t : Fin cfg0.N) (k : Fin 1024) (d : Fin 2048) : iblk m c 2 t (ix2 k ⟨2944 + d.val, by omega⟩)
    = m ((c : Thread nD τ).loc main_arg2) (ix2 k ⟨2840 + d.val, by omega⟩) := by
  refine (blk2 m c t k _).trans ((dif_neg (by dsimp only; omega)).trans ((dif_neg (by dsimp only; omega)).trans ?_))
  exact congrArg (fun j => m ((c : Thread nD τ).loc main_arg2) (ix2 k j)) (Fin.ext (by dsimp only; omega))

/-- A row of the kernel's normalised block. -/
theorem u_nrm (c : Dev nD) (t : Fin cfg0.N) (r : Fin 256) (k : Fin 1024) : k0_pay4 (F := Ideal) (iblk m c 0 t) (iblk m c 1 t) (ix2 r k)
    = nrm (m ((c : Thread nD τ).loc main_arg0)) (m ((c : Thread nD τ).loc main_arg1)) (bt (row t r)) (tk (row t r)) k := by
  refine (u_at _ _ r k).trans ?_
  simp only [blk0, blk1]
  rfl

/-- The product of a row and a column that is cut into heads. -/
theorem cols (c : Dev nD) (t : Fin cfg0.N) (r : Fin 256) (d : Fin 2816) :
    ∑ j : Fin 1024, k0_pay4 (F := Ideal) (iblk m c 0 t) (iblk m c 1 t) (ix2 r j) * iblk m c 2 t (ix2 j ⟨d.val, by omega⟩)
      = colm (m ((c : Thread nD τ).loc main_arg0)) (m ((c : Thread nD τ).loc main_arg1)) (m ((c : Thread nD τ).loc main_arg2)) (bt (row t r)) (tk (row t r)) d :=
  Finset.sum_congr rfl fun j _ => congrArg₂ (· * ·) (u_nrm m c t r j) (blkm m c t j d)

/-- The product of a row and a column after the gates. -/
theorem rest (c : Dev nD) (t : Fin cfg0.N) (r : Fin 256) (d : Fin 2048) :
    ∑ j : Fin 1024, k0_pay4 (F := Ideal) (iblk m c 0 t) (iblk m c 1 t) (ix2 r j) * iblk m c 2 t (ix2 j ⟨2944 + d.val, by omega⟩)
      = lin (m ((c : Thread nD τ).loc main_arg0)) (m ((c : Thread nD τ).loc main_arg1)) (m ((c : Thread nD τ).loc main_arg2)) (bt (row t r)) (tk (row t r)) ⟨2840 + d.val, by omega⟩ :=
  Finset.sum_congr rfl fun j _ => congrArg₂ (· * ·) (u_nrm m c t r j) (blko m c t j d)

/-- The product of a row and a column of the gates' part. -/
theorem gates (c : Dev nD) (t : Fin cfg0.N) (r : Fin 256) (d : Fin 128) :
    ∑ j : Fin 1024, k0_pay4 (F := Ideal) (iblk m c 0 t) (iblk m c 1 t) (ix2 r j) * iblk m c 2 t (ix2 j ⟨2816 + d.val, by omega⟩)
      = if h : d.val < 24 then lin (m ((c : Thread nD τ).loc main_arg0)) (m ((c : Thread nD τ).loc main_arg1)) (m ((c : Thread nD τ).loc main_arg2)) (bt (row t r)) (tk (row t r)) ⟨2816 + d.val, by omega⟩ else 0 := by
  by_cases h : d.val < 24
  · refine Eq.trans ?_ (dif_pos h).symm
    exact Finset.sum_congr rfl fun j _ => congrArg₂ (· * ·) (u_nrm m c t r j) ((blkg m c t j d).trans (dif_pos h))
  · refine Eq.trans ?_ (dif_neg h).symm
    exact Finset.sum_eq_zero fun j _ => (congrArg (fun z : EReal => k0_pay4 (F := Ideal) (iblk m c 0 t) (iblk m c 1 t) (ix2 r j) * z) ((blkg m c t j d).trans (dif_neg h))).trans (mul_zero _)

theorem tab_cos (c : Dev nD) (t : Fin cfg0.N) (r : Fin 256) (l : Fin 128) : k0_pay5 (F := Ideal) (iblk m c 3 t) (ix2 r l) = cosT (ang (tk (row t r))) l := by
  pointwise [k0_pay5, blk3]
theorem tab_sin (c : Dev nD) (t : Fin cfg0.N) (r : Fin 256) (l : Fin 128) : k0_pay6 (F := Ideal) (iblk m c 4 t) (ix2 r l) = sinT (ang (tk (row t r))) l := by
  pointwise [k0_pay6, blk4]

theorem final5 (c : Dev nD) : (dats m 0 c).arrAt 5 (cfgs 0).N = Cert.ProjRefIdeal.Read.val_main_v215 (F := Ideal)
    (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨r, k, rfl⟩ : ∃ (r : Fin 256) (k : Fin 512), y = ix2 r k := ⟨y 0, y 1, eq_ix2 y⟩
  rw [emb5, Cert.ProjRefIdeal.out0]
  blk_simp
  rw [after0_5]; unfold outsAt0; dsimp only; frame_out
  rw [pay8_wide]
  refine (wide_rot _ _ _ (colm (m ((c : Thread nD τ).loc main_arg0)) (m ((c : Thread nD τ).loc main_arg1)) (m ((c : Thread nD τ).loc main_arg2)) (bt (row t r)) (tk (row t r))) (ang (tk (row t r))) 0 (by omega) (by omega) r (fun k => ?_) (tab_cos m c t r) (tab_sin m c t r) k).trans (congrArg _ (Fin.ext (by dsimp only; omega)))
  pointwise [k0_pay9]
  exact cols m c t r ⟨k.val, by omega⟩

theorem final6 (c : Dev nD) : (dats m 0 c).arrAt 6 (cfgs 0).N = Cert.ProjRefIdeal.Read.val_main_v216 (F := Ideal)
    (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨r, k, rfl⟩ : ∃ (r : Fin 256) (k : Fin 1024), y = ix2 r k := ⟨y 0, y 1, eq_ix2 y⟩
  rw [emb6, Cert.ProjRefIdeal.out1]
  blk_simp
  rw [after0_6]; unfold outsAt0; dsimp only; frame_out
  canon_tiles x h
  · obtain ⟨r', k', rfl⟩ : ∃ (r' : Fin 256) (k' : Fin 512), x = ix2 r' k' := ⟨x 0, x 1, eq_ix2 x⟩
    obtain rfl : r = r' := Fin.ext h0
    replace h1 : k.val = 512 + k'.val := h1
    rw [if_neg (by omega)]
    pointwise [k0_pay11]
    refine (cols m c t r ⟨1024 + k'.val, by omega⟩).trans (congrArg _ (Fin.ext (by dsimp only; omega)))
  · obtain ⟨r', k', rfl⟩ : ∃ (r' : Fin 256) (k' : Fin 512), x = ix2 r' k' := ⟨x 0, x 1, eq_ix2 x⟩
    obtain rfl : r = r' := Fin.ext h0
    replace h1 : k.val = k'.val := h1
    rw [if_pos (by omega), pay10_wide]
    refine (wide_rot _ _ _ (colm (m ((c : Thread nD τ).loc main_arg0)) (m ((c : Thread nD τ).loc main_arg1)) (m ((c : Thread nD τ).loc main_arg2)) (bt (row t r)) (tk (row t r))) (ang (tk (row t r))) 512 (by omega) (by omega) r (fun k => ?_) (tab_cos m c t r) (tab_sin m c t r) k').trans (congrArg _ (Fin.ext (by dsimp only; omega)))
    pointwise [k0_pay9]
    exact cols m c t r ⟨512 + k.val, by omega⟩

theorem final7 (c : Dev nD) : (dats m 0 c).arrAt 7 (cfgs 0).N = Cert.ProjRefIdeal.Read.val_main_v217 (F := Ideal)
    (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨r, k, rfl⟩ : ∃ (r : Fin 256) (k : Fin 512), y = ix2 r k := ⟨y 0, y 1, eq_ix2 y⟩
  rw [emb7, Cert.ProjRefIdeal.out2]
  blk_simp
  rw [after0_7]; unfold outsAt0; dsimp only; frame_out
  pointwise [k0_pay12]
  exact cols m c t r ⟨1536 + k.val, by omega⟩

theorem final8 (c : Dev nD) : (dats m 0 c).arrAt 8 (cfgs 0).N = Cert.ProjRefIdeal.Read.val_main_v218 (F := Ideal)
    (m ((c : Thread nD τ).loc main_arg0)) (m ((c : Thread nD τ).loc main_arg1)) (m ((c : Thread nD τ).loc main_arg2)) := by
  refine (dats m 0 c).arrAt_eq_of_covers 8 _ (by decide +kernel) fun t _ y => ?_
  obtain ⟨r, k, rfl⟩ : ∃ (r : Fin 256) (k : Fin 512), y = ix2 r k := ⟨y 0, y 1, eq_ix2 y⟩
  rw [emb8, Cert.ProjRefIdeal.out3]
  blk_simp
  rw [after0_8]; unfold outsAt0; dsimp only; frame_out
  rw [pay13_wide]
  refine (wide_rot _ _ _ (colm (m ((c : Thread nD τ).loc main_arg0)) (m ((c : Thread nD τ).loc main_arg1)) (m ((c : Thread nD τ).loc main_arg2)) (bt (row t r)) (tk (row t r))) (ang (tk (row t r))) 1536 (by omega) (by omega) r (fun k => ?_) (tab_cos m c t r) (tab_sin m c t r) k)
  pointwise [k0_pay12]
  exact cols m c t r ⟨1536 + k.val, by omega⟩

theorem final9 (c : Dev nD) : (dats m 0 c).arrAt 9 (cfgs 0).N = Cert.ProjRefIdeal.Read.val_main_v219 (F := Ideal)
    (m ((c : Thread nD τ).loc main_arg0)) (m ((c : Thread nD τ).loc main_arg1)) (m ((c : Thread nD τ).loc main_arg2)) := by
  refine (dats m 0 c).arrAt_eq_of_covers 9 _ (by decide +kernel) fun t _ y => ?_
  obtain ⟨r, k, rfl⟩ : ∃ (r : Fin 256) (k : Fin 512), y = ix2 r k := ⟨y 0, y 1, eq_ix2 y⟩
  rw [emb9, Cert.ProjRefIdeal.out4]
  blk_simp
  rw [after0_9]; unfold outsAt0; dsimp only; frame_out
  canon_tiles x h using (cover_three _ _ _ r k)
  · obtain ⟨r', k', rfl⟩ : ∃ (r' : Fin 256) (k' : Fin 128), x = ix2 r' k' := ⟨x 0, x 1, eq_ix2 x⟩
    obtain rfl : r = r' := Fin.ext h0
    replace h1 : k.val = 384 + k'.val := h1
    rw [if_neg (by omega)]
    pointwise [k0_pay17, k0_pay14]
    refine Eq.trans ?_ ((cols m c t r ⟨2432 + k'.val, by omega⟩).trans (congrArg _ (Fin.ext (by dsimp only; omega))))
    simp only [show 2048 + (384 + k'.val) = 2432 + k'.val by omega]
  · obtain ⟨r', k', rfl⟩ : ∃ (r' : Fin 256) (k' : Fin 128), x = ix2 r' k' := ⟨x 0, x 1, eq_ix2 x⟩
    obtain rfl : r = r' := Fin.ext h0
    replace h1 : k.val = 256 + k'.val := h1
    rw [if_pos (by omega), pay16_turned]
    refine (turn_rot _ _ _ (colm (m ((c : Thread nD τ).loc main_arg0)) (m ((c : Thread nD τ).loc main_arg1)) (m ((c : Thread nD τ).loc main_arg2)) (bt (row t r)) (tk (row t r))) (ang (tk (row t r))) 2304 (by omega) (by omega) r (fun k => ?_) (tab_cos m c t r) (tab_sin m c t r) k').trans (congrArg _ (Fin.ext (by dsimp only; omega)))
    pointwise [k0_pay14]
    refine Eq.trans ?_ (cols m c t r ⟨2304 + k.val, by omega⟩)
    simp only [show 2048 + (256 + k.val) = 2304 + k.val by omega]
  · obtain ⟨r', k', rfl⟩ : ∃ (r' : Fin 256) (k' : Fin 256), x = ix2 r' k' := ⟨x 0, x 1, eq_ix2 x⟩
    obtain rfl : r = r' := Fin.ext h0
    replace h1 : k.val = k'.val := h1
    rw [if_neg (by omega)]
    pointwise [k0_pay15, k0_pay14]
    refine (cols m c t r ⟨2048 + k'.val, by omega⟩).trans (congrArg _ (Fin.ext (by dsimp only; omega)))

theorem final10 (c : Dev nD) : (dats m 0 c).arrAt 10 (cfgs 0).N = Cert.ProjRefIdeal.Read.val_main_v220 (F := Ideal)
    (m ((c : Thread nD τ).loc main_arg0)) (m ((c : Thread nD τ).loc main_arg1)) (m ((c : Thread nD τ).loc main_arg2)) := by
  refine (dats m 0 c).arrAt_eq_of_covers 10 _ (by decide +kernel) fun t _ y => ?_
  obtain ⟨r, k, rfl⟩ : ∃ (r : Fin 256) (k : Fin 256), y = ix2 r k := ⟨y 0, y 1, eq_ix2 y⟩
  rw [emb10, Cert.ProjRefIdeal.out5]
  blk_simp
  rw [after0_10]; unfold outsAt0; dsimp only; frame_out
  canon_tiles x h
  · obtain ⟨r', k', rfl⟩ : ∃ (r' : Fin 256) (k' : Fin 128), x = ix2 r' k' := ⟨x 0, x 1, eq_ix2 x⟩
    obtain rfl : r = r' := Fin.ext h0
    replace h1 : k.val = 128 + k'.val := h1
    rw [if_neg (by omega)]
    pointwise [k0_pay20, k0_pay18]
    refine Eq.trans ?_ ((cols m c t r ⟨2688 + k'.val, by omega⟩).trans (congrArg _ (Fin.ext (by dsimp only; omega))))
    simp only [show 2560 + (128 + k'.val) = 2688 + k'.val by omega]
  · obtain ⟨r', k', rfl⟩ : ∃ (r' : Fin 256) (k' : Fin 128), x = ix2 r' k' := ⟨x 0, x 1, eq_ix2 x⟩
    obtain rfl : r = r' := Fin.ext h0
    replace h1 : k.val = k'.val := h1
    rw [if_pos (by omega), pay19_turned]
    refine (turn_rot _ _ _ (colm (m ((c : Thread nD τ).loc main_arg0)) (m ((c : Thread nD τ).loc main_arg1)) (m ((c : Thread nD τ).loc main_arg2)) (bt (row t r)) (tk (row t r))) (ang (tk (row t r))) 2560 (by omega) (by omega) r (fun k => ?_) (tab_cos m c t r) (tab_sin m c t r) k').trans (congrArg _ (Fin.ext (by dsimp only; omega)))
    pointwise [k0_pay18]
    exact cols m c t r ⟨2560 + k.val, by omega⟩

theorem final11 (c : Dev nD) : (dats m 0 c).arrAt 11 (cfgs 0).N = Cert.ProjRefIdeal.Read.val_main_v221 (F := Ideal)
    (m ((c : Thread nD τ).loc main_arg0)) (m ((c : Thread nD τ).loc main_arg1)) (m ((c : Thread nD τ).loc main_arg2)) := by
  refine (dats m 0 c).arrAt_eq_of_covers 11 _ (by decide +kernel) fun t _ y => ?_
  obtain ⟨r, k, rfl⟩ : ∃ (r : Fin 256) (k : Fin 128), y = ix2 r k := ⟨y 0, y 1, eq_ix2 y⟩
  rw [emb11, Cert.ProjRefIdeal.out6]
  blk_simp
  rw [after0_11]; unfold outsAt0; dsimp only; frame_out
  pointwise [k0_pay1, k0_pay21]
  exact gates m c t r k

theorem final12 (c : Dev nD) : (dats m 0 c).arrAt 12 (cfgs 0).N = Cert.ProjRefIdeal.Read.val_main_v222 (F := Ideal)
    (m ((c : Thread nD τ).loc main_arg0)) (m ((c : Thread nD τ).loc main_arg1)) (m ((c : Thread nD τ).loc main_arg2)) := by
  refine (dats m 0 c).arrAt_eq_of_covers 12 _ (by decide +kernel) fun t _ y => ?_
  obtain ⟨r, k, rfl⟩ : ∃ (r : Fin 256) (k : Fin 1024), y = ix2 r k := ⟨y 0, y 1, eq_ix2 y⟩
  rw [emb12, Cert.ProjRefIdeal.out7]
  blk_simp
  rw [after0_12]; unfold outsAt0; dsimp only; frame_out
  pointwise [k0_pay2]
  exact rest m c t r ⟨k.val, by omega⟩

theorem final13 (c : Dev nD) : (dats m 0 c).arrAt 13 (cfgs 0).N = Cert.ProjRefIdeal.Read.val_main_v223 (F := Ideal)
    (m ((c : Thread nD τ).loc main_arg0)) (m ((c : Thread nD τ).loc main_arg1)) (m ((c : Thread nD τ).loc main_arg2)) := by
  refine (dats m 0 c).arrAt_eq_of_covers 13 _ (by decide +kernel) fun t _ y => ?_
  obtain ⟨r, k, rfl⟩ : ∃ (r : Fin 256) (k : Fin 1024), y = ix2 r k := ⟨y 0, y 1, eq_ix2 y⟩
  rw [emb13, Cert.ProjRefIdeal.out8]
  blk_simp
  rw [after0_13]; unfold outsAt0; dsimp only; frame_out
  pointwise [k0_pay3]
  have e := rest m c t r ⟨1024 + k.val, by omega⟩
  simp only [show ∀ n : Nat, 2944 + (1024 + n) = 3968 + n by omega, show ∀ n : Nat, 2840 + (1024 + n) = 3864 + n by omega] at e
  exact e

end Cert.ProjIdeal.Proved
-- ==== Proof.Claims.Proj.lean ====
module

public import proofs.«01_k».proof.Defs
public import proofs.«01_k».proof.Proof.Gen.Proj.Frame
public import proofs.«01_k».proof.Proof.Gen.ProjRefIdeal.Run
public import proofs.«01_k».proof.Proof.Gen.ProjRefIdeal.Read
public import proofs.«01_k».proof.Proof.Proj.Value
public import Idealize.ShloMosaic.Lib.Claim
public import Idealize.ShloMosaic.Adequacy
public import Idealize.ShloMosaic.Init

@[expose] public section

noncomputable section

namespace Cert.Proof

open Idealize.ShloMosaic Idealize.SL.Sem

theorem frame_proj : Cert.quiescent_Proj := fun m ρ _ => Cert.Proj.Gen.frame m ρ

theorem frame_proj_ideal : Cert.quiescent_ProjIdeal := fun m ρ _ => Cert.ProjIdeal.Gen.frame m ρ

theorem frame_proj_ref : Cert.quiescent_ProjRefIdeal :=
  fun m ρ _ => (θ_run Cert.ProjRefIdeal.defs _ _).mono
    (fun r h => ⟨fun c => (h c).2.2.2.2.2.2.2.2.2, Idealize.ShloMosaic.sem_eq_zero_of_no_sems (by decide) r.2⟩)
    (Cert.ProjRefIdeal.Value.run m ρ)

/-- The reference's run with every result named by its last operation. -/
theorem run_proj_ref (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ fun r => ∀ c : Dev Cert.ProjRefIdeal.nD,
      r.2.mem ((c.tc : Thread Cert.ProjRefIdeal.nD Cert.ProjRefIdeal.τ).loc Cert.ProjRefIdeal.main_v215) = Cert.ProjRefIdeal.Read.val_main_v215 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v216) = Cert.ProjRefIdeal.Read.val_main_v216 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v217) = Cert.ProjRefIdeal.Read.val_main_v217 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v218) = Cert.ProjRefIdeal.Read.val_main_v218 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v219) = Cert.ProjRefIdeal.Read.val_main_v219 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v220) = Cert.ProjRefIdeal.Read.val_main_v220 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v221) = Cert.ProjRefIdeal.Read.val_main_v221 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v222) = Cert.ProjRefIdeal.Read.val_main_v222 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_v223) = Cert.ProjRefIdeal.Read.val_main_v223 (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))
      ∧ r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2) :=
  (θ_run Cert.ProjRefIdeal.defs _ _).mono (fun r h c =>
    ⟨(h c).1.trans (Cert.ProjRefIdeal.Read.val_main_v215_eq (StableHlo.launchContents m c)),
      (h c).2.1.trans (Cert.ProjRefIdeal.Read.val_main_v216_eq (StableHlo.launchContents m c)),
      (h c).2.2.1.trans (Cert.ProjRefIdeal.Read.val_main_v217_eq (StableHlo.launchContents m c)),
      (h c).2.2.2.1.trans (Cert.ProjRefIdeal.Read.val_main_v218_eq (StableHlo.launchContents m c)),
      (h c).2.2.2.2.1.trans (Cert.ProjRefIdeal.Read.val_main_v219_eq (StableHlo.launchContents m c)),
      (h c).2.2.2.2.2.1.trans (Cert.ProjRefIdeal.Read.val_main_v220_eq (StableHlo.launchContents m c)),
      (h c).2.2.2.2.2.2.1.trans (Cert.ProjRefIdeal.Read.val_main_v221_eq (StableHlo.launchContents m c)),
      (h c).2.2.2.2.2.2.2.1.trans (Cert.ProjRefIdeal.Read.val_main_v222_eq (StableHlo.launchContents m c)),
      (h c).2.2.2.2.2.2.2.2.1.trans (Cert.ProjRefIdeal.Read.val_main_v223_eq (StableHlo.launchContents m c)),
      (h c).2.2.2.2.2.2.2.2.2⟩) (Cert.ProjRefIdeal.Value.run m g)

theorem algebraic_proj : Cert.algebraic_ProjIdeal_ProjRefIdeal := by
  intro m g m' g' _ hagree
  refine ⟨fun c => (Cert.ProjIdeal.Gen.dats m 0 c).arrAt 5 Cert.ProjIdeal.cfg0.N, fun c => (Cert.ProjIdeal.Gen.dats m 0 c).arrAt 6 Cert.ProjIdeal.cfg0.N, fun c => (Cert.ProjIdeal.Gen.dats m 0 c).arrAt 7 Cert.ProjIdeal.cfg0.N, fun c => (Cert.ProjIdeal.Gen.dats m 0 c).arrAt 8 Cert.ProjIdeal.cfg0.N, fun c => (Cert.ProjIdeal.Gen.dats m 0 c).arrAt 9 Cert.ProjIdeal.cfg0.N, fun c => (Cert.ProjIdeal.Gen.dats m 0 c).arrAt 10 Cert.ProjIdeal.cfg0.N, fun c => (Cert.ProjIdeal.Gen.dats m 0 c).arrAt 11 Cert.ProjIdeal.cfg0.N, fun c => (Cert.ProjIdeal.Gen.dats m 0 c).arrAt 12 Cert.ProjIdeal.cfg0.N, fun c => (Cert.ProjIdeal.Gen.dats m 0 c).arrAt 13 Cert.ProjIdeal.cfg0.N, Cert.ProjIdeal.Value.run_blocks m g, ?_⟩
  refine (θ_run Cert.ProjRefIdeal.defs _ _).mono (fun r h c => ?_) (run_proj_ref m' g')
  obtain ⟨a0, a1, a2⟩ := hagree c
  obtain ⟨h0, h1, h2, h3, h4, h5, h6, h7, h8, k⟩ := h c
  rw [a0, a1, a2] at h0 h1 h2 h3 h4 h5 h6 h7 h8
  exact ⟨h0.trans (Cert.ProjIdeal.Proved.final5 m c).symm, h1.trans (Cert.ProjIdeal.Proved.final6 m c).symm, h2.trans (Cert.ProjIdeal.Proved.final7 m c).symm, h3.trans (Cert.ProjIdeal.Proved.final8 m c).symm, h4.trans (Cert.ProjIdeal.Proved.final9 m c).symm, h5.trans (Cert.ProjIdeal.Proved.final10 m c).symm, h6.trans (Cert.ProjIdeal.Proved.final11 m c).symm, h7.trans (Cert.ProjIdeal.Proved.final12 m c).symm, h8.trans (Cert.ProjIdeal.Proved.final13 m c).symm, k⟩

end Cert.Proof

end
-- ==== Proof.Proj.SampleRef.lean ====
module

public import proofs.«01_k».proof.Proof.Gen.ProjSampleRefIdeal.Read
public import proofs.«01_k».proof.Proof.Proj.Rot

@[expose] public section

set_option maxRecDepth 16384

noncomputable section

/-! The projection's reference, entry by entry: columns of one product, some of them turned by the rotary angles. -/

namespace Cert.ProjSampleRefIdeal

open Cert.ProjSampleRefIdeal.Gen Cert.ProjSampleRefIdeal.Read Cert.Proj Idealize.ShloMosaic

variable (x : FVec Ideal S32x4x1024 .f32) (g : FVec Ideal S1024 .f32) (w : FVec Ideal S1024x4888 .f32)

/-- A token's normalised entry. -/
def nrm (b : Fin 32) (t : Fin 4) (k : Fin 1024) : EReal :=
  x (ix3 b t k) * Ideal.rsqrt (Ideal.div (∑ k, x (ix3 b t k) * x (ix3 b t k)) (Ideal.ofBits .f32 1149239296#32)
          + Ideal.ofBits .f32 897988541#32) * g (ix1 k)

/-- Column `c` of the product with `w_in`. -/
def lin (b : Fin 32) (t : Fin 4) (c : Fin 4888) : EReal := ∑ k, nrm x g b t k * w (ix2 k c)

/-- The columns that are cut into heads. -/
def colm (b : Fin 32) (t : Fin 4) (c : Fin 2816) : EReal := lin x g w b t ⟨c.val, by omega⟩

/-- The rotary angle of token `t` at frequency `l`. -/
def ang (t : Fin 4) (l : Fin 32) : EReal := FloatOps.sitofp (F := Ideal) FTy.f32 (IntOp.addi (16384#32) (BitVec.ofNat 32 t.val)) *
      Ideal.pow (Ideal.ofBits FTy.f32 1176256512#32)
        (Ideal.div (-FloatOps.sitofp (F := Ideal) FTy.f32 (BitVec.ofNat 32 l.val)) (Ideal.ofBits FTy.f32 1107296256#32))

/-- Row `n`'s batch. -/
abbrev bt (n : Fin 128) : Fin 32 := ⟨n.val / 4, by omega⟩
/-- Row `n`'s token. -/
abbrev tk (n : Fin 128) : Fin 4 := ⟨n.val % 4, by omega⟩

theorem prod_at (b : Fin 32) (t : Fin 4) (c : Fin 4888) : val_main_v16 (F := Ideal) x g w (ix3 b t c) = lin x g w b t c := by
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1, nrm, lin]

theorem ang_at (t : Fin 4) (l : Fin 32) : val_main_v42 (F := Ideal) (ix2 t l) = ang t l := by
  pointwise [val_main_v42, val_main_v41, val_main_v40, val_main_v39, val_main_v38, val_main_v37, val_main_v36, val_main_v35, val_main_v34, val_main_v33, val_main_v32, val_main_v31, val_main_v2, val_main_v1, val_main_v0, val_main_c, val_main_cst_2, val_main_cst_3, ang]

theorem turn0 (b : Fin 32) (t : Fin 4) (h : Fin 8) (d : Fin 64) :
    val_main_v63 (F := Ideal) x g w (ix4 b t h d) = rotv (colm x g w b t) (ang t) ⟨0 + (h.val * 64 + d.val), by omega⟩ := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v30, val_main_v17, prod_at, ang_at]
  refine rotv_halves (lin x g w b t) (ang t) (0 + h.val * 64) d.val (by omega) (by omega) d.isLt _ ?_ _ _ _ _ _ _ _ _ ?_ ?_ ?_ ?_ ?_ ?_ ?_ ?_
  all_goals first | (intro h1; dsimp only; omega) | (dsimp only; omega)

theorem turn1 (b : Fin 32) (t : Fin 4) (h : Fin 8) (d : Fin 64) :
    val_main_v97 (F := Ideal) x g w (ix4 b t h d) = rotv (colm x g w b t) (ang t) ⟨512 + (h.val * 64 + d.val), by omega⟩ := by
  have e : val_main_v76 (F := Ideal) = val_main_v42 (F := Ideal) := rfl
  pointwise [val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v64, val_main_v18, prod_at, e, ang_at]
  refine rotv_halves (lin x g w b t) (ang t) (512 + h.val * 64) d.val (by omega) (by omega) d.isLt _ ?_ _ _ _ _ _ _ _ _ ?_ ?_ ?_ ?_ ?_ ?_ ?_ ?_
  all_goals first | (intro h1; dsimp only; omega) | (dsimp only; omega)

theorem turn2 (b : Fin 32) (t : Fin 4) (h : Fin 8) (d : Fin 64) :
    val_main_v135 (F := Ideal) x g w (ix4 b t h d) = rotv (colm x g w b t) (ang t) ⟨1536 + (h.val * 64 + d.val), by omega⟩ := by
  have e : val_main_v114 (F := Ideal) = val_main_v42 (F := Ideal) := rfl
  pointwise [val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v102, val_main_v20, prod_at, e, ang_at]
  refine rotv_halves (lin x g w b t) (ang t) (1536 + h.val * 64) d.val (by omega) (by omega) d.isLt _ ?_ _ _ _ _ _ _ _ _ ?_ ?_ ?_ ?_ ?_ ?_ ?_ ?_
  all_goals first | (intro h1; dsimp only; omega) | (dsimp only; omega)

theorem turn3 (b : Fin 32) (t : Fin 4) (h : Fin 2) (d : Fin 64) :
    val_main_v171 (F := Ideal) x g w (ix4 b t h d) = rotv (colm x g w b t) (ang t) ⟨2304 + (h.val * 64 + d.val), by omega⟩ := by
  have e : val_main_v150 (F := Ideal) = val_main_v42 (F := Ideal) := rfl
  pointwise [val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v138, val_main_v23, prod_at, e, ang_at]
  refine rotv_halves (lin x g w b t) (ang t) (2304 + h.val * 64) d.val (by omega) (by omega) d.isLt _ ?_ _ _ _ _ _ _ _ _ ?_ ?_ ?_ ?_ ?_ ?_ ?_ ?_
  all_goals first | (intro h1; dsimp only; omega) | (dsimp only; omega)

theorem turn4 (b : Fin 32) (t : Fin 4) (h : Fin 2) (d : Fin 64) :
    val_main_v211 (F := Ideal) x g w (ix4 b t h d) = rotv (colm x g w b t) (ang t) ⟨2560 + (h.val * 64 + d.val), by omega⟩ := by
  have e : val_main_v190 (F := Ideal) = val_main_v42 (F := Ideal) := rfl
  pointwise [val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v178, val_main_v25, prod_at, e, ang_at]
  refine rotv_halves (lin x g w b t) (ang t) (2560 + h.val * 64) d.val (by omega) (by omega) d.isLt _ ?_ _ _ _ _ _ _ _ _ ?_ ?_ ?_ ?_ ?_ ?_ ?_ ?_
  all_goals first | (intro h1; dsimp only; omega) | (dsimp only; omega)

theorem out0 (n : Fin 128) (k : Fin 512) : val_main_v217 (F := Ideal) x g w (ix2 n k) = rotv (colm x g w (bt n) (tk n)) (ang (tk n)) ⟨k.val, by omega⟩ := by
  pointwise [val_main_v217, turn0]
  refine congrArg _ (Fin.ext ?_); dsimp only; omega
theorem out1 (n : Fin 128) (k : Fin 1024) : val_main_v218 (F := Ideal) x g w (ix2 n k)
    = if k.val < 512 then rotv (colm x g w (bt n) (tk n)) (ang (tk n)) ⟨512 + k.val, by omega⟩ else colm x g w (bt n) (tk n) ⟨512 + k.val, by omega⟩ := by
  pointwise [val_main_v218, val_main_v101, val_main_v100, val_main_v99, val_main_v98, val_main_v19, turn1, prod_at]
  by_cases h : k.val < 512
  · refine (dif_pos (by omega)).trans (Eq.trans ?_ (if_pos h).symm)
    refine congrArg _ (Fin.ext ?_); dsimp only; omega
  · refine (dif_neg (by omega)).trans (Eq.trans ?_ (if_neg h).symm)
    unfold colm
    refine congrArg _ (Fin.ext ?_); dsimp only; omega
theorem out2 (n : Fin 128) (k : Fin 512) : val_main_v219 (F := Ideal) x g w (ix2 n k) = colm x g w (bt n) (tk n) ⟨1536 + k.val, by omega⟩ := by
  pointwise [val_main_v219, val_main_v102, val_main_v20, prod_at]
  rfl
theorem out3 (n : Fin 128) (k : Fin 512) : val_main_v220 (F := Ideal) x g w (ix2 n k) = rotv (colm x g w (bt n) (tk n)) (ang (tk n)) ⟨1536 + k.val, by omega⟩ := by
  pointwise [val_main_v220, turn2]
  refine congrArg _ (Fin.ext ?_); dsimp only; omega
theorem out4 (n : Fin 128) (k : Fin 512) : val_main_v221 (F := Ideal) x g w (ix2 n k)
    = if k.val / 128 = 2 then rotv (colm x g w (bt n) (tk n)) (ang (tk n)) ⟨2048 + k.val, by omega⟩ else colm x g w (bt n) (tk n) ⟨2048 + k.val, by omega⟩ := by
  pointwise [val_main_v221, val_main_v177, val_main_v176, val_main_v175, val_main_v174, val_main_v173, val_main_v172, val_main_v137, val_main_v136, val_main_v24, val_main_v22, val_main_v21, turn3, prod_at]
  by_cases h0 : k.val / 128 < 1
  · refine (dif_pos h0).trans (Eq.trans ?_ (if_neg (by omega)).symm)
    unfold colm
    refine congrArg _ (Fin.ext ?_); dsimp only; omega
  refine (dif_neg h0).trans ?_
  by_cases h1 : k.val / 128 - 1 < 1
  · refine (dif_pos h1).trans (Eq.trans ?_ (if_neg (by omega)).symm)
    unfold colm
    refine congrArg _ (Fin.ext ?_); dsimp only; omega
  refine (dif_neg h1).trans ?_
  by_cases h2 : k.val / 128 - 1 - 1 < 1
  · refine (dif_pos h2).trans (Eq.trans ?_ (if_pos (by omega)).symm)
    refine congrArg _ (Fin.ext ?_); dsimp only; omega
  refine (dif_neg h2).trans (Eq.trans ?_ (if_neg (by omega)).symm)
  unfold colm
  refine congrArg _ (Fin.ext ?_); dsimp only; omega
theorem out5 (n : Fin 128) (k : Fin 256) : val_main_v222 (F := Ideal) x g w (ix2 n k)
    = if k.val < 128 then rotv (colm x g w (bt n) (tk n)) (ang (tk n)) ⟨2560 + k.val, by omega⟩ else colm x g w (bt n) (tk n) ⟨2560 + k.val, by omega⟩ := by
  pointwise [val_main_v222, val_main_v215, val_main_v214, val_main_v213, val_main_v212, val_main_v26, turn4, prod_at]
  by_cases h : k.val < 128
  · refine (dif_pos (by omega)).trans (Eq.trans ?_ (if_pos h).symm)
    refine congrArg _ (Fin.ext ?_); dsimp only; omega
  · refine (dif_neg (by omega)).trans (Eq.trans ?_ (if_neg h).symm)
    unfold colm
    refine congrArg _ (Fin.ext ?_); dsimp only; omega
theorem out6 (n : Fin 128) (k : Fin 128) : val_main_v223 (F := Ideal) x g w (ix2 n k)
    = if h : k.val < 24 then lin x g w (bt n) (tk n) ⟨2816 + k.val, by omega⟩ else 0 := by
  pointwise [val_main_v223, val_main_v216, val_main_call0_v0, val_main_v27, prod_at]
  by_cases h : k.val < 24
  · refine (dif_pos ⟨by omega, by omega, h⟩).trans (Eq.trans ?_ (dif_pos h).symm)
    rfl
  · refine (dif_neg fun e => h e.2.2).trans (Eq.trans ?_ (dif_neg h).symm)
    show ((((0#32 : BitVec 32).toInt : ℝ)) : EReal) = 0
    simp
theorem out7 (n : Fin 128) (k : Fin 1024) : val_main_v224 (F := Ideal) x g w (ix2 n k) = lin x g w (bt n) (tk n) ⟨2840 + k.val, by omega⟩ := by
  pointwise [val_main_v224, val_main_v28, prod_at]
theorem out8 (n : Fin 128) (k : Fin 1024) : val_main_v225 (F := Ideal) x g w (ix2 n k) = lin x g w (bt n) (tk n) ⟨3864 + k.val, by omega⟩ := by
  pointwise [val_main_v225, val_main_v29, prod_at]

end Cert.ProjSampleRefIdeal
-- ==== Proof.Proj.SampleValue.lean ====
module

public import proofs.«01_k».proof.Proof.Gen.ProjSampleIdeal.Value
public import proofs.«01_k».proof.Proof.Proj.SampleRef

@[expose] public section

set_option maxRecDepth 16384

noncomputable section

/-! The projection kernel: one block of 128 rows, entry by entry, over any blocks; then every result array. -/

namespace Cert.ProjSampleIdeal.Proved

open Cert.ProjSampleIdeal Cert.ProjSampleIdeal.Gen Cert.Proj Idealize.ShloMosaic Idealize.ShloMosaic.TcCoe Idealize.SL.Sem
open Idealize.ShloMosaic.Pipeline (Dat)
open Cert.ProjSampleRefIdeal (nrm lin colm ang bt tk)

/-- The lanes of a head's first half. -/
theorem half_at (l : Fin 128) : k0_pay7 (ix2 0 l) = if l.val % 64 < 32 then 1#1 else 0#1 := by
  revert l; decide +kernel

/-- A tile of 128 lanes turned by the tables. -/
def turned (p cs sn : FVec Ideal S128x128 .f32) (q : IVec S1x128 1) : FVec Ideal S128x128 .f32 :=
  addf (mulf p cs) (mulf (select (broadcastTo S128x128 (shapeCast S1x128 q shapeCasts_S1x128_S1x128) broadcasts_S1x128_S128x128)
    (dynamicRotate 1 96#32 none p rotates_S128x128_d1) (dynamicRotate 1 32#32 none p rotates_S128x128_d1)) sn)

theorem turned_at (p cs sn : FVec Ideal S128x128 .f32) (r : Fin 128) (l : Fin 128) :
    turned p cs sn k0_pay7 (ix2 r l) = p (ix2 r l) * cs (ix2 r l) + p (ix2 r (mate (by decide) l)) * sn (ix2 r l) := by
  pointwise [turned, half_at]
  have e : Scalar.select (if l.val % 64 < 32 then 1#1 else 0#1) (p (ix2 r ⟨(l.val + 128 - 96) % 128, by omega⟩))
      (p (ix2 r ⟨(l.val + 128 - 32) % 128, by omega⟩)) = p (ix2 r (mate (by decide) l)) := by
    have hm := mate_val (by decide) l
    by_cases h : l.val % 64 < 32
    · rw [if_pos h]
      rw [if_pos h] at hm
      exact congrArg (fun j => p (ix2 r j)) (Fin.ext (by rw [hm]; dsimp only; omega))
    · rw [if_neg h]
      rw [if_neg h] at hm
      exact congrArg (fun j => p (ix2 r j)) (Fin.ext (by rw [hm]; dsimp only; omega))
  exact congrArg (fun z => p (ix2 r l) * cs (ix2 r l) + z * sn (ix2 r l)) e

/-- Four tiles side by side. -/
theorem tiles_at (a b c d : FVec Ideal S128x128 .f32) (f : Fin 512 → EReal) (r : Fin 128) (k : Fin 512)
    (ha : ∀ l : Fin 128, a (ix2 r l) = f ⟨l.val, by omega⟩) (hb : ∀ l : Fin 128, b (ix2 r l) = f ⟨128 + l.val, by omega⟩)
    (hc : ∀ l : Fin 128, c (ix2 r l) = f ⟨256 + l.val, by omega⟩) (hd : ∀ l : Fin 128, d (ix2 r l) = f ⟨384 + l.val, by omega⟩) :
    concatenate S128x512 1 [⟨S128x128, a⟩, ⟨S128x128, b⟩, ⟨S128x128, c⟩, ⟨S128x128, d⟩] concatenates_S128x128_S128x128_S128x128_S128x128_S128x512_d1 (ix2 r k) = f k := by
  pointwise [ha, hb, hc, hd]
  split_ifs
  all_goals (refine congrArg f (Fin.ext ?_); dsimp only; try omega)

/-- A row of 512 lanes turned tile by tile. -/
def wide (P : FVec Ideal S128x512 .f32) (cs sn : FVec Ideal S128x128 .f32) (q : IVec S1x128 1) : FVec Ideal S128x512 .f32 :=
  concatenate S128x512 1 [⟨S128x128, turned (extractStridedSlice S128x128 ![0, 0] P slices_S128x512_o0_0_S128x128) cs sn q⟩,
    ⟨S128x128, turned (extractStridedSlice S128x128 ![0, 128] P slices_S128x512_o0_128_S128x128) cs sn q⟩,
    ⟨S128x128, turned (extractStridedSlice S128x128 ![0, 256] P slices_S128x512_o0_256_S128x128) cs sn q⟩,
    ⟨S128x128, turned (extractStridedSlice S128x128 ![0, 384] P slices_S128x512_o0_384_S128x128) cs sn q⟩] concatenates_S128x128_S128x128_S128x128_S128x128_S128x512_d1

/-- A tile whose entries are 128 columns of a row, from a column that starts a tile, turned: those columns turned. -/
theorem turn_rot (p cs sn : FVec Ideal S128x128 .f32) (L : Fin 2816 → EReal) (A : Fin 32 → EReal) (o : Nat) (ho : o % 128 = 0) (hle : o + 128 ≤ 2816) (r : Fin 128)
    (hp : ∀ l : Fin 128, p (ix2 r l) = L ⟨o + l.val, by omega⟩) (hcs : ∀ l : Fin 128, cs (ix2 r l) = cosT A l) (hsn : ∀ l : Fin 128, sn (ix2 r l) = sinT A l) (l : Fin 128) :
    turned p cs sn k0_pay7 (ix2 r l) = rotv L A ⟨o + l.val, by omega⟩ := by
  rw [turned_at, hp, hp, hcs, hsn]
  refine Eq.trans ?_ (rotv_tables L A ⟨o + l.val, by omega⟩ l (by dsimp only; omega))
  refine congrArg (fun z => L ⟨o + l.val, by omega⟩ * cosT A l + z * sinT A l) (congrArg L (Fin.ext ?_))
  simp only [mate_val]
  split_ifs <;> omega

theorem wide_rot (P : FVec Ideal S128x512 .f32) (cs sn : FVec Ideal S128x128 .f32) (L : Fin 2816 → EReal) (A : Fin 32 → EReal) (o : Nat) (ho : o % 128 = 0) (hle : o + 512 ≤ 2816) (r : Fin 128)
    (hp : ∀ k : Fin 512, P (ix2 r k) = L ⟨o + k.val, by omega⟩) (hcs : ∀ l : Fin 128, cs (ix2 r l) = cosT A l) (hsn : ∀ l : Fin 128, sn (ix2 r l) = sinT A l) (k : Fin 512) :
    wide P cs sn k0_pay7 (ix2 r k) = rotv L A ⟨o + k.val, by omega⟩ := by
  unfold wide
  refine tiles_at _ _ _ _ (fun k => rotv L A ⟨o + k.val, by omega⟩) r k ?_ ?_ ?_ ?_
  · exact turn_rot _ _ _ L A o ho (by omega) r (fun l => by pointwise [hp]) hcs hsn
  · intro l
    refine (turn_rot _ _ _ L A (o + 128) (by omega) (by omega) r (fun l => ?_) hcs hsn l).trans (congrArg (rotv L A) (Fin.ext (by dsimp only; omega)))
    pointwise [hp]
    exact congrArg L (Fin.ext (by dsimp only; omega))
  · intro l
    refine (turn_rot _ _ _ L A (o + 256) (by omega) (by omega) r (fun l => ?_) hcs hsn l).trans (congrArg (rotv L A) (Fin.ext (by dsimp only; omega)))
    pointwise [hp]
    exact congrArg L (Fin.ext (by dsimp only; omega))
  · intro l
    refine (turn_rot _ _ _ L A (o + 384) (by omega) (by omega) r (fun l => ?_) hcs hsn l).trans (congrArg (rotv L A) (Fin.ext (by dsimp only; omega)))
    pointwise [hp]
    exact congrArg L (Fin.ext (by dsimp only; omega))

/-- Two tiles after a pair of tiles fill the block. -/
theorem cover_three (P Q : FVec Ideal S128x128 .f32) (S : FVec Ideal S128x256 .f32) (r : Fin 128) (k : Fin 512) :
    ∃ p ∈ ([⟨Rect.unit ![0, 384] ![128, 128] inb_S128x512_S128x128_0_384, P⟩, ⟨Rect.unit ![0, 256] ![128, 128] inb_S128x512_S128x128_0_256, Q⟩,
      ⟨Rect.unit ![0, 0] ![128, 256] inb_S128x512_S128x256_0_0, S⟩] : List (View.Piece (Elt Ideal) S128x512 .f32)), ix2 r k ∈ p.fst.set := by
  by_cases h3 : 384 ≤ k.val
  · exact ⟨_, List.mem_cons_self, (Rect.mem_set_unit (inb := inb_S128x512_S128x128_0_384)).mpr (Fin.forall_fin_two.mpr ⟨⟨Nat.zero_le _, by show r.val < 0 + 128; omega⟩, ⟨h3, by show k.val < 384 + 128; omega⟩⟩)⟩
  · by_cases h2 : 256 ≤ k.val
    · exact ⟨_, List.mem_cons_of_mem _ List.mem_cons_self, (Rect.mem_set_unit (inb := inb_S128x512_S128x128_0_256)).mpr (Fin.forall_fin_two.mpr ⟨⟨Nat.zero_le _, by show r.val < 0 + 128; omega⟩, ⟨h2, by show k.val < 256 + 128; omega⟩⟩)⟩
    · exact ⟨_, List.mem_cons_of_mem _ (List.mem_cons_of_mem _ List.mem_cons_self), (Rect.mem_set_unit (inb := inb_S128x512_S128x256_0_0)).mpr (Fin.forall_fin_two.mpr ⟨⟨Nat.zero_le _, by show r.val < 0 + 128; omega⟩, ⟨Nat.zero_le _, by show k.val < 0 + 256; omega⟩⟩)⟩

theorem pay8_wide (U : FVec Ideal S128x1024 .bf16) (cs sn : FVec Ideal S128x128 .f32) (q : IVec S1x128 1) (W : Vec Ideal S1024x512 .bf16) :
    k0_pay8 U cs sn q W = wide (k0_pay9 U W) cs sn q := rfl

theorem pay10_wide (P : FVec Ideal S128x512 .f32) (cs sn : FVec Ideal S128x128 .f32) (q : IVec S1x128 1) : k0_pay10 cs sn q P = wide P cs sn q := rfl

theorem pay13_wide (U : FVec Ideal S128x1024 .bf16) (cs sn : FVec Ideal S128x128 .f32) (q : IVec S1x128 1) (W : Vec Ideal S1024x512 .bf16) :
    k0_pay13 U cs sn q W = wide (k0_pay12 U W) cs sn q := rfl

theorem pay16_turned (U : FVec Ideal S128x1024 .bf16) (cs sn : FVec Ideal S128x128 .f32) (q : IVec S1x128 1) (W : Vec Ideal S1024x512 .bf16) :
    k0_pay16 U cs sn q W = turned (extractStridedSlice S128x128 ![0, 256] (k0_pay14 U W) slices_S128x512_o0_256_S128x128) cs sn q := rfl

theorem pay19_turned (U : FVec Ideal S128x1024 .bf16) (cs sn : FVec Ideal S128x128 .f32) (q : IVec S1x128 1) (W : Vec Ideal S1024x256 .bf16) :
    k0_pay19 U cs sn q W = turned (extractStridedSlice S128x128 ![0, 0] (k0_pay18 U W) slices_S128x256_o0_0_S128x128) cs sn q := rfl

theorem u_at (v0 : Vec Ideal S128x1024 .f32) (v2 : Vec Ideal S1x1024 .f32) (r : Fin 128) (k : Fin 1024) : k0_pay4 (F := Ideal) v0 v2 (ix2 r k)
    = v0 (ix2 r k) * Ideal.rsqrt (Ideal.div (∑ k, v0 (ix2 r k) * v0 (ix2 r k)) (Ideal.ofBits .f32 1149239296#32)
          + Ideal.ofBits .f32 897988541#32) * v2 (ix2 0 k) := by
  pointwise [k0_pay4]

variable (m : (ℓ : Loc nD τ sig) → Buf (Elt Ideal) ℓ)

/-- Row `y` of block `t`. -/
abbrev row (t : Fin cfg0.N) (y : Fin 128) : Fin 128 := ⟨t.val * 128 + y.val, by have : t.val < 1 := t.isLt; omega⟩

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0] :=
  (by decide +kernel : ∀ t : Fin grid0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0])

theorem emb0 (t : Fin cfg0.N) (y : Fin 128) (k : Fin 1024) : ((cfg0.win 0).blk t).view.emb (ix2 y k) = (ix2 (row t y) k : S128x1024.Idx) := by
  blk_ext [idx t]
theorem emb1 (t : Fin cfg0.N) (k : Fin 1024) : ((cfg0.win 1).blk t).view.emb (ix2 0 k) = (ix2 0 k : S1x1024.Idx) := by
  blk_ext [idx t]
theorem emb2 (t : Fin cfg0.N) (k : Fin 1024) (c : Fin 4992) : ((cfg0.win 2).blk t).view.emb (ix2 k c) = (ix2 k c : S1024x4992.Idx) := by
  blk_ext [idx t]
theorem emb3 (t : Fin cfg0.N) (y : Fin 128) (l : Fin 128) : ((cfg0.win 3).blk t).view.emb (ix2 y l) = (ix2 y l : S128x128.Idx) := by
  blk_ext [idx t]
theorem emb4 (t : Fin cfg0.N) (y : Fin 128) (l : Fin 128) : ((cfg0.win 4).blk t).view.emb (ix2 y l) = (ix2 y l : S128x128.Idx) := by
  blk_ext [idx t]
theorem emb5 (t : Fin cfg0.N) (y : Fin 128) (k : Fin 512) : ((cfg0.win 5).blk t).view.emb (ix2 y k) = (ix2 (row t y) k : S128x512.Idx) := by
  blk_ext [idx t]
theorem emb6 (t : Fin cfg0.N) (y : Fin 128) (k : Fin 1024) : ((cfg0.win 6).blk t).view.emb (ix2 y k) = (ix2 (row t y) k : S128x1024.Idx) := by
  blk_ext [idx t]
theorem emb7 (t : Fin cfg0.N) (y : Fin 128) (k : Fin 512) : ((cfg0.win 7).blk t).view.emb (ix2 y k) = (ix2 (row t y) k : S128x512.Idx) := by
  blk_ext [idx t]
theorem emb8 (t : Fin cfg0.N) (y : Fin 128) (k : Fin 512) : ((cfg0.win 8).blk t).view.emb (ix2 y k) = (ix2 (row t y) k : S128x512.Idx) := by
  blk_ext [idx t]
theorem emb9 (t : Fin cfg0.N) (y : Fin 128) (k : Fin 512) : ((cfg0.win 9).blk t).view.emb (ix2 y k) = (ix2 (row t y) k : S128x512.Idx) := by
  blk_ext [idx t]
theorem emb10 (t : Fin cfg0.N) (y : Fin 128) (k : Fin 256) : ((cfg0.win 10).blk t).view.emb (ix2 y k) = (ix2 (row t y) k : S128x256.Idx) := by
  blk_ext [idx t]
theorem emb11 (t : Fin cfg0.N) (y : Fin 128) (k : Fin 128) : ((cfg0.win 11).blk t).view.emb (ix2 y k) = (ix2 (row t y) k : S128x128.Idx) := by
  blk_ext [idx t]
theorem emb12 (t : Fin cfg0.N) (y : Fin 128) (k : Fin 1024) : ((cfg0.win 12).blk t).view.emb (ix2 y k) = (ix2 (row t y) k : S128x1024.Idx) := by
  blk_ext [idx t]
theorem emb13 (t : Fin cfg0.N) (y : Fin 128) (k : Fin 1024) : ((cfg0.win 13).blk t).view.emb (ix2 y k) = (ix2 (row t y) k : S128x1024.Idx) := by
  blk_ext [idx t]

/-- The host's operations before the kernel as one list. -/
theorem opened (c : Dev nD) (b : Ref sig .tc) : V m c b = StableHlo.after (hostOps0 ++ (hostOps0_1 ++ hostOps0_2)) (fun b => m (c, b)) b := by
  unfold V
  simp only [List.flatten_cons, List.flatten_nil, List.append_nil]

theorem blk0 (c : Dev nD) (t : Fin cfg0.N) (y : Fin 128) (k : Fin 1024) : iblk m c 0 t (ix2 y k)
    = m ((c : Thread nD τ).loc main_arg0) (ix3 (bt (row t y)) (tk (row t y)) k) := by
  have hV : iblk m c 0 t (ix2 y k) = V m c main_v6 (((cfg0.win 0).blk t).view.emb (ix2 y k)) := rfl
  rw [hV, emb0]; rw [opened]; simp only [hostOps0, hostOps0_1, hostOps0_2, List.cons_append, List.nil_append]; entry_read; pointwise
  have ht : t.val < 1 := t.isLt
  exact congrArg₂ (fun a b => m ((c : Thread nD τ).loc main_arg0) (ix3 a b k)) (Fin.ext (by dsimp only; omega)) (Fin.ext (by dsimp only; omega))

theorem blk1 (c : Dev nD) (t : Fin cfg0.N) (k : Fin 1024) : iblk m c 1 t (ix2 0 k) = m ((c : Thread nD τ).loc main_arg1) (ix1 k) := by
  have hV : iblk m c 1 t (ix2 0 k) = V m c main_v39 (((cfg0.win 1).blk t).view.emb (ix2 0 k)) := rfl
  rw [hV, emb1]; rw [opened]; simp only [hostOps0, hostOps0_1, hostOps0_2, List.cons_append, List.nil_append]; entry_read; pointwise

/-- Two lists of host operations, one after the other. -/
theorem after_two {α : Topo} {β : RefSig} {Val : EltTy → Type} (l₁ l₂ : List (HloOp α β Val)) (V : Valuation α β Val) :
    StableHlo.after (l₁ ++ l₂) V = StableHlo.after l₂ (StableHlo.after l₁ V) := by
  induction l₁ generalizing V with
  | nil => rfl
  | cons op l ih => exact ih _

theorem pad_read (σ : Valuation τ sig (Elt Ideal)) : StableHlo.after (hostOps0_1 (F := Ideal)) σ (Proc.devRef .tc main_v2)
    = (pad S1024x128 ![0, 0] ![0, 104] ![0, 0] (σ (Proc.devRef .tc main_v1) : FVec Ideal S1024x24 .f32) (sitofp .f32 (σ (Proc.devRef .tc main_c) : IVec S_ 32) : FVec Ideal S_ .f32) pads_S1024x24_S1024x128_000_01040 h_S_ : FVec Ideal S1024x128 .f32) := by
  simp only [hostOps0_1]
  entry_read
  rfl

theorem keep_v0 (σ : Valuation τ sig (Elt Ideal)) : StableHlo.after (hostOps0_1 (F := Ideal)) σ (Proc.devRef .tc main_v0) = σ (Proc.devRef .tc main_v0) := by
  simp only [hostOps0_1]
  entry_read
  rfl

theorem keep_arg2 (σ : Valuation τ sig (Elt Ideal)) : StableHlo.after (hostOps0_1 (F := Ideal)) σ (Proc.devRef .tc main_arg2) = σ (Proc.devRef .tc main_arg2) := by
  simp only [hostOps0_1]
  entry_read
  rfl

theorem first_reads (σ : Valuation τ sig (Elt Ideal)) :
    StableHlo.after (hostOps0 (F := Ideal)) σ (Proc.devRef .tc main_v0) = (extractStridedSlice S1024x2816 ![0, 0] (σ (Proc.devRef .tc main_arg2) : FVec Ideal S1024x4888 .f32) slices_S1024x4888_S1024x2816_0_0 : FVec Ideal S1024x2816 .f32)
    ∧ StableHlo.after (hostOps0 (F := Ideal)) σ (Proc.devRef .tc main_v1) = (extractStridedSlice S1024x24 ![0, 2816] (σ (Proc.devRef .tc main_arg2) : FVec Ideal S1024x4888 .f32) slices_S1024x4888_S1024x24_0_2816 : FVec Ideal S1024x24 .f32)
    ∧ StableHlo.after (hostOps0 (F := Ideal)) σ (Proc.devRef .tc main_c) = (constantI S_ 32 0#32 : IVec S_ 32)
    ∧ StableHlo.after (hostOps0 (F := Ideal)) σ (Proc.devRef .tc main_arg2) = σ (Proc.devRef .tc main_arg2) := by
  simp only [hostOps0]
  refine ⟨?_, ?_, ?_, ?_⟩
  all_goals (entry_read; try rfl)

theorem drop_keep (σ : Valuation τ sig (Elt Ideal)) : StableHlo.after ((hostOps0_2 (F := Ideal)).drop 3) σ (Proc.devRef .tc main_v5) = σ (Proc.devRef .tc main_v5) := by
  simp only [hostOps0_2, List.drop_succ_cons, List.drop_zero]
  entry_read
  rfl

theorem take_read (σ : Valuation τ sig (Elt Ideal)) : StableHlo.after ((hostOps0_2 (F := Ideal)).take 3) σ (Proc.devRef .tc main_v5)
 = (truncf .bf16 (concatenate S1024x4992 1 [⟨S1024x2816, (σ (Proc.devRef .tc main_v0) : FVec Ideal S1024x2816 .f32)⟩, ⟨S1024x128, (σ (Proc.devRef .tc main_v2) : FVec Ideal S1024x128 .f32)⟩,
        ⟨S1024x2048, (extractStridedSlice S1024x2048 ![0, 2840] (σ (Proc.devRef .tc main_arg2) : FVec Ideal S1024x4888 .f32) slices_S1024x4888_S1024x2048_0_2840 : FVec Ideal S1024x2048 .f32)⟩] concatenates_S1024x2816_S1024x128_S1024x2048_S1024x4992_d1 : FVec Ideal S1024x4992 .f32) bitsLt_bf16_f32 : FVec Ideal S1024x4992 .bf16) := by
  simp only [hostOps0_2, List.take_succ_cons, List.take_zero, StableHlo.after_cons, StableHlo.after_nil]
  refine (StableHlo.unary_result ..).trans ?_
  refine congrArg (fun z : FVec Ideal S1024x4992 .f32 => (truncf .bf16 z bitsLt_bf16_f32 : FVec Ideal S1024x4992 .bf16)) ?_
  refine (StableHlo.nary_result ..).trans ?_
  refine StableHlo.concatenate_congr _ _ ?_ _ _
  refine congrArg₂ List.cons (congrArg (Sigma.mk _) ?_) (congrArg₂ List.cons (congrArg (Sigma.mk _) ?_) (congrArg₂ List.cons (congrArg (Sigma.mk _) ?_) rfl))
  · exact StableHlo.unary_result_ne _ _ _ _ _ _ (by decide)
  · exact StableHlo.unary_result_ne _ _ _ _ _ _ (by decide)
  · exact StableHlo.unary_result ..

theorem split_read (σ : Valuation τ sig (Elt Ideal)) : StableHlo.after (hostOps0_2 (F := Ideal)) σ (Proc.devRef .tc main_v5) = StableHlo.after ((hostOps0_2 (F := Ideal)).take 3) σ (Proc.devRef .tc main_v5) := by
  have e := after_two ((hostOps0_2 (F := Ideal)).take 3) ((hostOps0_2 (F := Ideal)).drop 3) σ
  rw [List.take_append_drop] at e
  rw [e, drop_keep]

theorem pack_at (a : FVec Ideal S1024x4888 .f32) (k : Fin 1024) (d : Fin 4992) :
    (truncf .bf16 (concatenate S1024x4992 1 [⟨S1024x2816, (extractStridedSlice S1024x2816 ![0, 0] a slices_S1024x4888_S1024x2816_0_0 : FVec Ideal S1024x2816 .f32)⟩,
        ⟨S1024x128, (pad S1024x128 ![0, 0] ![0, 104] ![0, 0] (extractStridedSlice S1024x24 ![0, 2816] a slices_S1024x4888_S1024x24_0_2816 : FVec Ideal S1024x24 .f32) (sitofp .f32 (constantI S_ 32 0#32) : FVec Ideal S_ .f32) pads_S1024x24_S1024x128_000_01040 h_S_ : FVec Ideal S1024x128 .f32)⟩,
        ⟨S1024x2048, (extractStridedSlice S1024x2048 ![0, 2840] a slices_S1024x4888_S1024x2048_0_2840 : FVec Ideal S1024x2048 .f32)⟩] concatenates_S1024x2816_S1024x128_S1024x2048_S1024x4992_d1 : FVec Ideal S1024x4992 .f32) bitsLt_bf16_f32 : FVec Ideal S1024x4992 .bf16) (ix2 k d)
    = (if h : d.val < 2816 then a (ix2 k ⟨d.val, by omega⟩)
      else if h : d.val - 2816 < 128 then (if h : d.val - 2816 < 24 then a (ix2 k ⟨2816 + (d.val - 2816), by omega⟩) else 0)
      else a (ix2 k ⟨2840 + (d.val - 2816 - 128), by omega⟩) : EReal) := by
  have hz : (FloatOps.sitofp (F := Ideal) FTy.f32 (0#32 : BitVec 32) : EReal) = 0 := by
    show ((((0#32 : BitVec 32).toInt : ℝ)) : EReal) = 0
    simp
  pointwise [hz]

/-- The packed weight: the heads' columns, the gates' columns with zeros after them, the rest. -/
theorem blk2 (c : Dev nD) (t : Fin cfg0.N) (k : Fin 1024) (d : Fin 4992) : iblk m c 2 t (ix2 k d)
    = (if h : d.val < 2816 then m ((c : Thread nD τ).loc main_arg2) (ix2 k ⟨d.val, by omega⟩)
      else if h : d.val - 2816 < 128 then (if h : d.val - 2816 < 24 then m ((c : Thread nD τ).loc main_arg2) (ix2 k ⟨2816 + (d.val - 2816), by omega⟩) else 0)
      else m ((c : Thread nD τ).loc main_arg2) (ix2 k ⟨2840 + (d.val - 2816 - 128), by omega⟩) : EReal) := by
  have hV : iblk m c 2 t (ix2 k d) = V m c main_v5 (((cfg0.win 2).blk t).view.emb (ix2 k d)) := rfl
  obtain ⟨h0, h1, h2, h3⟩ := first_reads (fun b => m (c, b))
  rw [hV, emb2, opened, after_two, after_two]
  refine (congrFun ((split_read _).trans (take_read _)) (ix2 k d)).trans ?_
  rw [keep_v0, keep_arg2, pad_read, h0, h1, h2, h3]
  exact pack_at _ k d

theorem blk3 (c : Dev nD) (t : Fin cfg0.N) (y : Fin 128) (l : Fin 128) : iblk m c 3 t (ix2 y l) = cosT (ang (tk (row t y))) l := by
  have hV : iblk m c 3 t (ix2 y l) = V m c main_v35 (((cfg0.win 3).blk t).view.emb (ix2 y l)) := rfl
  rw [hV, emb3]; rw [opened]; simp only [hostOps0, hostOps0_1, hostOps0_2, List.cons_append, List.nil_append]; entry_read; pointwise [cosT, ang]
  rcases Nat.lt_or_ge (l.val % 64) 32 with h | h
  · rw [dif_pos h, show l.val % 64 = l.val % 32 by omega]
  · rw [dif_neg (by omega), show l.val % 64 - 32 = l.val % 32 by omega]

theorem blk4 (c : Dev nD) (t : Fin cfg0.N) (y : Fin 128) (l : Fin 128) : iblk m c 4 t (ix2 y l) = sinT (ang (tk (row t y))) l := by
  have hV : iblk m c 4 t (ix2 y l) = V m c main_v38 (((cfg0.win 4).blk t).view.emb (ix2 y l)) := rfl
  rw [hV, emb4]; rw [opened]; simp only [hostOps0, hostOps0_1, hostOps0_2, List.cons_append, List.nil_append]; entry_read; pointwise [sinT, ang]
  rcases Nat.lt_or_ge (l.val % 64) 32 with h | h
  · rw [dif_pos h, if_pos h, show l.val % 64 = l.val % 32 by omega]
  · rw [dif_neg (by omega), if_neg (by omega), show l.val % 64 - 32 = l.val % 32 by omega]

theorem blkm (c : Dev nD) (t : Fin cfg0.N) (k : Fin 1024) (d : Fin 2816) : iblk m c 2 t (ix2 k ⟨d.val, by omega⟩) = m ((c : Thread nD τ).loc main_arg2) (ix2 k ⟨d.val, by omega⟩) :=
  (blk2 m c t k _).trans (dif_pos d.isLt)

theorem blkg (c : Dev nD) (t : Fin cfg0.N) (k : Fin 1024) (d : Fin 128) : iblk m c 2 t (ix2 k ⟨2816 + d.val, by omega⟩)
    = if h : d.val < 24 then m ((c : Thread nD τ).loc main_arg2) (ix2 k ⟨2816 + d.val, by omega⟩) else (0 : EReal) := by
  refine (blk2 m c t k _).trans ((dif_neg (by dsimp only; omega)).trans ((dif_pos (by dsimp only; omega)).trans ?_))
  by_cases h : d.val < 24
  · refine (dif_pos (by dsimp only; omega)).trans (Eq.trans ?_ (dif_pos h).symm)
    exact congrArg (fun j => m ((c : Thread nD τ).loc main_arg2) (ix2 k j)) (Fin.ext (by dsimp only; omega))
  · rw [dif_neg h]
    exact dif_neg (by dsimp only; omega)

theorem blko (c : Dev nD) (t : Fin cfg0.N) (k : Fin 1024) (d : Fin 2048) : iblk m c 2 t (ix2 k ⟨2944 + d.val, by omega⟩)
    = m ((c : Thread nD τ).loc main_arg2) (ix2 k ⟨2840 + d.val, by omega⟩) := by
  refine (blk2 m c t k _).trans ((dif_neg (by dsimp only; omega)).trans ((dif_neg (by dsimp only; omega)).trans ?_))
  exact congrArg (fun j => m ((c : Thread nD τ).loc main_arg2) (ix2 k j)) (Fin.ext (by dsimp only; omega))

/-- A row of the kernel's normalised block. -/
theorem u_nrm (c : Dev nD) (t : Fin cfg0.N) (r : Fin 128) (k : Fin 1024) : k0_pay4 (F := Ideal) (iblk m c 0 t) (iblk m c 1 t) (ix2 r k)
    = nrm (m ((c : Thread nD τ).loc main_arg0)) (m ((c : Thread nD τ).loc main_arg1)) (bt (row t r)) (tk (row t r)) k := by
  refine (u_at _ _ r k).trans ?_
  simp only [blk0, blk1]
  rfl

/-- The product of a row and a column that is cut into heads. -/
theorem cols (c : Dev nD) (t : Fin cfg0.N) (r : Fin 128) (d : Fin 2816) :
    ∑ j : Fin 1024, k0_pay4 (F := Ideal) (iblk m c 0 t) (iblk m c 1 t) (ix2 r j) * iblk m c 2 t (ix2 j ⟨d.val, by omega⟩)
      = colm (m ((c : Thread nD τ).loc main_arg0)) (m ((c : Thread nD τ).loc main_arg1)) (m ((c : Thread nD τ).loc main_arg2)) (bt (row t r)) (tk (row t r)) d :=
  Finset.sum_congr rfl fun j _ => congrArg₂ (· * ·) (u_nrm m c t r j) (blkm m c t j d)

/-- The product of a row and a column after the gates. -/
theorem rest (c : Dev nD) (t : Fin cfg0.N) (r : Fin 128) (d : Fin 2048) :
    ∑ j : Fin 1024, k0_pay4 (F := Ideal) (iblk m c 0 t) (iblk m c 1 t) (ix2 r j) * iblk m c 2 t (ix2 j ⟨2944 + d.val, by omega⟩)
      = lin (m ((c : Thread nD τ).loc main_arg0)) (m ((c : Thread nD τ).loc main_arg1)) (m ((c : Thread nD τ).loc main_arg2)) (bt (row t r)) (tk (row t r)) ⟨2840 + d.val, by omega⟩ :=
  Finset.sum_congr rfl fun j _ => congrArg₂ (· * ·) (u_nrm m c t r j) (blko m c t j d)

/-- The product of a row and a column of the gates' part. -/
theorem gates (c : Dev nD) (t : Fin cfg0.N) (r : Fin 128) (d : Fin 128) :
    ∑ j : Fin 1024, k0_pay4 (F := Ideal) (iblk m c 0 t) (iblk m c 1 t) (ix2 r j) * iblk m c 2 t (ix2 j ⟨2816 + d.val, by omega⟩)
      = if h : d.val < 24 then lin (m ((c : Thread nD τ).loc main_arg0)) (m ((c : Thread nD τ).loc main_arg1)) (m ((c : Thread nD τ).loc main_arg2)) (bt (row t r)) (tk (row t r)) ⟨2816 + d.val, by omega⟩ else 0 := by
  by_cases h : d.val < 24
  · refine Eq.trans ?_ (dif_pos h).symm
    exact Finset.sum_congr rfl fun j _ => congrArg₂ (· * ·) (u_nrm m c t r j) ((blkg m c t j d).trans (dif_pos h))
  · refine Eq.trans ?_ (dif_neg h).symm
    exact Finset.sum_eq_zero fun j _ => (congrArg (fun z : EReal => k0_pay4 (F := Ideal) (iblk m c 0 t) (iblk m c 1 t) (ix2 r j) * z) ((blkg m c t j d).trans (dif_neg h))).trans (mul_zero _)

theorem tab_cos (c : Dev nD) (t : Fin cfg0.N) (r : Fin 128) (l : Fin 128) : k0_pay5 (F := Ideal) (iblk m c 3 t) (ix2 r l) = cosT (ang (tk (row t r))) l := by
  pointwise [k0_pay5, blk3]
theorem tab_sin (c : Dev nD) (t : Fin cfg0.N) (r : Fin 128) (l : Fin 128) : k0_pay6 (F := Ideal) (iblk m c 4 t) (ix2 r l) = sinT (ang (tk (row t r))) l := by
  pointwise [k0_pay6, blk4]

theorem final5 (c : Dev nD) : (dats m 0 c).arrAt 5 (cfgs 0).N = Cert.ProjSampleRefIdeal.Read.val_main_v217 (F := Ideal)
    (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨r, k, rfl⟩ : ∃ (r : Fin 128) (k : Fin 512), y = ix2 r k := ⟨y 0, y 1, eq_ix2 y⟩
  rw [emb5, Cert.ProjSampleRefIdeal.out0]
  blk_simp
  rw [after0_5]; unfold outsAt0; dsimp only; frame_out
  rw [pay8_wide]
  refine (wide_rot _ _ _ (colm (m ((c : Thread nD τ).loc main_arg0)) (m ((c : Thread nD τ).loc main_arg1)) (m ((c : Thread nD τ).loc main_arg2)) (bt (row t r)) (tk (row t r))) (ang (tk (row t r))) 0 (by omega) (by omega) r (fun k => ?_) (tab_cos m c t r) (tab_sin m c t r) k).trans (congrArg _ (Fin.ext (by dsimp only; omega)))
  pointwise [k0_pay9]
  exact cols m c t r ⟨k.val, by omega⟩

theorem final6 (c : Dev nD) : (dats m 0 c).arrAt 6 (cfgs 0).N = Cert.ProjSampleRefIdeal.Read.val_main_v218 (F := Ideal)
    (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨r, k, rfl⟩ : ∃ (r : Fin 128) (k : Fin 1024), y = ix2 r k := ⟨y 0, y 1, eq_ix2 y⟩
  rw [emb6, Cert.ProjSampleRefIdeal.out1]
  blk_simp
  rw [after0_6]; unfold outsAt0; dsimp only; frame_out
  canon_tiles x h
  · obtain ⟨r', k', rfl⟩ : ∃ (r' : Fin 128) (k' : Fin 512), x = ix2 r' k' := ⟨x 0, x 1, eq_ix2 x⟩
    obtain rfl : r = r' := Fin.ext h0
    replace h1 : k.val = 512 + k'.val := h1
    rw [if_neg (by omega)]
    pointwise [k0_pay11]
    refine (cols m c t r ⟨1024 + k'.val, by omega⟩).trans (congrArg _ (Fin.ext (by dsimp only; omega)))
  · obtain ⟨r', k', rfl⟩ : ∃ (r' : Fin 128) (k' : Fin 512), x = ix2 r' k' := ⟨x 0, x 1, eq_ix2 x⟩
    obtain rfl : r = r' := Fin.ext h0
    replace h1 : k.val = k'.val := h1
    rw [if_pos (by omega), pay10_wide]
    refine (wide_rot _ _ _ (colm (m ((c : Thread nD τ).loc main_arg0)) (m ((c : Thread nD τ).loc main_arg1)) (m ((c : Thread nD τ).loc main_arg2)) (bt (row t r)) (tk (row t r))) (ang (tk (row t r))) 512 (by omega) (by omega) r (fun k => ?_) (tab_cos m c t r) (tab_sin m c t r) k').trans (congrArg _ (Fin.ext (by dsimp only; omega)))
    pointwise [k0_pay9]
    exact cols m c t r ⟨512 + k.val, by omega⟩

theorem final7 (c : Dev nD) : (dats m 0 c).arrAt 7 (cfgs 0).N = Cert.ProjSampleRefIdeal.Read.val_main_v219 (F := Ideal)
    (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨r, k, rfl⟩ : ∃ (r : Fin 128) (k : Fin 512), y = ix2 r k := ⟨y 0, y 1, eq_ix2 y⟩
  rw [emb7, Cert.ProjSampleRefIdeal.out2]
  blk_simp
  rw [after0_7]; unfold outsAt0; dsimp only; frame_out
  pointwise [k0_pay12]
  exact cols m c t r ⟨1536 + k.val, by omega⟩

theorem final8 (c : Dev nD) : (dats m 0 c).arrAt 8 (cfgs 0).N = Cert.ProjSampleRefIdeal.Read.val_main_v220 (F := Ideal)
    (m ((c : Thread nD τ).loc main_arg0)) (m ((c : Thread nD τ).loc main_arg1)) (m ((c : Thread nD τ).loc main_arg2)) := by
  refine (dats m 0 c).arrAt_eq_of_covers 8 _ (by decide +kernel) fun t _ y => ?_
  obtain ⟨r, k, rfl⟩ : ∃ (r : Fin 128) (k : Fin 512), y = ix2 r k := ⟨y 0, y 1, eq_ix2 y⟩
  rw [emb8, Cert.ProjSampleRefIdeal.out3]
  blk_simp
  rw [after0_8]; unfold outsAt0; dsimp only; frame_out
  rw [pay13_wide]
  refine (wide_rot _ _ _ (colm (m ((c : Thread nD τ).loc main_arg0)) (m ((c : Thread nD τ).loc main_arg1)) (m ((c : Thread nD τ).loc main_arg2)) (bt (row t r)) (tk (row t r))) (ang (tk (row t r))) 1536 (by omega) (by omega) r (fun k => ?_) (tab_cos m c t r) (tab_sin m c t r) k)
  pointwise [k0_pay12]
  exact cols m c t r ⟨1536 + k.val, by omega⟩

theorem final9 (c : Dev nD) : (dats m 0 c).arrAt 9 (cfgs 0).N = Cert.ProjSampleRefIdeal.Read.val_main_v221 (F := Ideal)
    (m ((c : Thread nD τ).loc main_arg0)) (m ((c : Thread nD τ).loc main_arg1)) (m ((c : Thread nD τ).loc main_arg2)) := by
  refine (dats m 0 c).arrAt_eq_of_covers 9 _ (by decide +kernel) fun t _ y => ?_
  obtain ⟨r, k, rfl⟩ : ∃ (r : Fin 128) (k : Fin 512), y = ix2 r k := ⟨y 0, y 1, eq_ix2 y⟩
  rw [emb9, Cert.ProjSampleRefIdeal.out4]
  blk_simp
  rw [after0_9]; unfold outsAt0; dsimp only; frame_out
  canon_tiles x h using (cover_three _ _ _ r k)
  · obtain ⟨r', k', rfl⟩ : ∃ (r' : Fin 128) (k' : Fin 128), x = ix2 r' k' := ⟨x 0, x 1, eq_ix2 x⟩
    obtain rfl : r = r' := Fin.ext h0
    replace h1 : k.val = 384 + k'.val := h1
    rw [if_neg (by omega)]
    pointwise [k0_pay17, k0_pay14]
    refine Eq.trans ?_ ((cols m c t r ⟨2432 + k'.val, by omega⟩).trans (congrArg _ (Fin.ext (by dsimp only; omega))))
    simp only [show 2048 + (384 + k'.val) = 2432 + k'.val by omega]
  · obtain ⟨r', k', rfl⟩ : ∃ (r' : Fin 128) (k' : Fin 128), x = ix2 r' k' := ⟨x 0, x 1, eq_ix2 x⟩
    obtain rfl : r = r' := Fin.ext h0
    replace h1 : k.val = 256 + k'.val := h1
    rw [if_pos (by omega), pay16_turned]
    refine (turn_rot _ _ _ (colm (m ((c : Thread nD τ).loc main_arg0)) (m ((c : Thread nD τ).loc main_arg1)) (m ((c : Thread nD τ).loc main_arg2)) (bt (row t r)) (tk (row t r))) (ang (tk (row t r))) 2304 (by omega) (by omega) r (fun k => ?_) (tab_cos m c t r) (tab_sin m c t r) k').trans (congrArg _ (Fin.ext (by dsimp only; omega)))
    pointwise [k0_pay14]
    refine Eq.trans ?_ (cols m c t r ⟨2304 + k.val, by omega⟩)
    simp only [show 2048 + (256 + k.val) = 2304 + k.val by omega]
  · obtain ⟨r', k', rfl⟩ : ∃ (r' : Fin 128) (k' : Fin 256), x = ix2 r' k' := ⟨x 0, x 1, eq_ix2 x⟩
    obtain rfl : r = r' := Fin.ext h0
    replace h1 : k.val = k'.val := h1
    rw [if_neg (by omega)]
    pointwise [k0_pay15, k0_pay14]
    refine (cols m c t r ⟨2048 + k'.val, by omega⟩).trans (congrArg _ (Fin.ext (by dsimp only; omega)))

theorem final10 (c : Dev nD) : (dats m 0 c).arrAt 10 (cfgs 0).N = Cert.ProjSampleRefIdeal.Read.val_main_v222 (F := Ideal)
    (m ((c : Thread nD τ).loc main_arg0)) (m ((c : Thread nD τ).loc main_arg1)) (m ((c : Thread nD τ).loc main_arg2)) := by
  refine (dats m 0 c).arrAt_eq_of_covers 10 _ (by decide +kernel) fun t _ y => ?_
  obtain ⟨r, k, rfl⟩ : ∃ (r : Fin 128) (k : Fin 256), y = ix2 r k := ⟨y 0, y 1, eq_ix2 y⟩
  rw [emb10, Cert.ProjSampleRefIdeal.out5]
  blk_simp
  rw [after0_10]; unfold outsAt0; dsimp only; frame_out
  canon_tiles x h
  · obtain ⟨r', k', rfl⟩ : ∃ (r' : Fin 128) (k' : Fin 128), x = ix2 r' k' := ⟨x 0, x 1, eq_ix2 x⟩
    obtain rfl : r = r' := Fin.ext h0
    replace h1 : k.val = 128 + k'.val := h1
    rw [if_neg (by omega)]
    pointwise [k0_pay20, k0_pay18]
    refine Eq.trans ?_ ((cols m c t r ⟨2688 + k'.val, by omega⟩).trans (congrArg _ (Fin.ext (by dsimp only; omega))))
    simp only [show 2560 + (128 + k'.val) = 2688 + k'.val by omega]
  · obtain ⟨r', k', rfl⟩ : ∃ (r' : Fin 128) (k' : Fin 128), x = ix2 r' k' := ⟨x 0, x 1, eq_ix2 x⟩
    obtain rfl : r = r' := Fin.ext h0
    replace h1 : k.val = k'.val := h1
    rw [if_pos (by omega), pay19_turned]
    refine (turn_rot _ _ _ (colm (m ((c : Thread nD τ).loc main_arg0)) (m ((c : Thread nD τ).loc main_arg1)) (m ((c : Thread nD τ).loc main_arg2)) (bt (row t r)) (tk (row t r))) (ang (tk (row t r))) 2560 (by omega) (by omega) r (fun k => ?_) (tab_cos m c t r) (tab_sin m c t r) k').trans (congrArg _ (Fin.ext (by dsimp only; omega)))
    pointwise [k0_pay18]
    exact cols m c t r ⟨2560 + k.val, by omega⟩

theorem final11 (c : Dev nD) : (dats m 0 c).arrAt 11 (cfgs 0).N = Cert.ProjSampleRefIdeal.Read.val_main_v223 (F := Ideal)
    (m ((c : Thread nD τ).loc main_arg0)) (m ((c : Thread nD τ).loc main_arg1)) (m ((c : Thread nD τ).loc main_arg2)) := by
  refine (dats m 0 c).arrAt_eq_of_covers 11 _ (by decide +kernel) fun t _ y => ?_
  obtain ⟨r, k, rfl⟩ : ∃ (r : Fin 128) (k : Fin 128), y = ix2 r k := ⟨y 0, y 1, eq_ix2 y⟩
  rw [emb11, Cert.ProjSampleRefIdeal.out6]
  blk_simp
  rw [after0_11]; unfold outsAt0; dsimp only; frame_out
  pointwise [k0_pay1, k0_pay21]
  exact gates m c t r k

theorem final12 (c : Dev nD) : (dats m 0 c).arrAt 12 (cfgs 0).N = Cert.ProjSampleRefIdeal.Read.val_main_v224 (F := Ideal)
    (m ((c : Thread nD τ).loc main_arg0)) (m ((c : Thread nD τ).loc main_arg1)) (m ((c : Thread nD τ).loc main_arg2)) := by
  refine (dats m 0 c).arrAt_eq_of_covers 12 _ (by decide +kernel) fun t _ y => ?_
  obtain ⟨r, k, rfl⟩ : ∃ (r : Fin 128) (k : Fin 1024), y = ix2 r k := ⟨y 0, y 1, eq_ix2 y⟩
  rw [emb12, Cert.ProjSampleRefIdeal.out7]
  blk_simp
  rw [after0_12]; unfold outsAt0; dsimp only; frame_out
  pointwise [k0_pay2]
  exact rest m c t r ⟨k.val, by omega⟩

theorem final13 (c : Dev nD) : (dats m 0 c).arrAt 13 (cfgs 0).N = Cert.ProjSampleRefIdeal.Read.val_main_v225 (F := Ideal)
    (m ((c : Thread nD τ).loc main_arg0)) (m ((c : Thread nD τ).loc main_arg1)) (m ((c : Thread nD τ).loc main_arg2)) := by
  refine (dats m 0 c).arrAt_eq_of_covers 13 _ (by decide +kernel) fun t _ y => ?_
  obtain ⟨r, k, rfl⟩ : ∃ (r : Fin 128) (k : Fin 1024), y = ix2 r k := ⟨y 0, y 1, eq_ix2 y⟩
  rw [emb13, Cert.ProjSampleRefIdeal.out8]
  blk_simp
  rw [after0_13]; unfold outsAt0; dsimp only; frame_out
  pointwise [k0_pay3]
  have e := rest m c t r ⟨1024 + k.val, by omega⟩
  simp only [show ∀ n : Nat, 2944 + (1024 + n) = 3968 + n by omega, show ∀ n : Nat, 2840 + (1024 + n) = 3864 + n by omega] at e
  exact e

end Cert.ProjSampleIdeal.Proved
-- ==== Proof.Claims.ProjSample.lean ====
module

public import proofs.«01_k».proof.Defs
public import proofs.«01_k».proof.Proof.Gen.ProjSample.Frame
public import proofs.«01_k».proof.Proof.Gen.ProjSampleRefIdeal.Run
public import proofs.«01_k».proof.Proof.Gen.ProjSampleRefIdeal.Read
public import proofs.«01_k».proof.Proof.Proj.SampleValue
public import Idealize.ShloMosaic.Lib.Claim
public import Idealize.ShloMosaic.Adequacy
public import Idealize.ShloMosaic.Init

@[expose] public section

set_option maxHeartbeats 2000000

noncomputable section

namespace Cert.Proof

open Idealize.ShloMosaic Idealize.SL.Sem

theorem frame_projsample : Cert.quiescent_ProjSample := fun m ρ _ => Cert.ProjSample.Gen.frame m ρ

theorem frame_projsample_ideal : Cert.quiescent_ProjSampleIdeal := fun m ρ _ => Cert.ProjSampleIdeal.Gen.frame m ρ

theorem frame_projsample_ref : Cert.quiescent_ProjSampleRefIdeal :=
  fun m ρ _ => (θ_run Cert.ProjSampleRefIdeal.defs _ _).mono
    (fun r h => ⟨fun c => (h c).2.2.2.2.2.2.2.2.2, Idealize.ShloMosaic.sem_eq_zero_of_no_sems (by decide) r.2⟩)
    (Cert.ProjSampleRefIdeal.Value.run m ρ)

/-- The reference's run with every result named by its last operation. -/
theorem run_projsample_ref (m : (ℓ : Loc Cert.ProjSampleRefIdeal.nD Cert.ProjSampleRefIdeal.τ Cert.ProjSampleRefIdeal.sig) → Buf (Elt Ideal) ℓ) (g : Dev Cert.ProjSampleRefIdeal.nD → PrngReg) :
    θ_run (Cert.ProjSampleRefIdeal.defs (F := Ideal)) (onTc (τ := Cert.ProjSampleRefIdeal.τ) (Cert.ProjSampleRefIdeal.main (F := Ideal))) ⟨m, fun _ => 0, g⟩ fun r => ∀ c : Dev Cert.ProjSampleRefIdeal.nD,
      r.2.mem ((c.tc : Thread Cert.ProjSampleRefIdeal.nD Cert.ProjSampleRefIdeal.τ).loc Cert.ProjSampleRefIdeal.main_v217) = Cert.ProjSampleRefIdeal.Read.val_main_v217 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v218) = Cert.ProjSampleRefIdeal.Read.val_main_v218 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v219) = Cert.ProjSampleRefIdeal.Read.val_main_v219 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v220) = Cert.ProjSampleRefIdeal.Read.val_main_v220 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v221) = Cert.ProjSampleRefIdeal.Read.val_main_v221 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v222) = Cert.ProjSampleRefIdeal.Read.val_main_v222 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v223) = Cert.ProjSampleRefIdeal.Read.val_main_v223 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v224) = Cert.ProjSampleRefIdeal.Read.val_main_v224 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_v225) = Cert.ProjSampleRefIdeal.Read.val_main_v225 (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2))
      ∧ r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2) :=
  (θ_run Cert.ProjSampleRefIdeal.defs _ _).mono (fun r h c =>
    ⟨(h c).1.trans (Cert.ProjSampleRefIdeal.Read.val_main_v217_eq (StableHlo.launchContents m c)),
      (h c).2.1.trans (Cert.ProjSampleRefIdeal.Read.val_main_v218_eq (StableHlo.launchContents m c)),
      (h c).2.2.1.trans (Cert.ProjSampleRefIdeal.Read.val_main_v219_eq (StableHlo.launchContents m c)),
      (h c).2.2.2.1.trans (Cert.ProjSampleRefIdeal.Read.val_main_v220_eq (StableHlo.launchContents m c)),
      (h c).2.2.2.2.1.trans (Cert.ProjSampleRefIdeal.Read.val_main_v221_eq (StableHlo.launchContents m c)),
      (h c).2.2.2.2.2.1.trans (Cert.ProjSampleRefIdeal.Read.val_main_v222_eq (StableHlo.launchContents m c)),
      (h c).2.2.2.2.2.2.1.trans (Cert.ProjSampleRefIdeal.Read.val_main_v223_eq (StableHlo.launchContents m c)),
      (h c).2.2.2.2.2.2.2.1.trans (Cert.ProjSampleRefIdeal.Read.val_main_v224_eq (StableHlo.launchContents m c)),
      (h c).2.2.2.2.2.2.2.2.1.trans (Cert.ProjSampleRefIdeal.Read.val_main_v225_eq (StableHlo.launchContents m c)),
      (h c).2.2.2.2.2.2.2.2.2⟩) (Cert.ProjSampleRefIdeal.Value.run m g)

theorem algebraic_projsample : Cert.algebraic_ProjSampleIdeal_ProjSampleRefIdeal := by
  intro m g m' g' _ hagree
  refine ⟨fun c => (Cert.ProjSampleIdeal.Gen.dats m 0 c).arrAt 5 Cert.ProjSampleIdeal.cfg0.N, fun c => (Cert.ProjSampleIdeal.Gen.dats m 0 c).arrAt 6 Cert.ProjSampleIdeal.cfg0.N, fun c => (Cert.ProjSampleIdeal.Gen.dats m 0 c).arrAt 7 Cert.ProjSampleIdeal.cfg0.N, fun c => (Cert.ProjSampleIdeal.Gen.dats m 0 c).arrAt 8 Cert.ProjSampleIdeal.cfg0.N, fun c => (Cert.ProjSampleIdeal.Gen.dats m 0 c).arrAt 9 Cert.ProjSampleIdeal.cfg0.N, fun c => (Cert.ProjSampleIdeal.Gen.dats m 0 c).arrAt 10 Cert.ProjSampleIdeal.cfg0.N, fun c => (Cert.ProjSampleIdeal.Gen.dats m 0 c).arrAt 11 Cert.ProjSampleIdeal.cfg0.N, fun c => (Cert.ProjSampleIdeal.Gen.dats m 0 c).arrAt 12 Cert.ProjSampleIdeal.cfg0.N, fun c => (Cert.ProjSampleIdeal.Gen.dats m 0 c).arrAt 13 Cert.ProjSampleIdeal.cfg0.N, Cert.ProjSampleIdeal.Value.run_blocks m g, ?_⟩
  refine (θ_run Cert.ProjSampleRefIdeal.defs _ _).mono (fun r h c => ?_) (run_projsample_ref m' g')
  obtain ⟨a0, a1, a2⟩ := hagree c
  obtain ⟨h0, h1, h2, h3, h4, h5, h6, h7, h8, k⟩ := h c
  rw [a0, a1, a2] at h0 h1 h2 h3 h4 h5 h6 h7 h8
  exact ⟨h0.trans (Cert.ProjSampleIdeal.Proved.final5 m c).symm, h1.trans (Cert.ProjSampleIdeal.Proved.final6 m c).symm, h2.trans (Cert.ProjSampleIdeal.Proved.final7 m c).symm, h3.trans (Cert.ProjSampleIdeal.Proved.final8 m c).symm, h4.trans (Cert.ProjSampleIdeal.Proved.final9 m c).symm, h5.trans (Cert.ProjSampleIdeal.Proved.final10 m c).symm, h6.trans (Cert.ProjSampleIdeal.Proved.final11 m c).symm, h7.trans (Cert.ProjSampleIdeal.Proved.final12 m c).symm, h8.trans (Cert.ProjSampleIdeal.Proved.final13 m c).symm, k⟩

end Cert.Proof

end
-- ==== Proof.Moba.Body.lean ====
module

public import proofs.«01_k».proof.Proof.Gen.MobaIdeal.Frame
public import proofs.«01_k».proof.Proof.Attn.Soft
public import Idealize.ShloMosaic.Lib.Pipeline.ValueKit
public import Idealize.ShloMosaic.Lib.Pointwise
public import Idealize.ShloMosaic.Lib.Claim

@[expose] public section

set_option maxRecDepth 16384

noncomputable section

/-! MoBA attention: the kernel body's arrays, named, and its eight row blocks written over them. -/

namespace Cert.MobaIdeal.Proved

open Cert.MobaIdeal Cert.MobaIdeal.Gen Idealize.ShloMosaic Idealize.ShloMosaic.TcCoe Idealize.SL.Sem

/-- One bit per lane: whether the lane belongs to the head `c` of the two packed in a row. -/
def half (lane : IVec S1x128 32) (c : BitVec 32) : IVec S1x128 1 :=
  cmpi .eq (select (andi (cmpi .ne (subi (extui 32 (cmpi .sgt lane (broadcast S1x128 0#32)) natLt_1_32)
      (extui 32 (cmpi .slt lane (broadcast S1x128 0#32)) natLt_1_32))
      (broadcast S1x128 (Scalar.subi (Scalar.extui (Scalar.cmpi .sgt 64#32 0#32)) (Scalar.extui (Scalar.cmpi .slt 64#32 0#32)))))
      (cmpi .ne (remsi lane (broadcast S1x128 64#32)) (broadcast S1x128 0#32)))
      (subi (divsi lane (broadcast S1x128 64#32)) (broadcast S1x128 1#32)) (divsi lane (broadcast S1x128 64#32)))
    (broadcast S1x128 c)

/-- The queries of the head `c`: the other head's lanes are zero. -/
def mq (lane : IVec S1x128 32) (c : BitVec 32) (qi : Vec Ideal S1x256x128 .f32) : FVec Ideal S256x128 .f32 :=
  select (broadcastTo S256x128 (shapeCast S1x128 (half lane c) shapeCasts_S1x128_S1x128) broadcasts_S1x128_S256x128)
    (shapeCast S256x128 qi shapeCasts_S1x256x128_S256x128) (broadcast S256x128 (Scalar.ofBits .f32 0x00000000#32))

/-- The gate: the product with each block's mean key, the blocks that are not past left out. -/
def gt (nb : BitVec 32) (km : FVec Ideal S8x128 .f32) (ids : IVec S8x256 32) (m : FVec Ideal S256x128 .f32) : FVec Ideal S8x256 .f32 :=
  select (cmpi .slt ids (broadcast S8x256 nb))
    (matmul dot_S8x128_S256x128_S8x256_1_1_0_0_n_n (some .fp32) km m (constant S8x256 .f32 0x00000000#32))
    (broadcast S8x256 (Scalar.ofBits .f32 0xFF800000#32))

/-- The largest gate of a column. -/
def top (x : FVec Ideal S8x256 .f32) : FVec Ideal S8x256 .f32 :=
  broadcastTo S8x256 (shapeCast S1x256 (multiReduction .maximumf [0] S256 x 0xFF800000#32 reduces_S8x256_S256 (.inl rfl) rfl)
    shapeCasts_S256_S1x256) broadcasts_S1x256_S8x256

/-- The first row holding the largest gate of its column. -/
def low (ids : IVec S8x256 32) (x : FVec Ideal S8x256 .f32) : FVec Ideal S8x256 .f32 :=
  broadcastTo S8x256 (shapeCast S1x256 (multiReduction .minimumf [0] S256
    (select (cmpf .oeq x (top x)) (sitofp .f32 ids) (broadcast S8x256 (Scalar.ofBits .f32 0x49800000#32)))
    0x7F800000#32 reduces_S8x256_S256 (.inl rfl) rfl) shapeCasts_S256_S1x256) broadcasts_S1x256_S8x256

/-- One bit per block: whether it is the first of its column holding the largest gate. -/
def hit (ids : IVec S8x256 32) (x : FVec Ideal S8x256 .f32) : IVec S8x256 1 := cmpf .oeq (sitofp .f32 ids) (low ids x)

/-- The gates with that block taken out. -/
def next (ids : IVec S8x256 32) (x : FVec Ideal S8x256 .f32) : FVec Ideal S8x256 .f32 :=
  select (hit ids x) (broadcast S8x256 (Scalar.ofBits .f32 0xFF800000#32)) x

/-- One for each block that three rounds choose. -/
def picks (ids : IVec S8x256 32) (x : FVec Ideal S8x256 .f32) : FVec Ideal S8x256 .f32 :=
  select (hit ids (next ids (next ids x))) (broadcast S8x256 (Scalar.ofBits .f32 0x3F800000#32))
    (select (hit ids (next ids x)) (broadcast S8x256 (Scalar.ofBits .f32 0x3F800000#32))
      (select (hit ids x) (broadcast S8x256 (Scalar.ofBits .f32 0x3F800000#32)) (broadcast S8x256 (Scalar.ofBits .f32 0x00000000#32))))

/-- The choice per query, padded to the width of a row. -/
def rows (nb : BitVec 32) (ids : IVec S8x256 32) (x : FVec Ideal S8x256 .f32) : FVec Ideal S256x128 .bf16 :=
  truncf .bf16 (transpose S256x128 [1, 0] (concatenate S128x256 0
    [⟨S8x256, select (cmpi .slt ids (broadcast S8x256 nb)) (picks ids x) (broadcast S8x256 (Scalar.ofBits .f32 0x00000000#32))⟩,
     ⟨S120x256, broadcast S120x256 (Scalar.ofBits .f32 0x00000000#32)⟩] concatenates_S8x256_S120x256_S128x256_d0)
    transposes_S128x256_p1_0_S256x128) bitsLt_bf16_f32

/-- The two heads' queries, scaled, one over the other. -/
def qs (m0 m1 : FVec Ideal S256x128 .f32) : FVec Ideal S512x128 .bf16 :=
  truncf .bf16 (concatenate S512x128 0
    [⟨S256x128, mulf m0 (broadcast S256x128 (Scalar.ofBits .f32 0x3E000000#32))⟩,
     ⟨S256x128, mulf m1 (broadcast S256x128 (Scalar.ofBits .f32 0x3E000000#32))⟩] concatenates_S256x128_S256x128_S512x128_d0) bitsLt_bf16_f32

/-- The weighted values over the weights' sum. -/
def norm (l : FVec Ideal S2x256x1 .f32) (o : FVec Ideal S2x256x128 .f32) : FVec Ideal S2x256x128 .f32 :=
  mulf o (broadcastTo S2x256x128
    (select (cmpf .ogt l (broadcast S2x256x1 (Scalar.ofBits .f32 0x00000000#32)))
      (divf (broadcast S2x256x1 (Scalar.ofBits .f32 0x3F800000#32))
        (select (cmpf .ogt l (broadcast S2x256x1 (Scalar.ofBits .f32 0x00000000#32))) l
          (broadcast S2x256x1 (Scalar.ofBits .f32 0x3F800000#32))))
      (broadcast S2x256x1 (Scalar.ofBits .f32 0x00000000#32))) broadcasts_S2x256x1_S2x256x128)

/-- The row block stored: each lane from its own head. -/
def out (h : IVec S1x128 1) (o : FVec Ideal S2x256x128 .f32) : FVec Ideal S1x256x128 .f32 :=
  shapeCast S1x256x128 (select
    (broadcastTo S256x128 (shapeCast S1x128 h shapeCasts_S1x128_S1x128) broadcasts_S1x128_S256x128)
    (shapeCast S256x128 (extractStridedSlice S1x256x128 ![0, 0, 0] o slices_S2x256x128_o0_0_0_S1x256x128) shapeCasts_S1x256x128_S256x128)
    (shapeCast S256x128 (extractStridedSlice S1x256x128 ![1, 0, 0] o slices_S2x256x128_o1_0_0_S1x256x128) shapeCasts_S1x256x128_S256x128))
    shapeCasts_S256x128_S1x256x128

/-- Row block 0: the masked scores of its two heads. -/
def sc0 (kb : FVec Ideal S2048x128 .bf16) (m0 m1 : FVec Ideal S256x128 .f32) (b0 b1 : FVec Ideal S256x256 .f32) : FVec Ideal S2x256x256 .f32 :=
  addf (shapeCast S2x256x256 (matmul dot_S512x128_S256x128_S512x256_1_1_0_0_n_n none (qs m0 m1) (extractStridedSlice S256x128 ![0, 0] kb slices_S2048x128_o0_0_S256x128)
      (constant S512x256 .f32 0x00000000#32)) shapeCasts_S512x256_S2x256x256)
    (concatenate S2x256x256 0 [⟨S1x256x256, shapeCast S1x256x256 b0 shapeCasts_S256x256_S1x256x256⟩,
      ⟨S1x256x256, shapeCast S1x256x256 b1 shapeCasts_S256x256_S1x256x256⟩] concatenates_S1x256x256_S1x256x256_S2x256x256_d0)

/-- Row block 0: the weights. -/
def ex0 (s : FVec Ideal S2x256x256 .f32) : FVec Ideal S2x256x256 .f32 :=
  exp (subf s (broadcastTo S2x256x256 (shapeCast S2x256x1 (multiReduction .maximumf [2] S2x256 s 0xFF800000#32
    reduces_S2x256x256_S2x256 (.inl rfl) rfl) shapeCasts_S2x256_S2x256x1) broadcasts_S2x256x1_S2x256x256))

/-- Row block 0: its two heads' values, weighted. -/
def av0 (vb : FVec Ideal S2048x128 .bf16) (p : FVec Ideal S2x256x256 .f32) : FVec Ideal S2x256x128 .f32 :=
  norm (shapeCast S2x256x1 (multiReduction .add [2] S2x256 p 0x00000000#32 reduces_S2x256x256_S2x256 (.inl rfl) rfl) shapeCasts_S2x256_S2x256x1)
    (shapeCast S2x256x128 (matmul dot_S512x256_S256x128_S512x128_1_0_0_1_n_n none
      (truncf .bf16 (shapeCast S512x256 p shapeCasts_S2x256x256_S512x256) bitsLt_bf16_f32) (extractStridedSlice S256x128 ![0, 0] vb slices_S2048x128_o0_0_S256x128)
      (constant S512x128 .f32 0x00000000#32)) shapeCasts_S512x128_S2x256x128)

theorem fold0 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay27 lane (k0_pay23 kb lane own (k0_pay18 qi) (k0_pay19 lane qi) 64#32 (k0_pay20 lane) (k0_pay21 lane)) (k0_pay24 kb vb lane own (k0_pay18 qi) (k0_pay19 lane qi) 64#32 (k0_pay20 lane) (k0_pay21 lane)) (k0_pay25 kb lane own (k0_pay18 qi) (k0_pay19 lane qi) 64#32 (k0_pay20 lane) (k0_pay21 lane)) (k0_pay26 (F := Ideal)) =
      out (half lane 0#32) (av0 vb (ex0 (sc0 kb (mq lane 0#32 qi) (mq lane 1#32 qi)
        own own))) := rfl

/-- Row block 1: the masked scores of its two heads. -/
def sc1 (kb : FVec Ideal S2048x128 .bf16) (m0 m1 : FVec Ideal S256x128 .f32) (b0 b1 : FVec Ideal S256x512 .f32) : FVec Ideal S2x256x512 .f32 :=
  addf (shapeCast S2x256x512 (matmul dot_S512x128_S512x128_S512x512_1_1_0_0_n_n none (qs m0 m1) (extractStridedSlice S512x128 ![0, 0] kb slices_S2048x128_o0_0_S512x128)
      (constant S512x512 .f32 0x00000000#32)) shapeCasts_S512x512_S2x256x512)
    (concatenate S2x256x512 0 [⟨S1x256x512, shapeCast S1x256x512 b0 shapeCasts_S256x512_S1x256x512⟩,
      ⟨S1x256x512, shapeCast S1x256x512 b1 shapeCasts_S256x512_S1x256x512⟩] concatenates_S1x256x512_S1x256x512_S2x256x512_d0)

/-- Row block 1: the weights. -/
def ex1 (s : FVec Ideal S2x256x512 .f32) : FVec Ideal S2x256x512 .f32 :=
  exp (subf s (broadcastTo S2x256x512 (shapeCast S2x256x1 (multiReduction .maximumf [2] S2x256 s 0xFF800000#32
    reduces_S2x256x512_S2x256 (.inl rfl) rfl) shapeCasts_S2x256_S2x256x1) broadcasts_S2x256x1_S2x256x512))

/-- Row block 1: its two heads' values, weighted. -/
def av1 (vb : FVec Ideal S2048x128 .bf16) (p : FVec Ideal S2x256x512 .f32) : FVec Ideal S2x256x128 .f32 :=
  norm (shapeCast S2x256x1 (multiReduction .add [2] S2x256 p 0x00000000#32 reduces_S2x256x512_S2x256 (.inl rfl) rfl) shapeCasts_S2x256_S2x256x1)
    (shapeCast S2x256x128 (matmul dot_S512x512_S512x128_S512x128_1_0_0_1_n_n none
      (truncf .bf16 (shapeCast S512x512 p shapeCasts_S2x256x512_S512x512) bitsLt_bf16_f32) (extractStridedSlice S512x128 ![0, 0] vb slices_S2048x128_o0_0_S512x128)
      (constant S512x128 .f32 0x00000000#32)) shapeCasts_S512x128_S2x256x128)

/-- Row block 1: zero for every past key. -/
def bias1 (own : FVec Ideal S256x256 .f32) : FVec Ideal S256x512 .f32 :=
  concatenate S256x512 1 [⟨S256x256, broadcast S256x256 (Scalar.ofBits .f32 0x00000000#32)⟩,
    ⟨S256x256, own⟩] concatenates_S256x256_S256x256_S256x512_d1

theorem fold1 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay38 (k0_pay37 lane (k0_pay35 kb lane own (k0_pay28 qi) (k0_pay29 lane qi) (k0_pay30 own) 64#32 (k0_pay31 lane) (k0_pay32 lane) (k0_pay33 lane)) (k0_pay36 kb vb lane own (k0_pay28 qi) (k0_pay29 lane qi) (k0_pay30 own) 64#32 (k0_pay31 lane) (k0_pay32 lane) (k0_pay33 lane))) =
      out (half lane 0#32) (av1 vb (ex1 (sc1 kb (mq lane 0#32 qi) (mq lane 1#32 qi)
        (bias1 own) (bias1 own)))) := rfl

/-- Row block 2: the masked scores of its two heads. -/
def sc2 (kb : FVec Ideal S2048x128 .bf16) (m0 m1 : FVec Ideal S256x128 .f32) (b0 b1 : FVec Ideal S256x768 .f32) : FVec Ideal S2x256x768 .f32 :=
  addf (shapeCast S2x256x768 (matmul dot_S512x128_S768x128_S512x768_1_1_0_0_n_n none (qs m0 m1) (extractStridedSlice S768x128 ![0, 0] kb slices_S2048x128_o0_0_S768x128)
      (constant S512x768 .f32 0x00000000#32)) shapeCasts_S512x768_S2x256x768)
    (concatenate S2x256x768 0 [⟨S1x256x768, shapeCast S1x256x768 b0 shapeCasts_S256x768_S1x256x768⟩,
      ⟨S1x256x768, shapeCast S1x256x768 b1 shapeCasts_S256x768_S1x256x768⟩] concatenates_S1x256x768_S1x256x768_S2x256x768_d0)

/-- Row block 2: the weights. -/
def ex2 (s : FVec Ideal S2x256x768 .f32) : FVec Ideal S2x256x768 .f32 :=
  exp (subf s (broadcastTo S2x256x768 (shapeCast S2x256x1 (multiReduction .maximumf [2] S2x256 s 0xFF800000#32
    reduces_S2x256x768_S2x256 (.inl rfl) rfl) shapeCasts_S2x256_S2x256x1) broadcasts_S2x256x1_S2x256x768))

/-- Row block 2: its two heads' values, weighted. -/
def av2 (vb : FVec Ideal S2048x128 .bf16) (p : FVec Ideal S2x256x768 .f32) : FVec Ideal S2x256x128 .f32 :=
  norm (shapeCast S2x256x1 (multiReduction .add [2] S2x256 p 0x00000000#32 reduces_S2x256x768_S2x256 (.inl rfl) rfl) shapeCasts_S2x256_S2x256x1)
    (shapeCast S2x256x128 (matmul dot_S512x768_S768x128_S512x128_1_0_0_1_n_n none
      (truncf .bf16 (shapeCast S512x768 p shapeCasts_S2x256x768_S512x768) bitsLt_bf16_f32) (extractStridedSlice S768x128 ![0, 0] vb slices_S2048x128_o0_0_S768x128)
      (constant S512x128 .f32 0x00000000#32)) shapeCasts_S512x128_S2x256x128)

/-- Row block 2: zero for every past key. -/
def bias2 (own : FVec Ideal S256x256 .f32) : FVec Ideal S256x768 .f32 :=
  concatenate S256x768 1 [⟨S256x512, broadcast S256x512 (Scalar.ofBits .f32 0x00000000#32)⟩,
    ⟨S256x256, own⟩] concatenates_S256x512_S256x256_S256x768_d1

theorem fold2 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay51 (k0_pay48 lane) (k0_pay49 vb (k0_pay45 kb lane own (k0_pay39 qi) (k0_pay40 lane qi) (k0_pay41 own) 64#32 (k0_pay42 lane) (k0_pay43)) (k0_pay46 kb lane own (k0_pay39 qi) (k0_pay40 lane qi) (k0_pay41 own) 64#32 (k0_pay42 lane) (k0_pay43))) (k0_pay50 vb (k0_pay45 kb lane own (k0_pay39 qi) (k0_pay40 lane qi) (k0_pay41 own) 64#32 (k0_pay42 lane) (k0_pay43)) (k0_pay46 kb lane own (k0_pay39 qi) (k0_pay40 lane qi) (k0_pay41 own) 64#32 (k0_pay42 lane) (k0_pay43))) =
      out (half lane 0#32) (av2 vb (ex2 (sc2 kb (mq lane 0#32 qi) (mq lane 1#32 qi)
        (bias2 own) (bias2 own)))) := rfl

/-- Row block 3: the masked scores of its two heads. -/
def sc3 (kb : FVec Ideal S2048x128 .bf16) (m0 m1 : FVec Ideal S256x128 .f32) (b0 b1 : FVec Ideal S256x1024 .f32) : FVec Ideal S2x256x1024 .f32 :=
  addf (shapeCast S2x256x1024 (matmul dot_S512x128_S1024x128_S512x1024_1_1_0_0_n_n none (qs m0 m1) (extractStridedSlice S1024x128 ![0, 0] kb slices_S2048x128_o0_0_S1024x128)
      (constant S512x1024 .f32 0x00000000#32)) shapeCasts_S512x1024_S2x256x1024)
    (concatenate S2x256x1024 0 [⟨S1x256x1024, shapeCast S1x256x1024 b0 shapeCasts_S256x1024_S1x256x1024⟩,
      ⟨S1x256x1024, shapeCast S1x256x1024 b1 shapeCasts_S256x1024_S1x256x1024⟩] concatenates_S1x256x1024_S1x256x1024_S2x256x1024_d0)

/-- Row block 3: the weights. -/
def ex3 (s : FVec Ideal S2x256x1024 .f32) : FVec Ideal S2x256x1024 .f32 :=
  exp (subf s (broadcastTo S2x256x1024 (shapeCast S2x256x1 (multiReduction .maximumf [2] S2x256 s 0xFF800000#32
    reduces_S2x256x1024_S2x256 (.inl rfl) rfl) shapeCasts_S2x256_S2x256x1) broadcasts_S2x256x1_S2x256x1024))

/-- Row block 3: its two heads' values, weighted. -/
def av3 (vb : FVec Ideal S2048x128 .bf16) (p : FVec Ideal S2x256x1024 .f32) : FVec Ideal S2x256x128 .f32 :=
  norm (shapeCast S2x256x1 (multiReduction .add [2] S2x256 p 0x00000000#32 reduces_S2x256x1024_S2x256 (.inl rfl) rfl) shapeCasts_S2x256_S2x256x1)
    (shapeCast S2x256x128 (matmul dot_S512x1024_S1024x128_S512x128_1_0_0_1_n_n none
      (truncf .bf16 (shapeCast S512x1024 p shapeCasts_S2x256x1024_S512x1024) bitsLt_bf16_f32) (extractStridedSlice S1024x128 ![0, 0] vb slices_S2048x128_o0_0_S1024x128)
      (constant S512x128 .f32 0x00000000#32)) shapeCasts_S512x128_S2x256x128)

/-- Row block 3: zero for every past key. -/
def bias3 (own : FVec Ideal S256x256 .f32) : FVec Ideal S256x1024 .f32 :=
  concatenate S256x1024 1 [⟨S256x768, broadcast S256x768 (Scalar.ofBits .f32 0x00000000#32)⟩,
    ⟨S256x256, own⟩] concatenates_S256x768_S256x256_S256x1024_d1

theorem fold3 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay59 (k0_pay56 vb (k0_pay55 kb lane own (k0_pay52 qi) (k0_pay53 lane qi) (k0_pay54 own))) (k0_pay57 lane) k0_pay58 =
      out (half lane 0#32) (av3 vb (ex3 (sc3 kb (mq lane 0#32 qi) (mq lane 1#32 qi)
        (bias3 own) (bias3 own)))) := rfl

/-- Row block 4: the masked scores of its two heads. -/
def sc4 (kb : FVec Ideal S2048x128 .bf16) (m0 m1 : FVec Ideal S256x128 .f32) (b0 b1 : FVec Ideal S256x1280 .f32) : FVec Ideal S2x256x1280 .f32 :=
  addf (shapeCast S2x256x1280 (matmul dot_S512x128_S1280x128_S512x1280_1_1_0_0_n_n none (qs m0 m1) (extractStridedSlice S1280x128 ![0, 0] kb slices_S2048x128_o0_0_S1280x128)
      (constant S512x1280 .f32 0x00000000#32)) shapeCasts_S512x1280_S2x256x1280)
    (concatenate S2x256x1280 0 [⟨S1x256x1280, shapeCast S1x256x1280 b0 shapeCasts_S256x1280_S1x256x1280⟩,
      ⟨S1x256x1280, shapeCast S1x256x1280 b1 shapeCasts_S256x1280_S1x256x1280⟩] concatenates_S1x256x1280_S1x256x1280_S2x256x1280_d0)

/-- Row block 4: the weights. -/
def ex4 (s : FVec Ideal S2x256x1280 .f32) : FVec Ideal S2x256x1280 .f32 :=
  exp (subf s (broadcastTo S2x256x1280 (shapeCast S2x256x1 (multiReduction .maximumf [2] S2x256 s 0xFF800000#32
    reduces_S2x256x1280_S2x256 (.inl rfl) rfl) shapeCasts_S2x256_S2x256x1) broadcasts_S2x256x1_S2x256x1280))

/-- Row block 4: its two heads' values, weighted. -/
def av4 (vb : FVec Ideal S2048x128 .bf16) (p : FVec Ideal S2x256x1280 .f32) : FVec Ideal S2x256x128 .f32 :=
  norm (shapeCast S2x256x1 (multiReduction .add [2] S2x256 p 0x00000000#32 reduces_S2x256x1280_S2x256 (.inl rfl) rfl) shapeCasts_S2x256_S2x256x1)
    (shapeCast S2x256x128 (matmul dot_S512x1280_S1280x128_S512x128_1_0_0_1_n_n none
      (truncf .bf16 (shapeCast S512x1280 p shapeCasts_S2x256x1280_S512x1280) bitsLt_bf16_f32) (extractStridedSlice S1280x128 ![0, 0] vb slices_S2048x128_o0_0_S1280x128)
      (constant S512x128 .f32 0x00000000#32)) shapeCasts_S512x128_S2x256x128)

/-- Row block 4: zero for the keys of the chosen blocks and of the own one, minus infinity for the others. -/
def bias4 (ex : FVec Ideal S128x2048 .bf16) (own : FVec Ideal S256x256 .f32) (rw : FVec Ideal S256x128 .bf16) : FVec Ideal S256x1280 .f32 :=
  concatenate S256x1280 1 [⟨S256x1024, select (cmpf .ogt (matmul dot_S256x128_S128x1024_S256x1024_1_0_0_1_n_n none rw
      (extractStridedSlice S128x1024 ![0, 0] ex slices_S128x2048_o0_0_S128x1024) (constant S256x1024 .f32 0x00000000#32))
      (broadcast S256x1024 (Scalar.ofBits .f32 0x3F000000#32)))
      (broadcast S256x1024 (Scalar.ofBits .f32 0x00000000#32)) (broadcast S256x1024 (Named.named κ "mask" 0xF149F2CA#32))⟩,
    ⟨S256x256, own⟩] concatenates_S256x1024_S256x256_S256x1280_d1

theorem fold4 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay91 (k0_pay88 lane) (k0_pay89 vb (k0_pay85 kb ex own (k0_pay70 (k0_pay61 lane qi)) (k0_pay71 ex own (k0_pay63 ids) (k0_pay64 (F := Ideal) ids) (k0_pay68 km ids (k0_pay61 lane qi) (constant S8x256 .f32 0x00000000#32)) (k0_pay69 km ids (k0_pay61 lane qi) (constant S8x256 .f32 0x00000000#32))) (k0_pay75 (k0_pay60 qi) (k0_pay72 lane) (k0_pay73 lane) (k0_pay74 lane)) (k0_pay77 ids) (k0_pay78 (F := Ideal) ids) (k0_pay80 km ids (k0_pay60 qi) (k0_pay72 lane) (k0_pay73 lane) (k0_pay74 lane)) (k0_pay81 km ids (k0_pay60 qi) (k0_pay72 lane) (k0_pay73 lane) (k0_pay74 lane)) (k0_pay82 km ids (k0_pay60 qi) (k0_pay72 lane) (k0_pay73 lane) (k0_pay74 lane)) (k0_pay83 (F := Ideal))) (k0_pay86 kb ex own (k0_pay70 (k0_pay61 lane qi)) (k0_pay71 ex own (k0_pay63 ids) (k0_pay64 (F := Ideal) ids) (k0_pay68 km ids (k0_pay61 lane qi) (constant S8x256 .f32 0x00000000#32)) (k0_pay69 km ids (k0_pay61 lane qi) (constant S8x256 .f32 0x00000000#32))) (k0_pay75 (k0_pay60 qi) (k0_pay72 lane) (k0_pay73 lane) (k0_pay74 lane)) (k0_pay77 ids) (k0_pay78 (F := Ideal) ids) (k0_pay80 km ids (k0_pay60 qi) (k0_pay72 lane) (k0_pay73 lane) (k0_pay74 lane)) (k0_pay81 km ids (k0_pay60 qi) (k0_pay72 lane) (k0_pay73 lane) (k0_pay74 lane)) (k0_pay82 km ids (k0_pay60 qi) (k0_pay72 lane) (k0_pay73 lane) (k0_pay74 lane)) (k0_pay83 (F := Ideal)))) (k0_pay90 vb (k0_pay85 kb ex own (k0_pay70 (k0_pay61 lane qi)) (k0_pay71 ex own (k0_pay63 ids) (k0_pay64 (F := Ideal) ids) (k0_pay68 km ids (k0_pay61 lane qi) (constant S8x256 .f32 0x00000000#32)) (k0_pay69 km ids (k0_pay61 lane qi) (constant S8x256 .f32 0x00000000#32))) (k0_pay75 (k0_pay60 qi) (k0_pay72 lane) (k0_pay73 lane) (k0_pay74 lane)) (k0_pay77 ids) (k0_pay78 (F := Ideal) ids) (k0_pay80 km ids (k0_pay60 qi) (k0_pay72 lane) (k0_pay73 lane) (k0_pay74 lane)) (k0_pay81 km ids (k0_pay60 qi) (k0_pay72 lane) (k0_pay73 lane) (k0_pay74 lane)) (k0_pay82 km ids (k0_pay60 qi) (k0_pay72 lane) (k0_pay73 lane) (k0_pay74 lane)) (k0_pay83 (F := Ideal))) (k0_pay86 kb ex own (k0_pay70 (k0_pay61 lane qi)) (k0_pay71 ex own (k0_pay63 ids) (k0_pay64 (F := Ideal) ids) (k0_pay68 km ids (k0_pay61 lane qi) (constant S8x256 .f32 0x00000000#32)) (k0_pay69 km ids (k0_pay61 lane qi) (constant S8x256 .f32 0x00000000#32))) (k0_pay75 (k0_pay60 qi) (k0_pay72 lane) (k0_pay73 lane) (k0_pay74 lane)) (k0_pay77 ids) (k0_pay78 (F := Ideal) ids) (k0_pay80 km ids (k0_pay60 qi) (k0_pay72 lane) (k0_pay73 lane) (k0_pay74 lane)) (k0_pay81 km ids (k0_pay60 qi) (k0_pay72 lane) (k0_pay73 lane) (k0_pay74 lane)) (k0_pay82 km ids (k0_pay60 qi) (k0_pay72 lane) (k0_pay73 lane) (k0_pay74 lane)) (k0_pay83 (F := Ideal)))) =
      out (half lane 0#32) (av4 vb (ex4 (sc4 kb (mq lane 0#32 qi) (mq lane 1#32 qi)
        (bias4 ex own (rows 4#32 ids (gt 4#32 km ids (mq lane 0#32 qi)))) (bias4 ex own (rows 4#32 ids (gt 4#32 km ids (mq lane 1#32 qi))))))) := rfl

/-- Row block 5: the masked scores of its two heads. -/
def sc5 (kb : FVec Ideal S2048x128 .bf16) (m0 m1 : FVec Ideal S256x128 .f32) (b0 b1 : FVec Ideal S256x1536 .f32) : FVec Ideal S2x256x1536 .f32 :=
  addf (shapeCast S2x256x1536 (matmul dot_S512x128_S1536x128_S512x1536_1_1_0_0_n_n none (qs m0 m1) (extractStridedSlice S1536x128 ![0, 0] kb slices_S2048x128_o0_0_S1536x128)
      (constant S512x1536 .f32 0x00000000#32)) shapeCasts_S512x1536_S2x256x1536)
    (concatenate S2x256x1536 0 [⟨S1x256x1536, shapeCast S1x256x1536 b0 shapeCasts_S256x1536_S1x256x1536⟩,
      ⟨S1x256x1536, shapeCast S1x256x1536 b1 shapeCasts_S256x1536_S1x256x1536⟩] concatenates_S1x256x1536_S1x256x1536_S2x256x1536_d0)

/-- Row block 5: the weights. -/
def ex5 (s : FVec Ideal S2x256x1536 .f32) : FVec Ideal S2x256x1536 .f32 :=
  exp (subf s (broadcastTo S2x256x1536 (shapeCast S2x256x1 (multiReduction .maximumf [2] S2x256 s 0xFF800000#32
    reduces_S2x256x1536_S2x256 (.inl rfl) rfl) shapeCasts_S2x256_S2x256x1) broadcasts_S2x256x1_S2x256x1536))

/-- Row block 5: its two heads' values, weighted. -/
def av5 (vb : FVec Ideal S2048x128 .bf16) (p : FVec Ideal S2x256x1536 .f32) : FVec Ideal S2x256x128 .f32 :=
  norm (shapeCast S2x256x1 (multiReduction .add [2] S2x256 p 0x00000000#32 reduces_S2x256x1536_S2x256 (.inl rfl) rfl) shapeCasts_S2x256_S2x256x1)
    (shapeCast S2x256x128 (matmul dot_S512x1536_S1536x128_S512x128_1_0_0_1_n_n none
      (truncf .bf16 (shapeCast S512x1536 p shapeCasts_S2x256x1536_S512x1536) bitsLt_bf16_f32) (extractStridedSlice S1536x128 ![0, 0] vb slices_S2048x128_o0_0_S1536x128)
      (constant S512x128 .f32 0x00000000#32)) shapeCasts_S512x128_S2x256x128)

/-- Row block 5: zero for the keys of the chosen blocks and of the own one, minus infinity for the others. -/
def bias5 (ex : FVec Ideal S128x2048 .bf16) (own : FVec Ideal S256x256 .f32) (rw : FVec Ideal S256x128 .bf16) : FVec Ideal S256x1536 .f32 :=
  concatenate S256x1536 1 [⟨S256x1280, select (cmpf .ogt (matmul dot_S256x128_S128x1280_S256x1280_1_0_0_1_n_n none rw
      (extractStridedSlice S128x1280 ![0, 0] ex slices_S128x2048_o0_0_S128x1280) (constant S256x1280 .f32 0x00000000#32))
      (broadcast S256x1280 (Scalar.ofBits .f32 0x3F000000#32)))
      (broadcast S256x1280 (Scalar.ofBits .f32 0x00000000#32)) (broadcast S256x1280 (Named.named κ "mask" 0xF149F2CA#32))⟩,
    ⟨S256x256, own⟩] concatenates_S256x1280_S256x256_S256x1536_d1

theorem fold5 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay121 (k0_pay120 lane (k0_pay118 kb ex own (k0_pay104 (k0_pay93 lane qi)) (k0_pay105 ex own (k0_pay97 ids) (k0_pay102 ids (k0_pay94 lane km qi) (k0_pay95 ids) (Scalar.ofBits .f32 0xFF800000#32)) (k0_pay103 ids (k0_pay94 lane km qi) (k0_pay95 ids) (Scalar.ofBits .f32 0xFF800000#32)) (Scalar.ofBits .f32 0x3F800000#32)) (k0_pay107 (k0_pay92 qi) (k0_pay106 lane) (Scalar.ofBits .f32 0x00000000#32)) (k0_pay109 ids) (k0_pay110 (F := Ideal) ids) (k0_pay114 km ids (k0_pay92 qi) (k0_pay106 lane) (Scalar.ofBits .f32 0x00000000#32)) (k0_pay115 km ids (k0_pay92 qi) (k0_pay106 lane) (Scalar.ofBits .f32 0x00000000#32)) (k0_pay116 km ids (k0_pay92 qi) (k0_pay106 lane) (Scalar.ofBits .f32 0x00000000#32))) (k0_pay119 kb vb ex own (k0_pay104 (k0_pay93 lane qi)) (k0_pay105 ex own (k0_pay97 ids) (k0_pay102 ids (k0_pay94 lane km qi) (k0_pay95 ids) (Scalar.ofBits .f32 0xFF800000#32)) (k0_pay103 ids (k0_pay94 lane km qi) (k0_pay95 ids) (Scalar.ofBits .f32 0xFF800000#32)) (Scalar.ofBits .f32 0x3F800000#32)) (k0_pay107 (k0_pay92 qi) (k0_pay106 lane) (Scalar.ofBits .f32 0x00000000#32)) (k0_pay109 ids) (k0_pay110 (F := Ideal) ids) (k0_pay114 km ids (k0_pay92 qi) (k0_pay106 lane) (Scalar.ofBits .f32 0x00000000#32)) (k0_pay115 km ids (k0_pay92 qi) (k0_pay106 lane) (Scalar.ofBits .f32 0x00000000#32)) (k0_pay116 km ids (k0_pay92 qi) (k0_pay106 lane) (Scalar.ofBits .f32 0x00000000#32)))) =
      out (half lane 0#32) (av5 vb (ex5 (sc5 kb (mq lane 0#32 qi) (mq lane 1#32 qi)
        (bias5 ex own (rows 5#32 ids (gt 5#32 km ids (mq lane 0#32 qi)))) (bias5 ex own (rows 5#32 ids (gt 5#32 km ids (mq lane 1#32 qi))))))) := rfl

/-- Row block 6: the masked scores of its two heads. -/
def sc6 (kb : FVec Ideal S2048x128 .bf16) (m0 m1 : FVec Ideal S256x128 .f32) (b0 b1 : FVec Ideal S256x1792 .f32) : FVec Ideal S2x256x1792 .f32 :=
  addf (shapeCast S2x256x1792 (matmul dot_S512x128_S1792x128_S512x1792_1_1_0_0_n_n none (qs m0 m1) (extractStridedSlice S1792x128 ![0, 0] kb slices_S2048x128_o0_0_S1792x128)
      (constant S512x1792 .f32 0x00000000#32)) shapeCasts_S512x1792_S2x256x1792)
    (concatenate S2x256x1792 0 [⟨S1x256x1792, shapeCast S1x256x1792 b0 shapeCasts_S256x1792_S1x256x1792⟩,
      ⟨S1x256x1792, shapeCast S1x256x1792 b1 shapeCasts_S256x1792_S1x256x1792⟩] concatenates_S1x256x1792_S1x256x1792_S2x256x1792_d0)

/-- Row block 6: the weights. -/
def ex6 (s : FVec Ideal S2x256x1792 .f32) : FVec Ideal S2x256x1792 .f32 :=
  exp (subf s (broadcastTo S2x256x1792 (shapeCast S2x256x1 (multiReduction .maximumf [2] S2x256 s 0xFF800000#32
    reduces_S2x256x1792_S2x256 (.inl rfl) rfl) shapeCasts_S2x256_S2x256x1) broadcasts_S2x256x1_S2x256x1792))

/-- Row block 6: its two heads' values, weighted. -/
def av6 (vb : FVec Ideal S2048x128 .bf16) (p : FVec Ideal S2x256x1792 .f32) : FVec Ideal S2x256x128 .f32 :=
  norm (shapeCast S2x256x1 (multiReduction .add [2] S2x256 p 0x00000000#32 reduces_S2x256x1792_S2x256 (.inl rfl) rfl) shapeCasts_S2x256_S2x256x1)
    (shapeCast S2x256x128 (matmul dot_S512x1792_S1792x128_S512x128_1_0_0_1_n_n none
      (truncf .bf16 (shapeCast S512x1792 p shapeCasts_S2x256x1792_S512x1792) bitsLt_bf16_f32) (extractStridedSlice S1792x128 ![0, 0] vb slices_S2048x128_o0_0_S1792x128)
      (constant S512x128 .f32 0x00000000#32)) shapeCasts_S512x128_S2x256x128)

/-- Row block 6: zero for the keys of the chosen blocks and of the own one, minus infinity for the others. -/
def bias6 (ex : FVec Ideal S128x2048 .bf16) (own : FVec Ideal S256x256 .f32) (rw : FVec Ideal S256x128 .bf16) : FVec Ideal S256x1792 .f32 :=
  concatenate S256x1792 1 [⟨S256x1536, select (cmpf .ogt (matmul dot_S256x128_S128x1536_S256x1536_1_0_0_1_n_n none rw
      (extractStridedSlice S128x1536 ![0, 0] ex slices_S128x2048_o0_0_S128x1536) (constant S256x1536 .f32 0x00000000#32))
      (broadcast S256x1536 (Scalar.ofBits .f32 0x3F000000#32)))
      (broadcast S256x1536 (Scalar.ofBits .f32 0x00000000#32)) (broadcast S256x1536 (Named.named κ "mask" 0xF149F2CA#32))⟩,
    ⟨S256x256, own⟩] concatenates_S256x1536_S256x256_S256x1792_d1

theorem fold6 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay143 lane (k0_pay139 kb ex own (k0_pay127 (k0_pay123 lane qi)) (k0_pay128 ex own (k0_pay126 ids (k0_pay124 lane km ids qi) (k0_pay125 ids))) (k0_pay129 lane (k0_pay122 qi)) (k0_pay131 ids) (k0_pay132 (F := Ideal) ids) (k0_pay136 km ids (k0_pay129 lane (k0_pay122 qi)) (constant S8x256 .f32 0x00000000#32)) (k0_pay137 km ids (k0_pay129 lane (k0_pay122 qi)) (constant S8x256 .f32 0x00000000#32))) (k0_pay140 kb vb ex own (k0_pay127 (k0_pay123 lane qi)) (k0_pay128 ex own (k0_pay126 ids (k0_pay124 lane km ids qi) (k0_pay125 ids))) (k0_pay129 lane (k0_pay122 qi)) (k0_pay131 ids) (k0_pay132 (F := Ideal) ids) (k0_pay136 km ids (k0_pay129 lane (k0_pay122 qi)) (constant S8x256 .f32 0x00000000#32)) (k0_pay137 km ids (k0_pay129 lane (k0_pay122 qi)) (constant S8x256 .f32 0x00000000#32))) (k0_pay141 kb ex own (k0_pay127 (k0_pay123 lane qi)) (k0_pay128 ex own (k0_pay126 ids (k0_pay124 lane km ids qi) (k0_pay125 ids))) (k0_pay129 lane (k0_pay122 qi)) (k0_pay131 ids) (k0_pay132 (F := Ideal) ids) (k0_pay136 km ids (k0_pay129 lane (k0_pay122 qi)) (constant S8x256 .f32 0x00000000#32)) (k0_pay137 km ids (k0_pay129 lane (k0_pay122 qi)) (constant S8x256 .f32 0x00000000#32))) (k0_pay142 (F := Ideal)) =
      out (half lane 0#32) (av6 vb (ex6 (sc6 kb (mq lane 0#32 qi) (mq lane 1#32 qi)
        (bias6 ex own (rows 6#32 ids (gt 6#32 km ids (mq lane 0#32 qi)))) (bias6 ex own (rows 6#32 ids (gt 6#32 km ids (mq lane 1#32 qi))))))) := rfl

/-- Row block 7: the masked scores of its two heads. -/
def sc7 (kb : FVec Ideal S2048x128 .bf16) (m0 m1 : FVec Ideal S256x128 .f32) (b0 b1 : FVec Ideal S256x2048 .f32) : FVec Ideal S2x256x2048 .f32 :=
  addf (shapeCast S2x256x2048 (matmul dot_S512x128_S2048x128_S512x2048_1_1_0_0_n_n none (qs m0 m1) kb
      (constant S512x2048 .f32 0x00000000#32)) shapeCasts_S512x2048_S2x256x2048)
    (concatenate S2x256x2048 0 [⟨S1x256x2048, shapeCast S1x256x2048 b0 shapeCasts_S256x2048_S1x256x2048⟩,
      ⟨S1x256x2048, shapeCast S1x256x2048 b1 shapeCasts_S256x2048_S1x256x2048⟩] concatenates_S1x256x2048_S1x256x2048_S2x256x2048_d0)

/-- Row block 7: the weights. -/
def ex7 (s : FVec Ideal S2x256x2048 .f32) : FVec Ideal S2x256x2048 .f32 :=
  exp (subf s (broadcastTo S2x256x2048 (shapeCast S2x256x1 (multiReduction .maximumf [2] S2x256 s 0xFF800000#32
    reduces_S2x256x2048_S2x256 (.inl rfl) rfl) shapeCasts_S2x256_S2x256x1) broadcasts_S2x256x1_S2x256x2048))

/-- Row block 7: its two heads' values, weighted. -/
def av7 (vb : FVec Ideal S2048x128 .bf16) (p : FVec Ideal S2x256x2048 .f32) : FVec Ideal S2x256x128 .f32 :=
  norm (shapeCast S2x256x1 (multiReduction .add [2] S2x256 p 0x00000000#32 reduces_S2x256x2048_S2x256 (.inl rfl) rfl) shapeCasts_S2x256_S2x256x1)
    (shapeCast S2x256x128 (matmul dot_S512x2048_S2048x128_S512x128_1_0_0_1_n_n none
      (truncf .bf16 (shapeCast S512x2048 p shapeCasts_S2x256x2048_S512x2048) bitsLt_bf16_f32) vb
      (constant S512x128 .f32 0x00000000#32)) shapeCasts_S512x128_S2x256x128)

/-- Row block 7: zero for the keys of the chosen blocks and of the own one, minus infinity for the others. -/
def bias7 (ex : FVec Ideal S128x2048 .bf16) (own : FVec Ideal S256x256 .f32) (rw : FVec Ideal S256x128 .bf16) : FVec Ideal S256x2048 .f32 :=
  concatenate S256x2048 1 [⟨S256x1792, select (cmpf .ogt (matmul dot_S256x128_S128x1792_S256x1792_1_0_0_1_n_n none rw
      (extractStridedSlice S128x1792 ![0, 0] ex slices_S128x2048_o0_0_S128x1792) (constant S256x1792 .f32 0x00000000#32))
      (broadcast S256x1792 (Scalar.ofBits .f32 0x3F000000#32)))
      (broadcast S256x1792 (Scalar.ofBits .f32 0x00000000#32)) (broadcast S256x1792 (Named.named κ "mask" 0xF149F2CA#32))⟩,
    ⟨S256x256, own⟩] concatenates_S256x1792_S256x256_S256x2048_d1

theorem fold7 (lane : IVec S1x128 32) (ids : IVec S8x256 32) (kb vb : FVec Ideal S2048x128 .bf16) (km : FVec Ideal S8x128 .f32)
    (ex : FVec Ideal S128x2048 .bf16) (own : FVec Ideal S256x256 .f32) (qi : Vec Ideal S1x256x128 .f32) :
    k0_pay1 lane (k0_pay170 (k0_pay167 kb vb ex own (k0_pay152 (k0_pay145 lane qi)) (k0_pay153 ex own (k0_pay151 (k0_pay146 lane km ids qi) (k0_pay147 ids) (k0_pay148 (F := Ideal) ids) (k0_pay149 (F := Ideal)) (k0_pay150 lane km ids qi))) (k0_pay154 lane (k0_pay144 qi)) (k0_pay158 ids) (k0_pay163 ids (k0_pay155 lane km (k0_pay144 qi)) (k0_pay156 ids) (Scalar.ofBits .f32 0xFF800000#32)) (k0_pay164 ids (k0_pay155 lane km (k0_pay144 qi)) (k0_pay156 ids) (Scalar.ofBits .f32 0xFF800000#32)) (Scalar.ofBits .f32 0x3F800000#32)) (k0_pay168 kb ex own (k0_pay152 (k0_pay145 lane qi)) (k0_pay153 ex own (k0_pay151 (k0_pay146 lane km ids qi) (k0_pay147 ids) (k0_pay148 (F := Ideal) ids) (k0_pay149 (F := Ideal)) (k0_pay150 lane km ids qi))) (k0_pay154 lane (k0_pay144 qi)) (k0_pay158 ids) (k0_pay163 ids (k0_pay155 lane km (k0_pay144 qi)) (k0_pay156 ids) (Scalar.ofBits .f32 0xFF800000#32)) (k0_pay164 ids (k0_pay155 lane km (k0_pay144 qi)) (k0_pay156 ids) (Scalar.ofBits .f32 0xFF800000#32)) (Scalar.ofBits .f32 0x3F800000#32)) (k0_pay169 kb ex own (k0_pay152 (k0_pay145 lane qi)) (k0_pay153 ex own (k0_pay151 (k0_pay146 lane km ids qi) (k0_pay147 ids) (k0_pay148 (F := Ideal) ids) (k0_pay149 (F := Ideal)) (k0_pay150 lane km ids qi))) (k0_pay154 lane (k0_pay144 qi)) (k0_pay158 ids) (k0_pay163 ids (k0_pay155 lane km (k0_pay144 qi)) (k0_pay156 ids) (Scalar.ofBits .f32 0xFF800000#32)) (k0_pay164 ids (k0_pay155 lane km (k0_pay144 qi)) (k0_pay156 ids) (Scalar.ofBits .f32 0xFF800000#32)) (Scalar.ofBits .f32 0x3F800000#32))) 64#32 (k0_pay171 lane) (k0_pay172 lane) (Scalar.extui (Scalar.cmpi .sgt 64#32 0#32)) (Scalar.extui (Scalar.cmpi .slt 64#32 0#32)) =
      out (half lane 0#32) (av7 vb (ex7 (sc7 kb (mq lane 0#32 qi) (mq lane 1#32 qi)
        (bias7 ex own (rows 7#32 ids (gt 7#32 km ids (mq lane 0#32 qi)))) (bias7 ex own (rows 7#32 ids (gt 7#32 km ids (mq lane 1#32 qi))))))) := rfl

end Cert.MobaIdeal.Proved
-- ==== Proof.Attn.Rank.lean ====
module

public import Idealize.ShloMosaic.Lib.SortFacts
public import Idealize.ShloMosaic.PureOps.Ideal.Laws

@[expose] public section

/-! Picking the greatest gates. A block comes before another when its gate is greater, or equal with a lower number; its rank is
    the number of blocks before it. Taking the first maximum again and again, and sorting by the gate, both list blocks by rank. -/

namespace Cert.Attn

open Idealize.ShloMosaic

variable {N : Nat}

/-- Block `a` comes before block `b`. -/
def Bef (g : Fin N → EReal) (a b : Fin N) : Prop := g b < g a ∨ (g a = g b ∧ a < b)

theorem Bef.irrefl (g : Fin N → EReal) (a : Fin N) : ¬ Bef g a a := by
  rintro (h | h)
  · exact lt_irrefl _ h
  · exact lt_irrefl _ h.2

theorem Bef.trans {g : Fin N → EReal} {a b c : Fin N} (h : Bef g a b) (k : Bef g b c) : Bef g a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

theorem Bef.total (g : Fin N → EReal) {a b : Fin N} (h : a ≠ b) : Bef g a b ∨ Bef g b a := by
  rcases lt_trichotomy (g a) (g b) with k | k | k
  · exact Or.inr (Or.inl k)
  · rcases lt_or_gt_of_ne h with l | l
    · exact Or.inl (Or.inr ⟨k, l⟩)
    · exact Or.inr (Or.inr ⟨k.symm, l⟩)
  · exact Or.inl (Or.inl k)

open Classical in
/-- How many blocks come before block `n`. -/
noncomputable def rk (g : Fin N → EReal) (n : Fin N) : Nat := (Finset.univ.filter fun a => Bef g a n).card

theorem rk_lt {g : Fin N → EReal} {a b : Fin N} (h : Bef g a b) : rk g a < rk g b := by
  classical
  refine Finset.card_lt_card ⟨fun c hc => ?_, fun hs => ?_⟩
  · simp only [Finset.mem_filter, Finset.mem_univ, true_and] at hc ⊢
    exact hc.trans h
  · have := hs (show a ∈ _ by simpa using h)
    simp only [Finset.mem_filter, Finset.mem_univ, true_and] at this
    exact Bef.irrefl g a this

theorem rk_eq_zero {g : Fin N → EReal} {n : Fin N} : rk g n = 0 ↔ ∀ a, ¬ Bef g a n := by
  classical
  simp [rk, Finset.card_eq_zero, Finset.filter_eq_empty_iff]

/-- A block of rank zero holds the greatest gate, and every earlier block's gate is another. -/
theorem rk_eq_zero_iff_first {g : Fin N → EReal} {n : Fin N} :
    rk g n = 0 ↔ g n = Finset.univ.sup g ∧ ∀ k, k < n → g k ≠ Finset.univ.sup g := by
  rw [rk_eq_zero]
  constructor
  · intro h
    have hs : g n = Finset.univ.sup g := by
      refine le_antisymm (Finset.le_sup (Finset.mem_univ n)) (Finset.sup_le fun a _ => ?_)
      exact not_lt.mp fun hlt => h a (Or.inl hlt)
    exact ⟨hs, fun k hk e => h k (Or.inr ⟨e.trans hs.symm, hk⟩)⟩
  · rintro ⟨hs, hf⟩ a (ha | ⟨ha, hl⟩)
    · exact absurd (hs ▸ ha) (not_lt.mpr (Finset.le_sup (Finset.mem_univ a)))
    · exact hf a hl (ha.trans hs)

/-- The gates after a round: the picked block's gate is the least. -/
noncomputable def nxt (g : Fin N → EReal) (n : Fin N) : EReal := if rk g n = 0 then ⊥ else g n

theorem rk_nxt {g : Fin N → EReal} {n : Fin N} (hb : g n ≠ ⊥) (hn : rk g n ≠ 0) : rk g n = rk (nxt g) n + 1 := by
  classical
  obtain ⟨a0, -, ha0⟩ := Finset.exists_min_image Finset.univ (rk g) ⟨n, Finset.mem_univ n⟩
  have h0 : rk g a0 = 0 := by
    rw [rk_eq_zero]
    intro b hbf
    exact absurd (ha0 b (Finset.mem_univ b)) (not_le.mpr (rk_lt hbf))
  have hne : a0 ≠ n := fun e => hn (e ▸ h0)
  have hbef : Bef g a0 n := (Bef.total g hne).resolve_right (rk_eq_zero.mp h0 n)
  have huniq : ∀ a, rk g a = 0 → a = a0 := fun a ha => by
    by_contra h
    rcases Bef.total g h with k | k
    · exact rk_eq_zero.mp h0 a k
    · exact rk_eq_zero.mp ha a0 k
  have hx : nxt g n = g n := if_neg hn
  have hset : (Finset.univ.filter fun a => Bef g a n) = insert a0 (Finset.univ.filter fun a => Bef (nxt g) a n) := by
    ext a
    simp only [Finset.mem_filter, Finset.mem_univ, true_and, Finset.mem_insert]
    by_cases ha : a = a0
    · subst ha; simp [hbef]
    · have hna : rk g a ≠ 0 := fun h => ha (huniq a h)
      have : nxt g a = g a := if_neg hna
      simp [ha, Bef, this, hx]
  have hnot : a0 ∉ (Finset.univ.filter fun a => Bef (nxt g) a n) := by
    simp only [Finset.mem_filter, Finset.mem_univ, true_and]
    have : nxt g a0 = ⊥ := if_pos h0
    rintro (h | ⟨h, -⟩)
    · rw [this] at h; exact not_lt_bot h
    · rw [this, hx] at h; exact hb h.symm
  unfold rk
  rw [hset, Finset.card_insert_of_notMem hnot]

/-- What three rounds pick, among the blocks whose gate is not the least, are the blocks of rank below three. -/
theorem three_rounds {g : Fin N → EReal} {n : Fin N} (hb : g n ≠ ⊥) :
    (rk (nxt (nxt g)) n = 0 ∨ rk (nxt g) n = 0 ∨ rk g n = 0) ↔ rk g n < 3 := by
  by_cases h0 : rk g n = 0
  · simp [h0]
  · have e0 := rk_nxt hb h0
    have hb1 : nxt g n ≠ ⊥ := by rw [show nxt g n = g n from if_neg h0]; exact hb
    by_cases h1 : rk (nxt g) n = 0
    · simp [h1, e0]
    · have e1 := rk_nxt hb1 h1
      omega

/-! The stable sort by the gate. -/

theorem pairwise_insert (g : Fin N → EReal) (R : Fin N → Fin N → Bool) (hR : ∀ a b, R a b = true ↔ g b < g a) (a : Fin N)
    (l : List (Fin N)) (hl : l.Pairwise (Bef g)) (ha : ∀ b ∈ l, a < b) : (insertBefore R a l).Pairwise (Bef g) := by
  induction l with
  | nil => exact List.pairwise_singleton _ _
  | cons b l ih =>
    rw [List.pairwise_cons] at hl
    unfold insertBefore
    by_cases h : R b a = true
    · rw [if_pos h, List.pairwise_cons]
      refine ⟨fun c hc => ?_, ih hl.2 fun c hc => ha c (List.mem_cons_of_mem _ hc)⟩
      rcases List.mem_cons.mp ((perm_insertBefore R a l).mem_iff.mp hc) with e | e
      · subst e; exact Or.inl ((hR _ _).mp h)
      · exact hl.1 c e
    · rw [if_neg h, List.pairwise_cons]
      have hab : Bef g a b := by
        rcases lt_or_eq_of_le (not_lt.mp fun k => h ((hR b a).mpr k)) with k | k
        · exact Or.inl k
        · exact Or.inr ⟨k.symm, ha b (List.mem_cons_self ..)⟩
      refine ⟨fun c hc => ?_, List.pairwise_cons.mpr hl⟩
      rcases List.mem_cons.mp hc with e | e
      · subst e; exact hab
      · exact hab.trans (hl.1 c e)

theorem pairwise_sort (g : Fin N → EReal) (R : Fin N → Fin N → Bool) (hR : ∀ a b, R a b = true ↔ g b < g a)
    (l : List (Fin N)) (hl : l.Pairwise (· < ·)) : (stableSort R l).Pairwise (Bef g) := by
  induction l with
  | nil => exact List.Pairwise.nil
  | cons a l ih =>
    rw [List.pairwise_cons] at hl
    exact pairwise_insert g R hR a _ (ih hl.2) fun b hb => hl.1 b ((perm_stableSort R l).mem_iff.mp hb)

/-- The block that the sort puts at place `s` has rank `s`. -/
theorem rk_sortedFrom (g : Fin N → EReal) (R : Fin N → Fin N → Bool) (hR : ∀ a b, R a b = true ↔ g b < g a) (s : Fin N) :
    rk g (sortedFrom R s) = s.val := by
  classical
  have hp := pairwise_sort g R hR (List.finRange N) (List.pairwise_lt_finRange N)
  have hm : ∀ i j : Fin N, i < j → Bef g (sortedFrom R i) (sortedFrom R j) := fun i j hij =>
    List.pairwise_iff_get.mp hp _ _ hij
  have hset : (Finset.univ.filter fun a => Bef g a (sortedFrom R s)) = (Finset.univ.filter fun i : Fin N => i < s).image (sortedFrom R) := by
    ext a
    simp only [Finset.mem_filter, Finset.mem_univ, true_and, Finset.mem_image]
    constructor
    · intro h
      obtain ⟨i, rfl⟩ := sortedFrom_surjective R a
      refine ⟨i, ?_, rfl⟩
      by_contra hc
      rcases lt_or_eq_of_le (not_lt.mp hc) with k | k
      · exact Bef.irrefl g _ (h.trans (hm s i k))
      · subst k; exact Bef.irrefl g _ h
    · rintro ⟨i, hi, rfl⟩; exact hm i s hi
  unfold rk
  rw [hset, Finset.card_image_of_injective _ (sortedFrom_injective R)]
  exact (congrArg Finset.card (by ext i; simp : _ = Finset.Iio s)).trans (Fin.card_Iio s)

end Cert.Attn
-- ==== Proof.Moba.Spec.lean ====
module

public import proofs.«01_k».proof.Proof.Attn.Rank
public import proofs.«01_k».proof.Proof.Attn.Soft
public import Idealize.ShloMosaic.Lib.Pointwise
public import Idealize.ShloMosaic.Lib.Claim

@[expose] public section

noncomputable section

/-! MoBA attention, one query of one head: the blocks it chooses, the keys it attends and the value both programs compute. -/

namespace Cert.Moba

open Idealize.ShloMosaic Cert.Attn

/-- The block of a key. -/
def blk (j : Fin 2048) : Fin 8 := ⟨j.val / 256, by omega⟩

/-- The keys attended from place `r` of block `i`: the own block's up to the place, and the past blocks' of rank below three. -/
def keys (i r : Nat) (g : Fin 8 → EReal) : Finset (Fin 2048) :=
  Finset.univ.filter fun j => (j.val / 256 = i ∧ j.val % 256 ≤ r) ∨ (j.val / 256 < i ∧ rk g (blk j) < 3)

/-- The gate: the query's product with each past block's mean key. -/
def gate (q : Fin 64 → EReal) (K : Fin 2048 → Fin 64 → EReal) (i : Nat) (n : Fin 8) : EReal :=
  if n.val < i then
    ∑ d, q d * Ideal.div (∑ p : Fin 256, K ⟨n.val * 256 + p.val, by omega⟩ d) (Ideal.ofBits .f32 0x43800000#32)
  else ⊥

/-- The score of a key. -/
def score (q : Fin 64 → EReal) (K : Fin 2048 → Fin 64 → EReal) (j : Fin 2048) : EReal :=
  (∑ d, q d * K j d) * Ideal.ofBits .f32 0x3E000000#32

/-- The value attended. -/
def moba (i r : Nat) (q : Fin 64 → EReal) (K : Fin 2048 → Fin 64 → EReal) (v : Fin 2048 → EReal) : EReal :=
  att (keys i r (gate q K i)) (score q K) v

theorem eighth : Ideal.ofBits .f32 0x3E000000#32 = ((1 / 8 : ℝ) : EReal) := by
  simp [Ideal.ofBits, Ideal.ieee, -EReal.coe_mul]; norm_num

theorem c256 : Ideal.ofBits .f32 0x43800000#32 = ((256 : ℝ) : EReal) := by
  simp [Ideal.ofBits, Ideal.ieee, -EReal.coe_mul]; norm_num

theorem div_re {x : EReal} (h : Re x) : Re (Ideal.div x (Ideal.ofBits .f32 0x43800000#32)) := by
  obtain ⟨a, rfl⟩ := h
  rw [c256, Ideal.div, if_neg (by norm_num), ← EReal.coe_inv]
  exact Re.mul ⟨a, rfl⟩ ⟨_, rfl⟩

section
variable {q : Fin 64 → EReal} {K : Fin 2048 → Fin 64 → EReal} (hq : ∀ d, Re (q d)) (hK : ∀ j d, Re (K j d))
include hq hK

theorem score_re (j : Fin 2048) : Re (score q K j) :=
  (Re.sum _ fun d _ => (hq d).mul (hK j d)).mul ⟨_, eighth⟩

theorem gate_re {i : Nat} {n : Fin 8} (h : n.val < i) : Re (gate q K i n) := by
  rw [gate, if_pos h]
  exact Re.sum _ fun d _ => (hq d).mul (div_re (Re.sum _ fun p _ => hK _ d))

theorem gate_ne {i : Nat} {n : Fin 8} (h : n.val < i) : gate q K i n ≠ ⊥ := (gate_re hq hK h).ne_bot

/-- With at most three blocks in the past every one of them is chosen. -/
theorem rk_past {i : Nat} (hi : i ≤ 3) {n : Fin 8} (h : n.val < i) : rk (gate q K i) n < 3 := by
  classical
  unfold rk
  refine lt_of_lt_of_le (Finset.card_lt_card (t := (Finset.univ : Finset (Fin 8)).filter fun a => a.val < i) ⟨fun a ha => ?_, fun hs => ?_⟩) ?_
  · simp only [Finset.mem_filter, Finset.mem_univ, true_and] at ha ⊢
    by_contra hn
    have e : gate q K i a = ⊥ := if_neg hn
    rcases ha with ha | ha
    · rw [e] at ha; exact not_lt_bot ha
    · exact gate_ne hq hK h (ha.1 ▸ e)
  · have := hs (show n ∈ _ by simpa using h)
    simp only [Finset.mem_filter, Finset.mem_univ, true_and] at this
    exact Bef.irrefl _ _ this
  · interval_cases i <;> decide

end

open Classical in
/-- What is added to a key's score: zero if the key is attended, minus infinity if it is not. -/
def bia (i r : Nat) (g : Fin 8 → EReal) (j : Fin 2048) : EReal :=
  if j.val < 256 * i then (if rk g (blk j) < 3 then 0 else ⊥) else if j.val - 256 * i ≤ r then 0 else ⊥

theorem bia_of_mem {i r : Nat} {g : Fin 8 → EReal} {j : Fin 2048} (h : j ∈ keys i r g) : bia i r g j = 0 := by
  simp only [keys, Finset.mem_filter, Finset.mem_univ, true_and] at h
  rcases h with h | h
  · rw [bia, if_neg (by omega), if_pos (by omega)]
  · rw [bia, if_pos (by omega), if_pos h.2]

theorem bia_of_not_mem {i r : Nat} {g : Fin 8 → EReal} {j : Fin 2048} (h : j ∉ keys i r g) (hj : j.val < (i + 1) * 256) : bia i r g j = ⊥ := by
  simp only [keys, Finset.mem_filter, Finset.mem_univ, true_and, not_or, not_and] at h
  by_cases h1 : j.val < 256 * i
  · rw [bia, if_pos h1, if_neg (h.2 (by omega))]
  · rw [bia, if_neg h1, if_neg (by have := h.1 (by omega); omega)]

/-- The weighted values times the inverse of the weights' sum, when that sum is positive. -/
def winv {n : Nat} (f w : Fin n → EReal) : EReal :=
  (∑ x, Ideal.exp (f x - Finset.univ.sup f) * w x) * (if 0 < ∑ x, Ideal.exp (f x - Finset.univ.sup f) then
    Ideal.div 1 (if 0 < ∑ x, Ideal.exp (f x - Finset.univ.sup f) then ∑ x, Ideal.exp (f x - Finset.univ.sup f) else 1) else 0)

theorem own_mem {i r : Nat} (hi : i < 8) (hr : r < 256) (g : Fin 8 → EReal) : (⟨i * 256, by omega⟩ : Fin 2048) ∈ keys i r g := by
  simp only [keys, Finset.mem_filter, Finset.mem_univ, true_and]
  exact Or.inl (by omega)

/-- Over the keys up to the own block's end, scores with the mask added give the value attended. -/
theorem winv_eq {i r n : Nat} (hi : i < 8) (hr : r < 256) (hn : n = (i + 1) * 256) {q : Fin 64 → EReal} {K : Fin 2048 → Fin 64 → EReal}
    (hq : ∀ d, Re (q d)) (hK : ∀ j d, Re (K j d)) (v : Fin 2048 → EReal) (f w : Fin n → EReal)
    (hf : ∀ k : Fin n, f k = score q K ⟨k.val, by omega⟩ + bia i r (gate q K i) ⟨k.val, by omega⟩)
    (hw : ∀ k : Fin n, w k = v ⟨k.val, by omega⟩) : winv f w = moba i r q K v := by
  refine att_of_inv (fun k : Fin n => (⟨k.val, by omega⟩ : Fin 2048) ∈ keys i r (gate q K i)) (fun k => ⟨k.val, by omega⟩)
    ⟨_, own_mem hi hr _⟩ (fun j _ => score_re hq hK j) (fun k h => ?_) (fun k h => ?_) (fun k h => h) (fun a b _ _ h => ?_)
    (fun j h => ?_) (fun k _ => hw k)
  · rw [hf, bia_of_mem h, add_zero]
  · rw [hf, bia_of_not_mem h (by dsimp only; omega), EReal.add_bot]
  · exact Fin.ext (Fin.mk.inj h)
  · refine ⟨⟨j.val, ?_⟩, h, rfl⟩
    simp only [keys, Finset.mem_filter, Finset.mem_univ, true_and] at h
    omega

/-- A row of an increasing `f` is the least over the rows that hold `P` when it is the first of them. -/
theorem least_iff {N : Nat} {P : Fin N → Prop} [DecidablePred P] {f : Fin N → EReal} (hf : StrictMono f) {B : EReal} (hB : ∀ a, f a < B)
    (n : Fin N) : f n = Finset.univ.inf (fun a => if P a then f a else B) ↔ P n ∧ ∀ k, k < n → ¬ P k := by
  constructor
  · intro h
    obtain ⟨a, -, ha⟩ := Finset.exists_mem_eq_inf Finset.univ ⟨n, Finset.mem_univ n⟩ fun a => if P a then f a else B
    have hle : ∀ k, P k → f n ≤ f k := fun k hk => by
      rw [h]; refine (Finset.inf_le (Finset.mem_univ k)).trans ?_; rw [if_pos hk]
    rw [ha] at h
    by_cases p : P a
    · rw [if_pos p] at h
      exact ⟨hf.injective h ▸ p, fun k hk hp => absurd (hle k hp) (not_le.mpr (hf hk))⟩
    · rw [if_neg p] at h; exact absurd h (hB n).ne
  · rintro ⟨hp, hl⟩
    refine le_antisymm (Finset.le_inf fun a _ => ?_) ((Finset.inf_le (Finset.mem_univ n)).trans (by rw [if_pos hp]))
    by_cases p : P a
    · rw [if_pos p]; exact hf.monotone (not_lt.mp fun h => hl a h p)
    · rw [if_neg p]; exact (hB n).le

end Cert.Moba
-- ==== Proof.Moba.Pick.lean ====
module

public import proofs.«01_k».proof.Proof.Moba.Body
public import proofs.«01_k».proof.Proof.Moba.Spec
public import proofs.«01_k».proof.Proof.Attn.Soft
public import Idealize.ShloMosaic.Lib.Pipeline.ValueKit
public import Idealize.ShloMosaic.Lib.Pointwise
public import Idealize.ShloMosaic.Lib.Claim

@[expose] public section

set_option maxRecDepth 16384

noncomputable section

/-! MoBA attention: the kernel body's arrays, entry by entry. -/

namespace Cert.MobaIdeal.Proved

open Cert.MobaIdeal Cert.MobaIdeal.Gen Idealize.ShloMosaic Idealize.ShloMosaic.TcCoe Idealize.SL.Sem Cert.Attn Cert.Moba

/-- The lanes' numbers. -/
abbrev lanes : IVec S1x128 32 := iota .tc S1x128 32 [1] iota_S1x128_d1_w32

/-- The blocks' numbers. -/
abbrev blks : IVec S8x256 32 := iota .tc S8x256 32 [0] iota_S8x256_d0_w32

theorem half0_at (l : Fin 128) : half lanes 0#32 (ix2 0 l) = if l.val < 64 then 1#1 else 0#1 := by
  pointwise [half]
  revert l
  decide +kernel

theorem half1_at (l : Fin 128) : half lanes 1#32 (ix2 0 l) = if l.val < 64 then 0#1 else 1#1 := by
  pointwise [half]
  revert l
  decide +kernel

theorem mq_at (lane : IVec S1x128 32) (c : BitVec 32) (qi : Vec Ideal S1x256x128 .f32) (r : Fin 256) (l : Fin 128) :
    mq lane c qi (ix2 r l) = if half lane c (ix2 0 l) = 1#1 then qi (ix3 0 r l) else 0 := by
  generalize hh : half lane c = x
  pointwise [mq, hh]
  rfl

theorem mq0_at (qi : Vec Ideal S1x256x128 .f32) (r : Fin 256) (l : Fin 128) :
    mq lanes 0#32 qi (ix2 r l) = if l.val / 64 = 0 then qi (ix3 0 r l) else 0 := by
  rw [mq_at, half0_at]
  by_cases h : l.val < 64
  · rw [if_pos h, if_pos rfl, if_pos (by omega)]
  · rw [if_neg h, if_neg (by decide), if_neg (by omega)]

theorem mq1_at (qi : Vec Ideal S1x256x128 .f32) (r : Fin 256) (l : Fin 128) :
    mq lanes 1#32 qi (ix2 r l) = if l.val / 64 = 1 then qi (ix3 0 r l) else 0 := by
  rw [mq_at, half1_at]
  by_cases h : l.val < 64
  · rw [if_pos h, if_neg (by decide), if_neg (by omega)]
  · rw [if_neg h, if_pos rfl, if_pos (by omega)]

theorem slt_small (n nb : Nat) (hn : n < 8) (hb : nb < 8) :
    IntOp.cmpi CmpIPredicate.slt (BitVec.ofNat 32 n) (BitVec.ofNat 32 nb) = if n < nb then 1#1 else 0#1 := by
  have : ∀ a b : Fin 8, IntOp.cmpi CmpIPredicate.slt (BitVec.ofNat 32 a.val) (BitVec.ofNat 32 b.val) = if a.val < b.val then 1#1 else 0#1 := by
    decide +kernel
  exact this ⟨n, hn⟩ ⟨nb, hb⟩

theorem select_ite (p : Prop) [Decidable p] (a b : EReal) : Scalar.select (if p then 1#1 else 0#1) a b = if p then a else b := by
  by_cases h : p
  · rw [if_pos h, if_pos h]; rfl
  · rw [if_neg h, if_neg h]; rfl

theorem gt_at (nb : Nat) (hb : nb < 8) (km : FVec Ideal S8x128 .f32) (m : FVec Ideal S256x128 .f32) (n : Fin 8) (r : Fin 256) :
    gt (BitVec.ofNat 32 nb) km blks m (ix2 n r) = if n.val < nb then ∑ l, km (ix2 n l) * m (ix2 r l) else ⊥ := by
  pointwise [gt]
  rw [slt_small _ _ n.isLt hb, select_ite, neg_inf]

/-- A column of the gates. -/
def col (x : FVec Ideal S8x256 .f32) (r : Fin 256) (n : Fin 8) : EReal := x (ix2 n r)

theorem float_of_small (n : Fin 8) : FloatOps.sitofp (F := Ideal) FTy.f32 (BitVec.ofNat 32 n.val) = ((n.val : ℝ) : EReal) := by
  have h : (BitVec.ofNat 32 n.val).toInt = (n.val : ℤ) := by
    revert n; decide +kernel
  show (((BitVec.ofNat 32 n.val).toInt : ℝ) : EReal) = _
  rw [h]; norm_cast

theorem bit_ite {p q : Prop} [Decidable p] [Decidable q] (h : p ↔ q) : BitVec.ofBool (decide p) = if q then 1#1 else 0#1 := by
  by_cases k : q
  · rw [if_pos k, decide_eq_true (h.mpr k)]; rfl
  · rw [if_neg k, decide_eq_false (fun l => k (h.mp l))]; rfl

theorem hit_at (x : FVec Ideal S8x256 .f32) (n : Fin 8) (r : Fin 256) :
    hit blks x (ix2 n r) = if rk (col x r) n = 0 then 1#1 else 0#1 := by
  pointwise [hit, low, top]
  rw [pos_inf]
  simp only [fold_max, float_of_small]
  have e : Ideal.ofBits .f32 1233125376#32 = ((1048576 : ℝ) : EReal) := by
    simp [Ideal.ofBits, Ideal.ieee, -EReal.coe_mul]; norm_num
  rw [e]
  have key := least_iff (P := fun a => col x r a = Finset.univ.sup (col x r)) (f := fun a : Fin 8 => ((a.val : ℝ) : EReal))
    (fun a b h => EReal.coe_lt_coe_iff.mpr (Nat.cast_lt.mpr h)) (B := ((1048576 : ℝ) : EReal)) (fun a => EReal.coe_lt_coe_iff.mpr (by
      have : (a.val : ℝ) < 8 := by exact_mod_cast a.isLt
      linarith)) n
  rw [← rk_eq_zero_iff_first] at key
  exact bit_ite key

theorem col_next (x : FVec Ideal S8x256 .f32) (r : Fin 256) : col (next blks x) r = nxt (col x r) := by
  funext n
  show next blks x (ix2 n r) = _
  pointwise [next]
  rw [hit_at, select_ite, neg_inf]
  rfl

theorem picks_at (x : FVec Ideal S8x256 .f32) (n : Fin 8) (r : Fin 256) (h : col x r n ≠ ⊥) :
    picks blks x (ix2 n r) = if rk (col x r) n < 3 then 1 else 0 := by
  pointwise [picks]
  rw [hit_at, hit_at, hit_at, col_next, col_next, select_ite, select_ite, select_ite]
  have := three_rounds h
  by_cases h2 : rk (nxt (nxt (col x r))) n = 0
  · rw [if_pos h2, if_pos (this.mp (Or.inl h2))]
  · rw [if_neg h2]
    by_cases h1 : rk (nxt (col x r)) n = 0
    · rw [if_pos h1, if_pos (this.mp (Or.inr (Or.inl h1)))]
    · rw [if_neg h1]
      by_cases h0 : rk (col x r) n = 0
      · rw [if_pos h0, if_pos (this.mp (Or.inr (Or.inr h0)))]
      · rw [if_neg h0, if_neg fun k => by rcases this.mpr k with k | k | k <;> contradiction]

theorem rows_at (nb : Nat) (hb : nb < 8) (x : FVec Ideal S8x256 .f32) (r : Fin 256) (k : Fin 128) (n : Fin 8) (hn : n.val < nb)
    (hk : k.val = n.val) : rows (BitVec.ofNat 32 nb) blks x (ix2 r k) = picks blks x (ix2 n r) := by
  generalize hh : picks blks x = y
  pointwise [rows, hh]
  have h8 : k.val < 8 := by omega
  refine (dif_pos h8).trans ?_
  rw [slt_small _ _ h8 hb, select_ite, if_pos (by omega)]
  exact congrArg y (congrArg (fun z => ix2 z r) (Fin.ext hk))

theorem out_at (o : FVec Ideal S2x256x128 .f32) (r : Fin 256) (l : Fin 128) :
    out (half lanes 0#32) o (ix3 0 r l) = o (ix3 ⟨l.val / 64, by omega⟩ r l) := by
  generalize hh : half lanes 0#32 = x
  pointwise [out]
  rw [← hh, half0_at, select_ite]
  by_cases h : l.val < 64
  · rw [if_pos h]; exact congrArg o (congrArg (fun z => ix3 z r l) (Fin.ext (by show 0 = l.val / 64; omega)))
  · rw [if_neg h]; exact congrArg o (congrArg (fun z => ix3 z r l) (Fin.ext (by show 1 = l.val / 64; omega)))

theorem qs_at (qi : Vec Ideal S1x256x128 .f32) (c : Fin 2) (r : Fin 256) (l : Fin 128) (k : Fin 512) (hk : k.val = c.val * 256 + r.val) :
    qs (mq lanes 0#32 qi) (mq lanes 1#32 qi) (ix2 k l) =
      (if l.val / 64 = c.val then qi (ix3 0 r l) else 0) * Ideal.ofBits .f32 0x3E000000#32 := by
  generalize h0 : mq lanes 0#32 qi = m0
  generalize h1 : mq lanes 1#32 qi = m1
  pointwise [qs]
  by_cases h : c.val = 0
  · refine (dif_pos (by omega)).trans ?_
    rw [h, ← mq0_at, h0]
    exact congrArg (fun z => m0 (ix2 z l) * _) (Fin.ext (by dsimp only; omega))
  · have hc : c.val = 1 := by omega
    refine (dif_neg (by omega)).trans ?_
    rw [hc, ← mq1_at, h1]
    exact congrArg (fun z => m1 (ix2 z l) * _) (Fin.ext (by dsimp only; omega))

theorem pay13_at (k : Fin 128) (j : Fin 2048) : k0_pay13 (F := Ideal) (ix2 k j) = if k.val = j.val / 256 then 1 else 0 := by
  have ev : ∀ j : Fin 2048, (Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 256#32 0#32))
                (Scalar.extui (Scalar.cmpi CmpIPredicate.slt 256#32 0#32))))
            (IntOp.cmpi CmpIPredicate.ne (IntOp.remsi ArithUnit.vector (BitVec.ofNat 32 j.val) 256#32) 0#32))
          (IntOp.subi (IntOp.divsi ArithUnit.vector (BitVec.ofNat 32 j.val) 256#32) 1#32)
          (IntOp.divsi ArithUnit.vector (BitVec.ofNat 32 j.val) 256#32)) = BitVec.ofNat 32 (j.val / 256) := by
    decide +kernel
  have cmp : ∀ (k : Fin 128) (n : Fin 8), IntOp.cmpi CmpIPredicate.eq (BitVec.ofNat 32 k.val) (BitVec.ofNat 32 n.val)
      = if k.val = n.val then 1#1 else 0#1 := by
    decide +kernel
  pointwise [k0_pay13]
  rw [ev j, cmp k ⟨j.val / 256, by omega⟩, select_ite]

theorem mask_at : (Named.named (F := Ideal) (φ := .f32) κ "mask" 4048155338#32 : EReal) = ⊥ := IdealRules.named_const.ideal_named_scalar _ _ _ _ rfl

theorem own_at (r k : Fin 256) : k0_pay17 (F := Ideal) k0_pay14 k0_pay15 k0_pay16 (ix2 r k) = if k.val ≤ r.val then 0 else ⊥ := by
  pointwise [k0_pay17, k0_pay14, k0_pay15, k0_pay16]
  rw [mask_at, show IntOp.cmpi CmpIPredicate.sle (BitVec.ofNat 32 k.val) (BitVec.ofNat 32 r.val) = if k.val ≤ r.val then 1#1 else 0#1 from ?_,
    select_ite]
  have sle : BitVec.sle (BitVec.ofNat 32 k.val) (BitVec.ofNat 32 r.val) = decide (k.val ≤ r.val) := by
    rw [BitVec.sle_eq_decide]
    refine decide_eq_decide.mpr ?_
    rw [BitVec.toInt_eq_toNat_of_lt (by rw [BitVec.toNat_ofNat]; omega), BitVec.toInt_eq_toNat_of_lt (by rw [BitVec.toNat_ofNat]; omega),
      BitVec.toNat_ofNat, BitVec.toNat_ofNat]
    omega
  show BitVec.ofBool (BitVec.sle (BitVec.ofNat 32 k.val) (BitVec.ofNat 32 r.val)) = _
  rw [sle]
  exact bit_ite Iff.rfl

/-- The blocks' mean keys. -/
abbrev means (K : Vec Ideal S1x2048x128 .f32) : FVec Ideal S8x128 .f32 :=
  k0_pay12 (k0_pay2 K) (k0_pay5 K) (k0_pay6 K) (k0_pay7 K) (k0_pay8 K) (k0_pay9 K) (k0_pay10 K) (k0_pay11 K)

theorem means_at (K : Vec Ideal S1x2048x128 .f32) (n : Fin 8) (l : Fin 128) :
    means K (ix2 n l) = Ideal.div (∑ p : Fin 256, K (ix3 0 ⟨n.val * 256 + p.val, by omega⟩ l)) (Ideal.ofBits .f32 0x43800000#32) := by
  pointwise [means, k0_pay12, k0_pay5, k0_pay6, k0_pay7, k0_pay8, k0_pay9, k0_pay10, k0_pay11, k0_pay2]
  have e : ∀ (m : Nat) (h : ∀ p : Fin 256, m + p.val < 2048), m = n.val * 256 →
      Ideal.div (∑ p : Fin 256, K (ix3 0 ⟨m + p.val, h p⟩ l)) (Ideal.ofBits .f32 0x43800000#32) =
        Ideal.div (∑ p : Fin 256, K (ix3 0 ⟨n.val * 256 + p.val, by omega⟩ l)) (Ideal.ofBits .f32 0x43800000#32) := by
    rintro m h rfl; rfl
  by_cases h0 : n.val < 1
  · refine (dif_pos h0).trans (Eq.trans ?_ (e 0 (fun p => by omega) (by omega)))
    simp only [Nat.zero_add]
  refine (dif_neg h0).trans ?_
  by_cases h1 : n.val - 1 < 1
  · exact (dif_pos h1).trans (e 256 (fun p => by omega) (by omega))
  refine (dif_neg h1).trans ?_
  by_cases h2 : n.val - 1 - 1 < 1
  · exact (dif_pos h2).trans (e 512 (fun p => by omega) (by omega))
  refine (dif_neg h2).trans ?_
  by_cases h3 : n.val - 1 - 1 - 1 < 1
  · exact (dif_pos h3).trans (e 768 (fun p => by omega) (by omega))
  refine (dif_neg h3).trans ?_
  by_cases h4 : n.val - 1 - 1 - 1 - 1 < 1
  · exact (dif_pos h4).trans (e 1024 (fun p => by omega) (by omega))
  refine (dif_neg h4).trans ?_
  by_cases h5 : n.val - 1 - 1 - 1 - 1 - 1 < 1
  · exact (dif_pos h5).trans (e 1280 (fun p => by omega) (by omega))
  refine (dif_neg h5).trans ?_
  by_cases h6 : n.val - 1 - 1 - 1 - 1 - 1 - 1 < 1
  · exact (dif_pos h6).trans (e 1536 (fun p => by omega) (by omega))
  exact (dif_neg h6).trans (e 1792 (fun p => by omega) (by omega))

theorem kb_at (K : Vec Ideal S1x2048x128 .f32) (j : Fin 2048) (l : Fin 128) : k0_pay3 K (ix2 j l) = K (ix3 0 j l) := by
  pointwise [k0_pay3, k0_pay2]

theorem vb_at (V : Vec Ideal S1x2048x128 .f32) (j : Fin 2048) (l : Fin 128) : k0_pay4 V (ix2 j l) = V (ix3 0 j l) := by
  pointwise [k0_pay4]

section
variable (qi : Vec Ideal S1x256x128 .f32) (K : Vec Ideal S1x2048x128 .f32) (c : Fin 2) (r : Fin 256)

/-- The query of head `c` at row `r`. -/
def qh (d : Fin 64) : EReal := qi (ix3 0 r ⟨c.val * 64 + d.val, by omega⟩)

/-- The keys of head `c`. -/
def kh (j : Fin 2048) (d : Fin 64) : EReal := K (ix3 0 j ⟨c.val * 64 + d.val, by omega⟩)

theorem lanes_sum (f : Fin 128 → EReal) (h : ∀ l : Fin 128, l.val / 64 ≠ c.val → f l = 0) :
    ∑ l, f l = ∑ d : Fin 64, f ⟨c.val * 64 + d.val, by omega⟩ := by
  refine (Fin.sum_univ_tiles 2 64 rfl f).trans ?_
  refine (Finset.sum_eq_single c (fun b _ hb => Finset.sum_eq_zero fun d _ => h _ ?_) (fun hn => absurd (Finset.mem_univ c) hn)).trans
    (Finset.sum_congr rfl fun d _ => congrArg f (Fin.ext ?_))
  · intro e
    refine hb (Fin.ext ?_)
    have := d.isLt
    dsimp only at e
    omega
  · rfl

theorem score_at (k : Fin 512) (hk : k.val = c.val * 256 + r.val) (j : Fin 2048) :
    ∑ l, qs (mq lanes 0#32 qi) (mq lanes 1#32 qi) (ix2 k l) * k0_pay3 K (ix2 j l) = score (qh qi c r) (kh K c) j := by
  simp only [qs_at qi c r _ k hk, kb_at]
  rw [lanes_sum c _ (fun l h => by rw [if_neg h, zero_mul, zero_mul]), score,
    sum_mul_right _ _ (by rw [eighth]; exact_mod_cast (by norm_num : (0 : ℝ) ≤ 1 / 8)) (by rw [eighth]; exact EReal.coe_ne_top _)]
  refine Finset.sum_congr rfl fun d _ => ?_
  rw [if_pos (by dsimp only; omega), mul_right_comm]
  rfl

theorem gate_sum (m : FVec Ideal S256x128 .f32) (hm : ∀ l, m (ix2 r l) = if l.val / 64 = c.val then qi (ix3 0 r l) else 0)
    (nb : Nat) (hb : nb < 8) : col (gt (BitVec.ofNat 32 nb) (means K) blks m) r = gate (qh qi c r) (kh K c) nb := by
  funext n
  refine (gt_at nb hb _ _ n r).trans ?_
  rw [gate]
  by_cases h : n.val < nb
  · rw [if_pos h, if_pos h]
    simp only [hm]
    rw [lanes_sum c _ (fun l h => by rw [if_neg h, mul_zero])]
    refine Finset.sum_congr rfl fun d _ => ?_
    rw [if_pos (by dsimp only; omega), means_at, mul_comm]
    rfl
  · rw [if_neg h, if_neg h]

end

theorem half_pos (p : Prop) [Decidable p] : (Ideal.ofBits .f32 1056964608#32 < if p then 1 else 0) ↔ p := by
  have e : Ideal.ofBits .f32 1056964608#32 = ((1 / 2 : ℝ) : EReal) := by
    simp [Ideal.ofBits, Ideal.ieee, -EReal.coe_mul]; norm_num
  rw [e]
  by_cases h : p
  · rw [if_pos h]; exact ⟨fun _ => h, fun _ => by exact_mod_cast (by norm_num : (1 / 2 : ℝ) < 1)⟩
  · rw [if_neg h]; exact ⟨fun k => absurd k (not_lt.mpr (by exact_mod_cast (by norm_num : (0 : ℝ) ≤ 1 / 2))), fun k => absurd k h⟩

/-- The choice spread over the keys: a past key's entry is its block's. -/
theorem spread_at (nb : Nat) (hb : nb < 8) (x : FVec Ideal S8x256 .f32) (r : Fin 256) (j : Fin 2048) (hj : j.val < 256 * nb)
    (hx : col x r (blk j) ≠ ⊥) :
    (Ideal.ofBits .f32 1056964608#32 < ∑ k : Fin 128, rows (BitVec.ofNat 32 nb) blks x (ix2 r k) * k0_pay13 (F := Ideal) (ix2 k j))
      ↔ rk (col x r) (blk j) < 3 := by
  have h8 : j.val / 256 < 128 := by omega
  rw [Finset.sum_eq_single (⟨j.val / 256, h8⟩ : Fin 128) (fun k _ hk => by
      rw [pay13_at, if_neg fun e => hk (Fin.ext e), mul_zero]) (fun h => absurd (Finset.mem_univ _) h),
    pay13_at, if_pos rfl, mul_one, rows_at nb hb x r _ (blk j) (by show j.val / 256 < nb; omega) rfl, picks_at x (blk j) r hx, half_pos]

end Cert.MobaIdeal.Proved
-- ==== Proof.Moba.Blocks.lean ====
module

public import proofs.«01_k».proof.Proof.Moba.Pick
public import proofs.«01_k».proof.Proof.Attn.Soft
public import Idealize.ShloMosaic.Lib.Pipeline.ValueKit
public import Idealize.ShloMosaic.Lib.Pointwise
public import Idealize.ShloMosaic.Lib.Claim

@[expose] public section

set_option maxRecDepth 16384

noncomputable section

/-! MoBA attention: the eight row blocks the kernel's body stores, entry by entry. -/

namespace Cert.MobaIdeal.Proved

open Cert.MobaIdeal Cert.MobaIdeal.Gen Idealize.ShloMosaic Idealize.ShloMosaic.TcCoe Idealize.SL.Sem Cert.Attn Cert.Moba

section
variable (qi : Vec Ideal S1x256x128 .f32) (K V : Vec Ideal S1x2048x128 .f32) (c : Fin 2) (r : Fin 256)

/-- The mask of a past key, from the blocks chosen. -/
theorem bias_past (hq : ∀ d, Re (qh qi c r d)) (hK : ∀ j d, Re (kh K c j d)) (m : FVec Ideal S256x128 .f32)
    (hm : ∀ l, m (ix2 r l) = if l.val / 64 = c.val then qi (ix3 0 r l) else 0) (i : Nat) (hi : i < 8) (j : Fin 2048) (hj : j.val < 256 * i) :
    (if Ideal.ofBits .f32 1056964608#32 < ∑ k : Fin 128, rows (BitVec.ofNat 32 i) blks (gt (BitVec.ofNat 32 i) (means K) blks m) (ix2 r k)
        * k0_pay13 (F := Ideal) (ix2 k j) then 0 else (Named.named (F := Ideal) (φ := .f32) κ "mask" 4048155338#32 : EReal))
      = bia i r.val (gate (qh qi c r) (kh K c) i) j := by
  have hc := gate_sum qi K c r m hm i hi
  have key := spread_at i hi _ r j hj (by rw [hc]; exact gate_ne hq hK (by show j.val / 256 < i; omega))
  rw [hc] at key
  rw [bia, if_pos hj, mask_at]
  exact if_congr key rfl rfl

/-- With at most three past blocks nothing past is masked. -/
theorem bias_few (hq : ∀ d, Re (qh qi c r d)) (hK : ∀ j d, Re (kh K c j d)) (i : Nat) (hi : i ≤ 3) (j : Fin 2048) (hj : j.val < 256 * i) :
    0 = bia i r.val (gate (qh qi c r) (kh K c) i) j := by
  rw [bia, if_pos hj, if_pos (rk_past hq hK hi (by show j.val / 256 < i; omega))]

/-- The mask of a key of the own block. -/
theorem bias_own (g : Fin 8 → EReal) (i : Nat) (j : Fin 2048) (hj : ¬ j.val < 256 * i) (k : Fin 256) (hk : k.val = j.val - 256 * i) :
    k0_pay17 (F := Ideal) k0_pay14 k0_pay15 k0_pay16 (ix2 r k) = bia i r.val g j := by
  rw [own_at, bia, if_neg hj, hk]

/-- A row block's entry from its scores and its two heads' masks. -/
theorem block_of (hq : ∀ d, Re (qh qi c r d)) (hK : ∀ j d, Re (kh K c j d)) {i n : Nat} (hi : i < 8) (hn : n = (i + 1) * 256)
    (s b0 b1 w : Fin n → EReal) (l : Fin 128) (q : Fin 512) (hqr : q.val = c.val * 256 + r.val)
    (hs : ∀ k : Fin n, s k = (∑ x, qs (mq lanes 0#32 qi) (mq lanes 1#32 qi) (ix2 q x) * k0_pay3 K (ix2 ⟨k.val, by omega⟩ x))
      + if c.val < 1 then b0 k else b1 k)
    (h0 : ∀ k : Fin n, c.val = 0 → b0 k = bia i r.val (gate (qh qi c r) (kh K c) i) ⟨k.val, by omega⟩)
    (h1 : ∀ k : Fin n, c.val = 1 → b1 k = bia i r.val (gate (qh qi c r) (kh K c) i) ⟨k.val, by omega⟩)
    (hw : ∀ k : Fin n, w k = k0_pay4 V (ix2 ⟨k.val, by omega⟩ l)) :
    winv s w = moba i r.val (qh qi c r) (kh K c) (fun j => V (ix3 0 j l)) := by
  refine winv_eq hi r.isLt hn hq hK _ s w (fun k => ?_) (fun k => (hw k).trans (vb_at V _ l))
  rw [hs, score_at qi K c r q hqr]
  by_cases h : c.val < 1
  · rw [if_pos h, h0 k (by omega)]
  · rw [if_neg h, h1 k (by omega)]

end

theorem sc0_at (kb : FVec Ideal S2048x128 .bf16) (m0 m1 : FVec Ideal S256x128 .f32) (b0 b1 : FVec Ideal S256x256 .f32) (c : Fin 2) (r : Fin 256)
    (k : Fin 256) : sc0 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc0, hh]
  rfl

theorem av0_at (vb : FVec Ideal S2048x128 .bf16) (s : FVec Ideal S2x256x256 .f32) (c : Fin 2) (r : Fin 256) (l : Fin 128) :
    av0 vb (ex0 s) (ix3 c r l) = winv (fun k => s (ix3 c r k)) (fun k => vb (ix2 ⟨k.val, by omega⟩ l)) := by
  pointwise [av0, norm, ex0]
  simp only [fold_max]
  rfl

theorem block0 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av0 (k0_pay4 V) (ex0 (sc0 (k0_pay3 K) (mq lanes 0#32 qi) (mq lanes 1#32 qi)
        (k0_pay17 (F := Ideal) k0_pay14 k0_pay15 k0_pay16)
        (k0_pay17 (F := Ideal) k0_pay14 k0_pay15 k0_pay16)))) (ix3 0 r l)
      = moba 0 r.val (qh qi ⟨l.val / 64, by omega⟩ r) (kh K ⟨l.val / 64, by omega⟩) (fun j => V (ix3 0 j l)) := by
  rw [out_at, av0_at]
  refine block_of (i := 0) (n := 256) qi K V ⟨l.val / 64, by omega⟩ r hq hK (by decide) (by decide) _
    (fun k => (k0_pay17 (F := Ideal) k0_pay14 k0_pay15 k0_pay16) (ix2 r k))
    (fun k => (k0_pay17 (F := Ideal) k0_pay14 k0_pay15 k0_pay16) (ix2 r k)) _ l
    ⟨l.val / 64 * 256 + r.val, by omega⟩ rfl (fun k => ?_) (fun k hc => ?_) (fun k hc => ?_) (fun k => ?_)
  · exact sc0_at _ _ _ _ _ _ r k
  · exact bias_own r _ 0 ⟨k.val, by omega⟩ (by dsimp only; omega) k rfl
  · exact bias_own r _ 0 ⟨k.val, by omega⟩ (by dsimp only; omega) k rfl
  · rfl

theorem sc1_at (kb : FVec Ideal S2048x128 .bf16) (m0 m1 : FVec Ideal S256x128 .f32) (b0 b1 : FVec Ideal S256x512 .f32) (c : Fin 2) (r : Fin 256)
    (k : Fin 512) : sc1 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc1, hh]
  rfl

theorem av1_at (vb : FVec Ideal S2048x128 .bf16) (s : FVec Ideal S2x256x512 .f32) (c : Fin 2) (r : Fin 256) (l : Fin 128) :
    av1 vb (ex1 s) (ix3 c r l) = winv (fun k => s (ix3 c r k)) (fun k => vb (ix2 ⟨k.val, by omega⟩ l)) := by
  pointwise [av1, norm, ex1]
  simp only [fold_max]
  rfl

theorem bias1_at (qi : Vec Ideal S1x256x128 .f32) (K : Vec Ideal S1x2048x128 .f32) (c : Fin 2) (r : Fin 256)
    (hq : ∀ d, Re (qh qi c r d)) (hK : ∀ j d, Re (kh K c j d)) (k : Fin 512) :
    bias1 (k0_pay17 k0_pay14 k0_pay15 k0_pay16) (ix2 r k) = bia 1 r.val (gate (qh qi c r) (kh K c) 1) ⟨k.val, by omega⟩ := by
  have own := bias_own r (gate (qh qi c r) (kh K c) 1) 1 ⟨k.val, by omega⟩
  revert own
  generalize k0_pay17 (F := Ideal) k0_pay14 k0_pay15 k0_pay16 = w
  intro own
  pointwise [bias1]
  by_cases h : k.val < 256
  · exact (dif_pos h).trans (bias_few qi K c r hq hK 1 (by omega) ⟨k.val, by omega⟩ h)
  · exact (dif_neg h).trans (own h ⟨k.val - 256, by omega⟩ rfl)

theorem block1 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av1 (k0_pay4 V) (ex1 (sc1 (k0_pay3 K) (mq lanes 0#32 qi) (mq lanes 1#32 qi)
        (bias1 (k0_pay17 (F := Ideal) k0_pay14 k0_pay15 k0_pay16))
        (bias1 (k0_pay17 (F := Ideal) k0_pay14 k0_pay15 k0_pay16))))) (ix3 0 r l)
      = moba 1 r.val (qh qi ⟨l.val / 64, by omega⟩ r) (kh K ⟨l.val / 64, by omega⟩) (fun j => V (ix3 0 j l)) := by
  rw [out_at, av1_at]
  refine block_of (i := 1) (n := 512) qi K V ⟨l.val / 64, by omega⟩ r hq hK (by decide) (by decide) _
    (fun k => (bias1 (k0_pay17 (F := Ideal) k0_pay14 k0_pay15 k0_pay16)) (ix2 r k))
    (fun k => (bias1 (k0_pay17 (F := Ideal) k0_pay14 k0_pay15 k0_pay16)) (ix2 r k)) _ l
    ⟨l.val / 64 * 256 + r.val, by omega⟩ rfl (fun k => ?_) (fun k hc => ?_) (fun k hc => ?_) (fun k => ?_)
  · exact sc1_at _ _ _ _ _ _ r k
  · exact bias1_at qi K _ r hq hK k
  · exact bias1_at qi K _ r hq hK k
  · rfl

theorem sc2_at (kb : FVec Ideal S2048x128 .bf16) (m0 m1 : FVec Ideal S256x128 .f32) (b0 b1 : FVec Ideal S256x768 .f32) (c : Fin 2) (r : Fin 256)
    (k : Fin 768) : sc2 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc2, hh]
  rfl

theorem av2_at (vb : FVec Ideal S2048x128 .bf16) (s : FVec Ideal S2x256x768 .f32) (c : Fin 2) (r : Fin 256) (l : Fin 128) :
    av2 vb (ex2 s) (ix3 c r l) = winv (fun k => s (ix3 c r k)) (fun k => vb (ix2 ⟨k.val, by omega⟩ l)) := by
  pointwise [av2, norm, ex2]
  simp only [fold_max]
  rfl

theorem bias2_at (qi : Vec Ideal S1x256x128 .f32) (K : Vec Ideal S1x2048x128 .f32) (c : Fin 2) (r : Fin 256)
    (hq : ∀ d, Re (qh qi c r d)) (hK : ∀ j d, Re (kh K c j d)) (k : Fin 768) :
    bias2 (k0_pay17 k0_pay14 k0_pay15 k0_pay16) (ix2 r k) = bia 2 r.val (gate (qh qi c r) (kh K c) 2) ⟨k.val, by omega⟩ := by
  have own := bias_own r (gate (qh qi c r) (kh K c) 2) 2 ⟨k.val, by omega⟩
  revert own
  generalize k0_pay17 (F := Ideal) k0_pay14 k0_pay15 k0_pay16 = w
  intro own
  pointwise [bias2]
  by_cases h : k.val < 512
  · exact (dif_pos h).trans (bias_few qi K c r hq hK 2 (by omega) ⟨k.val, by omega⟩ h)
  · exact (dif_neg h).trans (own h ⟨k.val - 512, by omega⟩ rfl)

theorem block2 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av2 (k0_pay4 V) (ex2 (sc2 (k0_pay3 K) (mq lanes 0#32 qi) (mq lanes 1#32 qi)
        (bias2 (k0_pay17 (F := Ideal) k0_pay14 k0_pay15 k0_pay16))
        (bias2 (k0_pay17 (F := Ideal) k0_pay14 k0_pay15 k0_pay16))))) (ix3 0 r l)
      = moba 2 r.val (qh qi ⟨l.val / 64, by omega⟩ r) (kh K ⟨l.val / 64, by omega⟩) (fun j => V (ix3 0 j l)) := by
  rw [out_at, av2_at]
  refine block_of (i := 2) (n := 768) qi K V ⟨l.val / 64, by omega⟩ r hq hK (by decide) (by decide) _
    (fun k => (bias2 (k0_pay17 (F := Ideal) k0_pay14 k0_pay15 k0_pay16)) (ix2 r k))
    (fun k => (bias2 (k0_pay17 (F := Ideal) k0_pay14 k0_pay15 k0_pay16)) (ix2 r k)) _ l
    ⟨l.val / 64 * 256 + r.val, by omega⟩ rfl (fun k => ?_) (fun k hc => ?_) (fun k hc => ?_) (fun k => ?_)
  · exact sc2_at _ _ _ _ _ _ r k
  · exact bias2_at qi K _ r hq hK k
  · exact bias2_at qi K _ r hq hK k
  · rfl

theorem sc3_at (kb : FVec Ideal S2048x128 .bf16) (m0 m1 : FVec Ideal S256x128 .f32) (b0 b1 : FVec Ideal S256x1024 .f32) (c : Fin 2) (r : Fin 256)
    (k : Fin 1024) : sc3 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc3, hh]
  rfl

theorem av3_at (vb : FVec Ideal S2048x128 .bf16) (s : FVec Ideal S2x256x1024 .f32) (c : Fin 2) (r : Fin 256) (l : Fin 128) :
    av3 vb (ex3 s) (ix3 c r l) = winv (fun k => s (ix3 c r k)) (fun k => vb (ix2 ⟨k.val, by omega⟩ l)) := by
  pointwise [av3, norm, ex3]
  simp only [fold_max]
  rfl

theorem bias3_at (qi : Vec Ideal S1x256x128 .f32) (K : Vec Ideal S1x2048x128 .f32) (c : Fin 2) (r : Fin 256)
    (hq : ∀ d, Re (qh qi c r d)) (hK : ∀ j d, Re (kh K c j d)) (k : Fin 1024) :
    bias3 (k0_pay17 k0_pay14 k0_pay15 k0_pay16) (ix2 r k) = bia 3 r.val (gate (qh qi c r) (kh K c) 3) ⟨k.val, by omega⟩ := by
  have own := bias_own r (gate (qh qi c r) (kh K c) 3) 3 ⟨k.val, by omega⟩
  revert own
  generalize k0_pay17 (F := Ideal) k0_pay14 k0_pay15 k0_pay16 = w
  intro own
  pointwise [bias3]
  by_cases h : k.val < 768
  · exact (dif_pos h).trans (bias_few qi K c r hq hK 3 (by omega) ⟨k.val, by omega⟩ h)
  · exact (dif_neg h).trans (own h ⟨k.val - 768, by omega⟩ rfl)

theorem block3 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av3 (k0_pay4 V) (ex3 (sc3 (k0_pay3 K) (mq lanes 0#32 qi) (mq lanes 1#32 qi)
        (bias3 (k0_pay17 (F := Ideal) k0_pay14 k0_pay15 k0_pay16))
        (bias3 (k0_pay17 (F := Ideal) k0_pay14 k0_pay15 k0_pay16))))) (ix3 0 r l)
      = moba 3 r.val (qh qi ⟨l.val / 64, by omega⟩ r) (kh K ⟨l.val / 64, by omega⟩) (fun j => V (ix3 0 j l)) := by
  rw [out_at, av3_at]
  refine block_of (i := 3) (n := 1024) qi K V ⟨l.val / 64, by omega⟩ r hq hK (by decide) (by decide) _
    (fun k => (bias3 (k0_pay17 (F := Ideal) k0_pay14 k0_pay15 k0_pay16)) (ix2 r k))
    (fun k => (bias3 (k0_pay17 (F := Ideal) k0_pay14 k0_pay15 k0_pay16)) (ix2 r k)) _ l
    ⟨l.val / 64 * 256 + r.val, by omega⟩ rfl (fun k => ?_) (fun k hc => ?_) (fun k hc => ?_) (fun k => ?_)
  · exact sc3_at _ _ _ _ _ _ r k
  · exact bias3_at qi K _ r hq hK k
  · exact bias3_at qi K _ r hq hK k
  · rfl

theorem sc4_at (kb : FVec Ideal S2048x128 .bf16) (m0 m1 : FVec Ideal S256x128 .f32) (b0 b1 : FVec Ideal S256x1280 .f32) (c : Fin 2) (r : Fin 256)
    (k : Fin 1280) : sc4 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc4, hh]
  rfl

theorem av4_at (vb : FVec Ideal S2048x128 .bf16) (s : FVec Ideal S2x256x1280 .f32) (c : Fin 2) (r : Fin 256) (l : Fin 128) :
    av4 vb (ex4 s) (ix3 c r l) = winv (fun k => s (ix3 c r k)) (fun k => vb (ix2 ⟨k.val, by omega⟩ l)) := by
  pointwise [av4, norm, ex4]
  simp only [fold_max]
  rfl

theorem bias4_at (qi : Vec Ideal S1x256x128 .f32) (K : Vec Ideal S1x2048x128 .f32) (c : Fin 2) (r : Fin 256)
    (hq : ∀ d, Re (qh qi c r d)) (hK : ∀ j d, Re (kh K c j d)) (m : FVec Ideal S256x128 .f32)
    (hm : ∀ l, m (ix2 r l) = if l.val / 64 = c.val then qi (ix3 0 r l) else 0) (k : Fin 1280) :
    bias4 k0_pay13 (k0_pay17 k0_pay14 k0_pay15 k0_pay16) (rows 4#32 blks (gt 4#32 (means K) blks m)) (ix2 r k)
      = bia 4 r.val (gate (qh qi c r) (kh K c) 4) ⟨k.val, by omega⟩ := by
  have past := bias_past qi K c r hq hK m hm 4 (by omega) ⟨k.val, by omega⟩
  have own := bias_own r (gate (qh qi c r) (kh K c) 4) 4 ⟨k.val, by omega⟩
  revert past own
  generalize bia 4 r.val (gate (qh qi c r) (kh K c) 4) ⟨k.val, by omega⟩ = z
  generalize k0_pay17 (F := Ideal) k0_pay14 k0_pay15 k0_pay16 = w
  generalize rows 4#32 blks (gt 4#32 (means K) blks m) = y
  generalize k0_pay13 (F := Ideal) = e
  intro past own
  pointwise [bias4]
  by_cases h : k.val < 1024
  · exact (dif_pos h).trans (past h)
  · exact (dif_neg h).trans (own h ⟨k.val - 1024, by omega⟩ rfl)

theorem block4 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av4 (k0_pay4 V) (ex4 (sc4 (k0_pay3 K) (mq lanes 0#32 qi) (mq lanes 1#32 qi)
        (bias4 k0_pay13 (k0_pay17 (F := Ideal) k0_pay14 k0_pay15 k0_pay16) (rows 4#32 blks (gt 4#32 (means K) blks (mq lanes 0#32 qi))))
        (bias4 k0_pay13 (k0_pay17 (F := Ideal) k0_pay14 k0_pay15 k0_pay16) (rows 4#32 blks (gt 4#32 (means K) blks (mq lanes 1#32 qi))))))) (ix3 0 r l)
      = moba 4 r.val (qh qi ⟨l.val / 64, by omega⟩ r) (kh K ⟨l.val / 64, by omega⟩) (fun j => V (ix3 0 j l)) := by
  rw [out_at, av4_at]
  refine block_of (i := 4) (n := 1280) qi K V ⟨l.val / 64, by omega⟩ r hq hK (by decide) (by decide) _
    (fun k => (bias4 k0_pay13 (k0_pay17 (F := Ideal) k0_pay14 k0_pay15 k0_pay16) (rows 4#32 blks (gt 4#32 (means K) blks (mq lanes 0#32 qi)))) (ix2 r k))
    (fun k => (bias4 k0_pay13 (k0_pay17 (F := Ideal) k0_pay14 k0_pay15 k0_pay16) (rows 4#32 blks (gt 4#32 (means K) blks (mq lanes 1#32 qi)))) (ix2 r k)) _ l
    ⟨l.val / 64 * 256 + r.val, by omega⟩ rfl (fun k => ?_) (fun k hc => ?_) (fun k hc => ?_) (fun k => ?_)
  · exact sc4_at _ _ _ _ _ _ r k
  · exact bias4_at qi K _ r hq hK _ (fun l => by rw [mq0_at, hc]) k
  · exact bias4_at qi K _ r hq hK _ (fun l => by rw [mq1_at, hc]) k
  · rfl

theorem sc5_at (kb : FVec Ideal S2048x128 .bf16) (m0 m1 : FVec Ideal S256x128 .f32) (b0 b1 : FVec Ideal S256x1536 .f32) (c : Fin 2) (r : Fin 256)
    (k : Fin 1536) : sc5 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc5, hh]
  rfl

theorem av5_at (vb : FVec Ideal S2048x128 .bf16) (s : FVec Ideal S2x256x1536 .f32) (c : Fin 2) (r : Fin 256) (l : Fin 128) :
    av5 vb (ex5 s) (ix3 c r l) = winv (fun k => s (ix3 c r k)) (fun k => vb (ix2 ⟨k.val, by omega⟩ l)) := by
  pointwise [av5, norm, ex5]
  simp only [fold_max]
  rfl

theorem bias5_at (qi : Vec Ideal S1x256x128 .f32) (K : Vec Ideal S1x2048x128 .f32) (c : Fin 2) (r : Fin 256)
    (hq : ∀ d, Re (qh qi c r d)) (hK : ∀ j d, Re (kh K c j d)) (m : FVec Ideal S256x128 .f32)
    (hm : ∀ l, m (ix2 r l) = if l.val / 64 = c.val then qi (ix3 0 r l) else 0) (k : Fin 1536) :
    bias5 k0_pay13 (k0_pay17 k0_pay14 k0_pay15 k0_pay16) (rows 5#32 blks (gt 5#32 (means K) blks m)) (ix2 r k)
      = bia 5 r.val (gate (qh qi c r) (kh K c) 5) ⟨k.val, by omega⟩ := by
  have past := bias_past qi K c r hq hK m hm 5 (by omega) ⟨k.val, by omega⟩
  have own := bias_own r (gate (qh qi c r) (kh K c) 5) 5 ⟨k.val, by omega⟩
  revert past own
  generalize bia 5 r.val (gate (qh qi c r) (kh K c) 5) ⟨k.val, by omega⟩ = z
  generalize k0_pay17 (F := Ideal) k0_pay14 k0_pay15 k0_pay16 = w
  generalize rows 5#32 blks (gt 5#32 (means K) blks m) = y
  generalize k0_pay13 (F := Ideal) = e
  intro past own
  pointwise [bias5]
  by_cases h : k.val < 1280
  · exact (dif_pos h).trans (past h)
  · exact (dif_neg h).trans (own h ⟨k.val - 1280, by omega⟩ rfl)

theorem block5 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av5 (k0_pay4 V) (ex5 (sc5 (k0_pay3 K) (mq lanes 0#32 qi) (mq lanes 1#32 qi)
        (bias5 k0_pay13 (k0_pay17 (F := Ideal) k0_pay14 k0_pay15 k0_pay16) (rows 5#32 blks (gt 5#32 (means K) blks (mq lanes 0#32 qi))))
        (bias5 k0_pay13 (k0_pay17 (F := Ideal) k0_pay14 k0_pay15 k0_pay16) (rows 5#32 blks (gt 5#32 (means K) blks (mq lanes 1#32 qi))))))) (ix3 0 r l)
      = moba 5 r.val (qh qi ⟨l.val / 64, by omega⟩ r) (kh K ⟨l.val / 64, by omega⟩) (fun j => V (ix3 0 j l)) := by
  rw [out_at, av5_at]
  refine block_of (i := 5) (n := 1536) qi K V ⟨l.val / 64, by omega⟩ r hq hK (by decide) (by decide) _
    (fun k => (bias5 k0_pay13 (k0_pay17 (F := Ideal) k0_pay14 k0_pay15 k0_pay16) (rows 5#32 blks (gt 5#32 (means K) blks (mq lanes 0#32 qi)))) (ix2 r k))
    (fun k => (bias5 k0_pay13 (k0_pay17 (F := Ideal) k0_pay14 k0_pay15 k0_pay16) (rows 5#32 blks (gt 5#32 (means K) blks (mq lanes 1#32 qi)))) (ix2 r k)) _ l
    ⟨l.val / 64 * 256 + r.val, by omega⟩ rfl (fun k => ?_) (fun k hc => ?_) (fun k hc => ?_) (fun k => ?_)
  · exact sc5_at _ _ _ _ _ _ r k
  · exact bias5_at qi K _ r hq hK _ (fun l => by rw [mq0_at, hc]) k
  · exact bias5_at qi K _ r hq hK _ (fun l => by rw [mq1_at, hc]) k
  · rfl

theorem sc6_at (kb : FVec Ideal S2048x128 .bf16) (m0 m1 : FVec Ideal S256x128 .f32) (b0 b1 : FVec Ideal S256x1792 .f32) (c : Fin 2) (r : Fin 256)
    (k : Fin 1792) : sc6 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc6, hh]
  rfl

theorem av6_at (vb : FVec Ideal S2048x128 .bf16) (s : FVec Ideal S2x256x1792 .f32) (c : Fin 2) (r : Fin 256) (l : Fin 128) :
    av6 vb (ex6 s) (ix3 c r l) = winv (fun k => s (ix3 c r k)) (fun k => vb (ix2 ⟨k.val, by omega⟩ l)) := by
  pointwise [av6, norm, ex6]
  simp only [fold_max]
  rfl

theorem bias6_at (qi : Vec Ideal S1x256x128 .f32) (K : Vec Ideal S1x2048x128 .f32) (c : Fin 2) (r : Fin 256)
    (hq : ∀ d, Re (qh qi c r d)) (hK : ∀ j d, Re (kh K c j d)) (m : FVec Ideal S256x128 .f32)
    (hm : ∀ l, m (ix2 r l) = if l.val / 64 = c.val then qi (ix3 0 r l) else 0) (k : Fin 1792) :
    bias6 k0_pay13 (k0_pay17 k0_pay14 k0_pay15 k0_pay16) (rows 6#32 blks (gt 6#32 (means K) blks m)) (ix2 r k)
      = bia 6 r.val (gate (qh qi c r) (kh K c) 6) ⟨k.val, by omega⟩ := by
  have past := bias_past qi K c r hq hK m hm 6 (by omega) ⟨k.val, by omega⟩
  have own := bias_own r (gate (qh qi c r) (kh K c) 6) 6 ⟨k.val, by omega⟩
  revert past own
  generalize bia 6 r.val (gate (qh qi c r) (kh K c) 6) ⟨k.val, by omega⟩ = z
  generalize k0_pay17 (F := Ideal) k0_pay14 k0_pay15 k0_pay16 = w
  generalize rows 6#32 blks (gt 6#32 (means K) blks m) = y
  generalize k0_pay13 (F := Ideal) = e
  intro past own
  pointwise [bias6]
  by_cases h : k.val < 1536
  · exact (dif_pos h).trans (past h)
  · exact (dif_neg h).trans (own h ⟨k.val - 1536, by omega⟩ rfl)

theorem block6 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av6 (k0_pay4 V) (ex6 (sc6 (k0_pay3 K) (mq lanes 0#32 qi) (mq lanes 1#32 qi)
        (bias6 k0_pay13 (k0_pay17 (F := Ideal) k0_pay14 k0_pay15 k0_pay16) (rows 6#32 blks (gt 6#32 (means K) blks (mq lanes 0#32 qi))))
        (bias6 k0_pay13 (k0_pay17 (F := Ideal) k0_pay14 k0_pay15 k0_pay16) (rows 6#32 blks (gt 6#32 (means K) blks (mq lanes 1#32 qi))))))) (ix3 0 r l)
      = moba 6 r.val (qh qi ⟨l.val / 64, by omega⟩ r) (kh K ⟨l.val / 64, by omega⟩) (fun j => V (ix3 0 j l)) := by
  rw [out_at, av6_at]
  refine block_of (i := 6) (n := 1792) qi K V ⟨l.val / 64, by omega⟩ r hq hK (by decide) (by decide) _
    (fun k => (bias6 k0_pay13 (k0_pay17 (F := Ideal) k0_pay14 k0_pay15 k0_pay16) (rows 6#32 blks (gt 6#32 (means K) blks (mq lanes 0#32 qi)))) (ix2 r k))
    (fun k => (bias6 k0_pay13 (k0_pay17 (F := Ideal) k0_pay14 k0_pay15 k0_pay16) (rows 6#32 blks (gt 6#32 (means K) blks (mq lanes 1#32 qi)))) (ix2 r k)) _ l
    ⟨l.val / 64 * 256 + r.val, by omega⟩ rfl (fun k => ?_) (fun k hc => ?_) (fun k hc => ?_) (fun k => ?_)
  · exact sc6_at _ _ _ _ _ _ r k
  · exact bias6_at qi K _ r hq hK _ (fun l => by rw [mq0_at, hc]) k
  · exact bias6_at qi K _ r hq hK _ (fun l => by rw [mq1_at, hc]) k
  · rfl

theorem sc7_at (kb : FVec Ideal S2048x128 .bf16) (m0 m1 : FVec Ideal S256x128 .f32) (b0 b1 : FVec Ideal S256x2048 .f32) (c : Fin 2) (r : Fin 256)
    (k : Fin 2048) : sc7 kb m0 m1 b0 b1 (ix3 c r k) = (∑ x, qs m0 m1 (ix2 ⟨c.val * 256 + r.val, by omega⟩ x) * kb (ix2 ⟨k.val, by omega⟩ x))
      + if c.val < 1 then b0 (ix2 r k) else b1 (ix2 r k) := by
  generalize hh : qs m0 m1 = q
  pointwise [sc7, hh]
  rfl

theorem av7_at (vb : FVec Ideal S2048x128 .bf16) (s : FVec Ideal S2x256x2048 .f32) (c : Fin 2) (r : Fin 256) (l : Fin 128) :
    av7 vb (ex7 s) (ix3 c r l) = winv (fun k => s (ix3 c r k)) (fun k => vb (ix2 ⟨k.val, by omega⟩ l)) := by
  pointwise [av7, norm, ex7]
  simp only [fold_max]
  rfl

theorem bias7_at (qi : Vec Ideal S1x256x128 .f32) (K : Vec Ideal S1x2048x128 .f32) (c : Fin 2) (r : Fin 256)
    (hq : ∀ d, Re (qh qi c r d)) (hK : ∀ j d, Re (kh K c j d)) (m : FVec Ideal S256x128 .f32)
    (hm : ∀ l, m (ix2 r l) = if l.val / 64 = c.val then qi (ix3 0 r l) else 0) (k : Fin 2048) :
    bias7 k0_pay13 (k0_pay17 k0_pay14 k0_pay15 k0_pay16) (rows 7#32 blks (gt 7#32 (means K) blks m)) (ix2 r k)
      = bia 7 r.val (gate (qh qi c r) (kh K c) 7) ⟨k.val, by omega⟩ := by
  have past := bias_past qi K c r hq hK m hm 7 (by omega) ⟨k.val, by omega⟩
  have own := bias_own r (gate (qh qi c r) (kh K c) 7) 7 ⟨k.val, by omega⟩
  revert past own
  generalize bia 7 r.val (gate (qh qi c r) (kh K c) 7) ⟨k.val, by omega⟩ = z
  generalize k0_pay17 (F := Ideal) k0_pay14 k0_pay15 k0_pay16 = w
  generalize rows 7#32 blks (gt 7#32 (means K) blks m) = y
  generalize k0_pay13 (F := Ideal) = e
  intro past own
  pointwise [bias7]
  by_cases h : k.val < 1792
  · exact (dif_pos h).trans (past h)
  · exact (dif_neg h).trans (own h ⟨k.val - 1792, by omega⟩ rfl)

theorem block7 (qi : Vec Ideal S1x256x128 .f32) (K V : Vec Ideal S1x2048x128 .f32) (r : Fin 256) (l : Fin 128)
    (hq : ∀ d, Re (qh qi ⟨l.val / 64, by omega⟩ r d)) (hK : ∀ j d, Re (kh K ⟨l.val / 64, by omega⟩ j d)) :
    out (half lanes 0#32) (av7 (k0_pay4 V) (ex7 (sc7 (k0_pay3 K) (mq lanes 0#32 qi) (mq lanes 1#32 qi)
        (bias7 k0_pay13 (k0_pay17 (F := Ideal) k0_pay14 k0_pay15 k0_pay16) (rows 7#32 blks (gt 7#32 (means K) blks (mq lanes 0#32 qi))))
        (bias7 k0_pay13 (k0_pay17 (F := Ideal) k0_pay14 k0_pay15 k0_pay16) (rows 7#32 blks (gt 7#32 (means K) blks (mq lanes 1#32 qi))))))) (ix3 0 r l)
      = moba 7 r.val (qh qi ⟨l.val / 64, by omega⟩ r) (kh K ⟨l.val / 64, by omega⟩) (fun j => V (ix3 0 j l)) := by
  rw [out_at, av7_at]
  refine block_of (i := 7) (n := 2048) qi K V ⟨l.val / 64, by omega⟩ r hq hK (by decide) (by decide) _
    (fun k => (bias7 k0_pay13 (k0_pay17 (F := Ideal) k0_pay14 k0_pay15 k0_pay16) (rows 7#32 blks (gt 7#32 (means K) blks (mq lanes 0#32 qi)))) (ix2 r k))
    (fun k => (bias7 k0_pay13 (k0_pay17 (F := Ideal) k0_pay14 k0_pay15 k0_pay16) (rows 7#32 blks (gt 7#32 (means K) blks (mq lanes 1#32 qi)))) (ix2 r k)) _ l
    ⟨l.val / 64 * 256 + r.val, by omega⟩ rfl (fun k => ?_) (fun k hc => ?_) (fun k hc => ?_) (fun k => ?_)
  · exact sc7_at _ _ _ _ _ _ r k
  · exact bias7_at qi K _ r hq hK _ (fun l => by rw [mq0_at, hc]) k
  · exact bias7_at qi K _ r hq hK _ (fun l => by rw [mq1_at, hc]) k
  · rfl

end Cert.MobaIdeal.Proved
-- ==== Proof.Moba.Value.lean ====
module

public import proofs.«01_k».proof.Proof.Moba.Blocks
public import Idealize.ShloMosaic.Lib.Pipeline.ValueKit
public import Idealize.ShloMosaic.Lib.Pointwise
public import Idealize.ShloMosaic.Lib.Claim

@[expose] public section

set_option maxRecDepth 16384

noncomputable section

/-! MoBA attention: the kernel's result array, each grid point's block written by eight stores of 256 rows. -/

namespace Cert.MobaIdeal.Proved

open Cert.MobaIdeal Cert.MobaIdeal.Gen Idealize.ShloMosaic Idealize.ShloMosaic.TcCoe Idealize.SL.Sem Cert.Attn Cert.Moba
open Idealize.ShloMosaic.Pipeline (Dat)

/-- A point's result at row `s` and lane `l`, from its blocks of queries, keys and values. -/
def rowv (x0 x1 x2 : Vec Ideal S1x2048x128 .f32) (s : Fin 2048) (l : Fin 128) : EReal :=
  moba (s.val / 256) (s.val % 256) (fun d => x0 (ix3 0 s ⟨l.val / 64 * 64 + d.val, by omega⟩))
    (fun j d => x1 (ix3 0 j ⟨l.val / 64 * 64 + d.val, by omega⟩)) (fun j => x2 (ix3 0 j l))

/-- What one store's rows hold, when they are block `i`'s. -/
theorem rowv_of {x0 x1 x2 : Vec Ideal S1x2048x128 .f32} (hq : ∀ s l, Re (x0 (ix3 0 s l))) (hk : ∀ s l, Re (x1 (ix3 0 s l))) (i : Nat)
    {qi : Vec Ideal S1x256x128 .f32} {K V : Vec Ideal S1x2048x128 .f32} (eK : K = x1) (eV : V = x2) {s : Fin 2048} {r : Fin 256} {l l' : Fin 128}
    (hs : s.val = i * 256 + r.val) (hl : l' = l) (eq : ∀ l, qi (ix3 0 r l) = x0 (ix3 0 s l)) {z : EReal}
    (hz : (∀ d, Re (qh qi ⟨l.val / 64, by omega⟩ r d)) → (∀ j d, Re (kh K ⟨l.val / 64, by omega⟩ j d)) →
      z = moba i r.val (qh qi ⟨l.val / 64, by omega⟩ r) (kh K ⟨l.val / 64, by omega⟩) (fun j => V (ix3 0 j l))) : z = rowv x0 x1 x2 s l' := by
  subst eK eV hl
  have hi : i = s.val / 256 := by omega
  have hr : r.val = s.val % 256 := by omega
  have e : qh qi ⟨l'.val / 64, by omega⟩ r = fun d => x0 (ix3 0 s ⟨l'.val / 64 * 64 + d.val, by omega⟩) := funext fun d => eq _
  rw [hz (fun d => e ▸ hq _ _) (fun j d => hk _ _), e, hi, hr]
  rfl

/-- A row of 256 read out of an array, the rows starting at `o`. -/
theorem ld_row (x0 : Vec Ideal S1x2048x128 .f32) (o : Nat) (inb) {s : Fin 2048} {r : Fin 256} (hs : s.val = o + r.val) (l : Fin 128) :
    View.ld x0 (Rect.unit (s := S1x2048x128) ![0, o, 0] S1x256x128.size inb) (ix3 0 r l) = x0 (ix3 0 s l) :=
  View.ld_unit_apply_of x0 _ _ _ _ _ fun a => by
    fin_cases a
    · rfl
    · exact hs
    · exact (Nat.zero_add _).symm

theorem row_split (x : S1x256x128.Idx) : ∃ (r : Fin 256) (k : Fin 128), x = ix3 0 r k :=
  ⟨x 1, x 2, by rw [eq_ix3 x]; congr 1; exact Subsingleton.elim (α := Fin 1) _ _⟩

theorem out_rows (x0 x1 x2 : Vec Ideal S1x2048x128 .f32) (hq : ∀ s l, Re (x0 (ix3 0 s l))) (hk : ∀ s l, Re (x1 (ix3 0 s l)))
    (s : Fin 2048) (l : Fin 128) : out0_3 x0 x1 x2 (ix3 0 s l) = rowv x0 x1 x2 s l := by
  have eK : View.ld x1 r0_0 = x1 := View.ld_unit_lit _ x1 (by decide)
  have eV : View.ld x2 r0_0 = x2 := View.ld_unit_lit _ x2 (by decide)
  unfold_out out0_3
  canon_tiles x h
  all_goals
    obtain ⟨r', k', rfl⟩ := row_split x
  · replace h1 : s.val = 1792 + r'.val := h1
    exact rowv_of hq hk 7 eK eV (by omega) (Fin.ext h2) (ld_row x0 1792 _ h1)
      (fun a b => (congrFun (fold7 lanes blks _ _ (means (View.ld x1 r0_0)) k0_pay13 _ (View.ld x0 r0_8)) _).trans (block7 _ _ _ r' k' a b))
  · replace h1 : s.val = 1536 + r'.val := h1
    exact rowv_of hq hk 6 eK eV (by omega) (Fin.ext h2) (ld_row x0 1536 _ h1)
      (fun a b => (congrFun (fold6 lanes blks _ _ (means (View.ld x1 r0_0)) k0_pay13 _ (View.ld x0 r0_7)) _).trans (block6 _ _ _ r' k' a b))
  · replace h1 : s.val = 1280 + r'.val := h1
    exact rowv_of hq hk 5 eK eV (by omega) (Fin.ext h2) (ld_row x0 1280 _ h1)
      (fun a b => (congrFun (fold5 lanes blks _ _ (means (View.ld x1 r0_0)) k0_pay13 _ (View.ld x0 r0_6)) _).trans (block5 _ _ _ r' k' a b))
  · replace h1 : s.val = 1024 + r'.val := h1
    exact rowv_of hq hk 4 eK eV (by omega) (Fin.ext h2) (ld_row x0 1024 _ h1)
      (fun a b => (congrFun (fold4 lanes blks _ _ (means (View.ld x1 r0_0)) k0_pay13 _ (View.ld x0 r0_5)) _).trans (block4 _ _ _ r' k' a b))
  · replace h1 : s.val = 768 + r'.val := h1
    exact rowv_of hq hk 3 eK eV (by omega) (Fin.ext h2) (ld_row x0 768 _ h1)
      (fun a b => (congrFun (fold3 lanes blks _ _ (means (View.ld x1 r0_0)) k0_pay13 _ (View.ld x0 r0_4)) _).trans (block3 _ _ _ r' k' a b))
  · replace h1 : s.val = 512 + r'.val := h1
    exact rowv_of hq hk 2 eK eV (by omega) (Fin.ext h2) (ld_row x0 512 _ h1)
      (fun a b => (congrFun (fold2 lanes blks _ _ (means (View.ld x1 r0_0)) k0_pay13 _ (View.ld x0 r0_3)) _).trans (block2 _ _ _ r' k' a b))
  · replace h1 : s.val = 256 + r'.val := h1
    exact rowv_of hq hk 1 eK eV (by omega) (Fin.ext h2) (ld_row x0 256 _ h1)
      (fun a b => (congrFun (fold1 lanes blks _ _ (means (View.ld x1 r0_0)) k0_pay13 _ (View.ld x0 r0_2)) _).trans (block1 _ _ _ r' k' a b))
  · replace h1 : s.val = 0 + r'.val := h1.trans (Nat.zero_add _).symm
    exact rowv_of hq hk 0 eK eV (by omega) (Fin.ext h2) (ld_row x0 0 _ h1)
      (fun a b => (congrFun (fold0 lanes blks _ _ (means (View.ld x1 r0_0)) k0_pay13 _ (View.ld x0 r0_1)) _).trans (block0 _ _ _ r' k' a b))

variable (m : (ℓ : Loc nD τ sig) → Buf (Elt Ideal) ℓ)

theorem idx : ∀ t : Fin cfg0.N, win0_0.index t = ![t.val / 4, 0, t.val % 4] ∧ win0_1.index t = ![t.val / 4, 0, t.val % 4]
    ∧ win0_2.index t = ![t.val / 4, 0, 4 + t.val % 4] ∧ win0_3.index t = ![t.val / 4, 0, t.val % 4] :=
  (by decide +kernel : ∀ t : Fin grid0.N, _)

/-- The batch of point `t`. -/
abbrev bt (t : Fin cfg0.N) : Fin 16 := ⟨t.val / 4, by have := t.isLt; change _ < 64 at this; omega⟩
/-- The column of lane `l` at point `t`. -/
abbrev cl (t : Fin cfg0.N) (l : Fin 128) : Fin 512 := ⟨t.val % 4 * 128 + l.val, by omega⟩

theorem emb0 (t : Fin cfg0.N) (s : Fin 2048) (l : Fin 128) : ((cfg0.win 0).blk t).view.emb (ix3 0 s l) = (ix3 (bt t) s (cl t l) : S16x2048x512.Idx) := by
  blk_ext [idx t]
theorem emb1 (t : Fin cfg0.N) (s : Fin 2048) (l : Fin 128) :
    ((cfg0.win 1).blk t).view.emb (ix3 0 s l) = (ix3 (bt t) s ⟨t.val % 4 * 128 + l.val, by omega⟩ : S16x2048x1024.Idx) := by
  blk_ext [idx t]
theorem emb2 (t : Fin cfg0.N) (s : Fin 2048) (l : Fin 128) :
    ((cfg0.win 2).blk t).view.emb (ix3 0 s l) = (ix3 (bt t) s ⟨512 + t.val % 4 * 128 + l.val, by omega⟩ : S16x2048x1024.Idx) := by
  blk_ext [idx t]
theorem emb3 (t : Fin cfg0.N) (s : Fin 2048) (l : Fin 128) : ((cfg0.win 3).blk t).view.emb (ix3 0 s l) = (ix3 (bt t) s (cl t l) : S16x2048x512.Idx) := by
  blk_ext [idx t]

theorem blk0 (c : Dev nD) (t : Fin cfg0.N) (s : Fin 2048) (l : Fin 128) : iblk m c 0 t (ix3 0 s l)
    = m ((c : Thread nD τ).loc main_arg0) (ix4 (bt t) s ⟨(cl t l).val / 64, by omega⟩ ⟨(cl t l).val % 64, by omega⟩) := by
  have hV : iblk m c 0 t (ix3 0 s l) = V m c main_v0 (((cfg0.win 0).blk t).view.emb (ix3 0 s l)) := rfl
  rw [hV, emb0]; entry_read; pointwise

theorem blk1 (c : Dev nD) (t : Fin cfg0.N) (s : Fin 2048) (l : Fin 128) : iblk m c 1 t (ix3 0 s l)
    = m ((c : Thread nD τ).loc main_arg1) (ix5 (bt t) s 0 ⟨(cl t l).val / 64, by omega⟩ ⟨(cl t l).val % 64, by omega⟩) := by
  have hV : iblk m c 1 t (ix3 0 s l) = V m c main_v1 (((cfg0.win 1).blk t).view.emb (ix3 0 s l)) := rfl
  rw [hV, emb1]; entry_read; pointwise
  try blk_ext

theorem blk2 (c : Dev nD) (t : Fin cfg0.N) (s : Fin 2048) (l : Fin 128) : iblk m c 2 t (ix3 0 s l)
    = m ((c : Thread nD τ).loc main_arg1) (ix5 (bt t) s 1 ⟨(cl t l).val / 64, by omega⟩ ⟨(cl t l).val % 64, by omega⟩) := by
  have hV : iblk m c 2 t (ix3 0 s l) = V m c main_v1 (((cfg0.win 2).blk t).view.emb (ix3 0 s l)) := rfl
  rw [hV, emb2]; entry_read; pointwise
  try blk_ext

theorem point (c : Dev nD) (hq : ∀ i, Re ((m ((c : Thread nD τ).loc main_arg0) : FVec Ideal S16x2048x8x64 .f32) i))
    (hk : ∀ b j h d, Re ((m ((c : Thread nD τ).loc main_arg1) : FVec Ideal S16x2048x2x8x64 .f32) (ix5 b j 0 h d)))
    (t : Fin cfg0.N) (s : Fin 2048) (l : Fin 128) :
    out0_3 (iblk m c 0 t) (iblk m c 1 t) (iblk m c 2 t) (ix3 0 s l) = moba (s.val / 256) (s.val % 256)
      (fun d => (m ((c : Thread nD τ).loc main_arg0) : FVec Ideal S16x2048x8x64 .f32) (ix4 (bt t) s ⟨(cl t l).val / 64, by omega⟩ d))
      (fun j d => (m ((c : Thread nD τ).loc main_arg1) : FVec Ideal S16x2048x2x8x64 .f32) (ix5 (bt t) j 0 ⟨(cl t l).val / 64, by omega⟩ d))
      (fun j => (m ((c : Thread nD τ).loc main_arg1) : FVec Ideal S16x2048x2x8x64 .f32)
        (ix5 (bt t) j 1 ⟨(cl t l).val / 64, by omega⟩ ⟨(cl t l).val % 64, by omega⟩)) := by
  rw [out_rows _ _ _ (fun s l => by rw [blk0]; exact hq _) (fun s l => by rw [blk1]; exact hk _ _ _ _), rowv]
  have e1 : ∀ d : Fin 64, (⟨(cl t ⟨l.val / 64 * 64 + d.val, by omega⟩).val / 64, by omega⟩ : Fin 8) = ⟨(cl t l).val / 64, by omega⟩ :=
    fun d => Fin.ext (by dsimp only; omega)
  have e2 : ∀ d : Fin 64, (⟨(cl t ⟨l.val / 64 * 64 + d.val, by omega⟩).val % 64, by omega⟩ : Fin 64) = d :=
    fun d => Fin.ext (by dsimp only; omega)
  simp only [blk0, blk1, blk2, e1, e2]

end Cert.MobaIdeal.Proved
-- ==== Proof.Moba.Ref.lean ====
module

public import proofs.«01_k».proof.Proof.Gen.MobaRefIdeal.Read
public import proofs.«01_k».proof.Proof.Moba.Spec
public import proofs.«01_k».proof.Proof.Attn.Finite
public import Idealize.ShloMosaic.Lib.WordCmp
public import Idealize.ShloMosaic.Lib.Pipeline.ValueKit
public import Idealize.ShloMosaic.Lib.Pointwise
public import Idealize.ShloMosaic.Lib.SortFacts
public import Idealize.ShloMosaic.Lib.Claim

@[expose] public section

set_option maxRecDepth 16384

noncomputable section

/-! MoBA attention: what the reference computes, entry by entry. -/

namespace Cert.MobaRefIdeal

open Cert.MobaRefIdeal Cert.MobaRefIdeal.Gen Cert.MobaRefIdeal.Read Idealize.ShloMosaic Idealize.ShloMosaic.TcCoe Idealize.SL.Sem Cert.Attn Cert.Moba

variable (q : (⟨S16x2048x8x64, .f32⟩ : BufTy).Contents (Elt Ideal)) (kv : (⟨S16x2048x2x8x64, .f32⟩ : BufTy).Contents (Elt Ideal))

/-- A query of one head. -/
def qv (b : Fin 16) (h : Fin 8) (t : Fin 2048) (d : Fin 64) : EReal := q (ix4 b t h d)

/-- The keys of one head. -/
def kk (b : Fin 16) (h : Fin 8) (j : Fin 2048) (d : Fin 64) : EReal := kv (ix5 b j 0 h d)

/-- The gates of one query. -/
def gt (b : Fin 16) (h : Fin 8) (t : Fin 2048) : Fin 8 → EReal := gate (qv q b h t) (kk kv b h) (t.val / 256)

theorem v2_at (b : Fin 16) (h : Fin 8) (n : Fin 8) (p : Fin 256) (z : Fin 2) (d : Fin 64) :
    val_main_v2 (F := Ideal) kv (ix6 b h n p z d) = kv (ix5 b ⟨n.val * 256 + p.val, by omega⟩ z h d) := by
  pointwise [val_main_v2, val_main_v1]

theorem v15_at (t : Fin 2048) : val_main_v15 (F := Ideal) (ix1 t) = BitVec.ofNat 32 (t.val / 256) := by
  pointwise [val_main_v15, val_main_call0_v11, val_main_call0_v13, val_main_call0_v12, val_main_call0_c_0, val_main_call0_v10, val_main_call0_v9,
    val_main_call0_c, val_main_call0_v8, val_main_call0_v7, val_main_call0_v6, val_main_call0_v5, val_main_call0_v4, val_main_call0_v3,
    val_main_call0_v2, val_main_call0_v1, val_main_call0_v0, val_main_c, val_main_v0, signi]
  rw [show id (constantI S_ 32 256#32) ix0 = 256#32 from rfl]
  revert t
  decide +kernel

theorem v7_at (b : Fin 16) (h : Fin 8) (n : Fin 8) (d : Fin 64) :
    val_main_v7 (F := Ideal) kv (ix4 b h n d)
      = Ideal.div (∑ p : Fin 256, kv (ix5 b ⟨n.val * 256 + p.val, by omega⟩ 0 h d)) (Ideal.ofBits .f32 0x43800000#32) := by
  pointwise [val_main_v7, val_main_v6, val_main_cst_0, val_main_v5, val_main_cst, val_main_v4, val_main_v3, v2_at]

theorem select_if {P : Prop} [Decidable P] {c : BitVec 1} (h : c = 1#1 ↔ P) {α : Type} (x y : α) : Scalar.select c x y = if P then x else y := by
  by_cases p : P
  · rw [if_pos p, h.mpr p]; rfl
  · rw [if_neg p]
    exact if_neg fun e => p (h.mp e)

theorem int_of {a : Nat} (ha : a < 4096) : (BitVec.ofNat 32 a).toInt = (a : Int) := WordCmp.toInt_ofNat_of_lt (by omega)

theorem slt_of {a b : Nat} (ha : a < 4096) (hb : b < 4096) : IntOp.cmpi .slt (BitVec.ofNat 32 a) (BitVec.ofNat 32 b) = 1#1 ↔ a < b := by
  show BitVec.ofBool (decide ((BitVec.ofNat 32 a).toInt < (BitVec.ofNat 32 b).toInt)) = 1#1 ↔ a < b
  rw [int_of ha, int_of hb]
  by_cases k : a < b <;> simp [k]

theorem sle_of {a b : Nat} (ha : a < 4096) (hb : b < 4096) : IntOp.cmpi .sle (BitVec.ofNat 32 a) (BitVec.ofNat 32 b) = 1#1 ↔ a ≤ b := by
  show BitVec.ofBool (decide ((BitVec.ofNat 32 a).toInt ≤ (BitVec.ofNat 32 b).toInt)) = 1#1 ↔ a ≤ b
  rw [int_of ha, int_of hb]
  by_cases k : a ≤ b <;> simp [k]

theorem place_of (s p : Nat) : IntOp.addi (IntOp.muli (BitVec.ofNat 32 s) 256#32) (BitVec.ofNat 32 p) = BitVec.ofNat 32 (s * 256 + p) := by
  show BitVec.ofNat 32 s * BitVec.ofNat 32 256 + BitVec.ofNat 32 p = _
  rw [BitVec.ofNat_add, BitVec.ofNat_mul]

theorem wrap_of {a : Nat} (ha : a < 4096) (c : BitVec 32) :
    Scalar.select (IntOp.cmpi .slt (BitVec.ofNat 32 a) 0#32) c (BitVec.ofNat 32 a) = BitVec.ofNat 32 a := by
  rw [select_if (slt_of ha (b := 0) (by omega)), if_neg (by omega)]

theorem v22_at (b : Fin 16) (h : Fin 8) (t : Fin 2048) (n : Fin 8) :
    val_main_v22 (F := Ideal) q kv (ix4 b h t n) = gt q kv b h t n := by
  pointwise [val_main_v22, val_main_call1_v1, val_main_call1_v0, val_main_cst_1, val_main_v21, val_main_v20, val_main_v19, val_main_v18,
    val_main_v17, val_main_v16, val_main_v14, val_main_v12, val_main_call1_v2, v7_at, v15_at]
  rw [select_if (slt_of (by omega) (by omega)), gt, gate]
  exact congrArg (fun z => if n.val < t.val / 256 then _ else z) neg_inf

/-- The order of the gates, as a test. -/
def ord (g : Fin 8 → EReal) (k k' : Fin 8) : Bool := FloatOps.cmpfTotal (F := Ideal) (φ := .f32) .gt (g k) (g k') == 1#1

theorem ord_iff (g : Fin 8 → EReal) (k k' : Fin 8) : ord g k k' = true ↔ g k' < g k := by
  show (BitVec.ofBool (decide (g k' < g k)) == 1#1) = true ↔ _
  by_cases h : g k' < g k <;> simp [h]

/-- The block of rank `s`. -/
def sel (g : Fin 8 → EReal) (s : Fin 8) : Fin 8 := sortedFrom (ord g) s

theorem rk_sel (g : Fin 8 → EReal) (s : Fin 8) : rk g (sel g s) = s.val := rk_sortedFrom g (ord g) (ord_iff g) s

theorem along_at (b : Fin 16) (h : Fin 8) (t : Fin 2048) (s k : Fin 8) :
    (ix4 b h t s : S16x8x2048x8.Idx).along (3 : Fin 4) k = ix4 b h t k := by
  funext a
  fin_cases a <;> rfl

theorem sort_at (x : FVec Ideal S16x8x2048x8 .f32) (y : IVec S16x8x2048x8 32) (b : Fin 16) (h : Fin 8) (t : Fin 2048) (s : Fin 8) :
    (Host.sort2 S16x8x2048x8 3 (fun l r => FloatOps.cmpfTotal (F := Ideal) (φ := .f32) .gt l.1 r.1) x y).2 (ix4 b h t s)
      = y (ix4 b h t (sel (fun n => x (ix4 b h t n)) s)) := by
  unfold Host.sort2
  rw [dif_pos (show 3 < S16x8x2048x8.rank by decide)]
  refine (congrArg y (along_at b h t s _)).trans ?_
  refine congrArg (fun f : Fin 8 → Fin 8 → Bool => y (ix4 b h t (sortedFrom f s))) ?_
  funext k k'
  exact congrArg₂ (fun i j => FloatOps.cmpfTotal (F := Ideal) (φ := .f32) .gt (x i) (x j) == 1#1) (along_at b h t s k) (along_at b h t s k')

theorem top_at (x : FVec Ideal S16x8x2048x8 .f32) (hf) (b : Fin 16) (h : Fin 8) (t : Fin 2048) (s : Fin 3) :
    (Host.topK S16x8x2048x3 3 (FloatOps.cmpfTotal .gt) x hf).2 (ix4 b h t s)
      = BitVec.ofNat 32 (sel (fun n => x (ix4 b h t n)) ⟨s.val, by omega⟩).val := by
  have e : ∀ i, (Host.topK S16x8x2048x3 3 (FloatOps.cmpfTotal (F := Ideal) (φ := .f32) .gt) x hf).2 i
      = (Host.sort2 S16x8x2048x8 3 (fun l r => FloatOps.cmpfTotal (F := Ideal) (φ := .f32) .gt l.1 r.1) x
        (fun i => if hd : 3 < S16x8x2048x8.rank then iotaInDim S16x8x2048x8 32 ⟨3, hd⟩ i else 0#32)).2
          (fun a => ⟨0 + (i a).val, by have h1 : 0 + S16x8x2048x3.size a ≤ S16x8x2048x8.size a := hf.2 a; have := (i a).isLt; omega⟩) := fun i => rfl
  rw [e]
  refine Eq.trans (congrArg _ ?_) ((sort_at x _ b h t ⟨s.val, by omega⟩).trans (dif_pos (show 3 < S16x8x2048x8.rank by decide)))
  funext a
  fin_cases a <;> exact Fin.ext (Nat.zero_add _)

theorem ind_at (b : Fin 16) (h : Fin 8) (t : Fin 2048) (s : Fin 3) :
    val_main_indices (F := Ideal) q kv (ix4 b h t s) = BitVec.ofNat 32 (sel (gt q kv b h t) ⟨s.val, by omega⟩).val := by
  unfold val_main_indices
  rw [top_at]
  exact congrArg (fun g : Fin 8 → EReal => BitVec.ofNat 32 (sel g ⟨s.val, by omega⟩).val) (funext fun n => v22_at q kv b h t n)

/-- The block in place `s` of a query's list: the blocks of rank 0, 1 and 2, then the query's own. -/
def slot (b : Fin 16) (h : Fin 8) (t : Fin 2048) (s : Fin 4) : Fin 8 :=
  if h' : s.val < 3 then sel (gt q kv b h t) ⟨s.val, by omega⟩ else ⟨t.val / 256, by omega⟩

theorem v25_at (b : Fin 16) (h : Fin 8) (t : Fin 2048) (n : Fin 4) :
    val_main_v25 (F := Ideal) q kv (ix4 b h t n) = BitVec.ofNat 32 (slot q kv b h t n).val := by
  pointwise [val_main_v25, val_main_v24, val_main_v23, v15_at, ind_at]
  unfold slot
  by_cases h3 : n.val < 3
  · rw [dif_pos h3]; simp [h3]
  · rw [dif_neg h3]; simp [h3]

theorem v31_at (b : Fin 16) (h : Fin 8) (t : Fin 2048) (n : Fin 4) :
    val_main_v31 (F := Ideal) q kv (ix4 b h t n) = 1#1 ↔ (n.val < 3 → (slot q kv b h t n).val < t.val / 256) := by
  pointwise [val_main_v31, val_main_v29, val_main_v30, val_main_v28, val_main_v27, val_main_v26, val_main_c_2, v15_at, ind_at]
  unfold slot
  by_cases h3 : n.val < 3
  · rw [dif_pos h3]; simp [h3]; exact slt_of (by omega) (by omega)
  · rw [dif_neg h3]; simp [h3]

theorem v52_at0 (b : Fin 16) (h : Fin 8) (t : Fin 2048) (n : Fin 4) :
    val_main_v52 (F := Ideal) q kv (ix5 b h t n 0) = BitVec.ofNat 32 b.val := by
  pointwise [val_main_v52, val_main_v49, val_main_v47, val_main_v36, val_main_v35, val_main_v34, val_main_v33, val_main_v32, val_main_v9,
    val_main_v8, val_main_c_4, val_main_c_3]
  exact wrap_of (by omega) _

theorem v52_at1 (b : Fin 16) (h : Fin 8) (t : Fin 2048) (n : Fin 4) :
    val_main_v52 (F := Ideal) q kv (ix5 b h t n 1) = BitVec.ofNat 32 h.val := by
  pointwise [val_main_v52, val_main_v50, val_main_v48, val_main_v41, val_main_v40, val_main_v39, val_main_v38, val_main_v37, val_main_v11,
    val_main_v10, val_main_c_5, val_main_c_6]
  exact wrap_of (by omega) _

theorem v52_at2 (b : Fin 16) (h : Fin 8) (t : Fin 2048) (n : Fin 4) :
    val_main_v52 (F := Ideal) q kv (ix5 b h t n 2) = BitVec.ofNat 32 (slot q kv b h t n).val := by
  pointwise [val_main_v52, val_main_v51, val_main_v46, val_main_v45, val_main_v44, val_main_v43, val_main_v42, val_main_c_7, val_main_c_8, v25_at]
  exact wrap_of (by omega) _

theorem gather_at (X : FVec Ideal S16x8x8x256x2x64 .f32) (I : IVec S16x8x2048x4x3 32) (b : Fin 16) (h : Fin 8) (t : Fin 2048) (n : Fin 4)
    (p : Fin 256) (z : Fin 2) (d : Fin 64) (s : Fin 8) (h0 : I (ix5 b h t n 0) = BitVec.ofNat 32 b.val)
    (h1 : I (ix5 b h t n 1) = BitVec.ofNat 32 h.val) (h2 : I (ix5 b h t n 2) = BitVec.ofNat 32 s.val) :
    Host.gather gather_S16x8x8x256x2x64_S16x8x2048x4x3_S16x8x2048x4x256x2x64_456_012_n_n_012_4_111256264 X I (ix7 b h t n p z d)
      = X (ix6 b h s p z d) := by
  have e : ∀ c : Fin 3, gather_S16x8x8x256x2x64_S16x8x2048x4x3_S16x8x2048x4x256x2x64_456_012_n_n_012_4_111256264.siIdx (ix7 b h t n p z d) c
      = ix5 b h t n c := fun c => by
    funext a
    fin_cases a <;> rfl
  have w : ∀ (c : Fin 3) (N v : Nat), v < 4096 → v ≤ N → I (ix5 b h t n c) = BitVec.ofNat 32 v →
      min (I (gather_S16x8x8x256x2x64_S16x8x2048x4x3_S16x8x2048x4x256x2x64_456_012_n_n_012_4_111256264.siIdx (ix7 b h t n p z d) c)).toInt.toNat N = v :=
    fun c N v hv hN hI => by
      rw [e, hI, int_of hv, Int.toNat_natCast]; omega
  refine congrArg X (funext fun a => Fin.ext ?_)
  fin_cases a
  · exact w 0 15 b.val (by omega) (by omega) h0
  · exact w 1 7 h.val (by omega) (by omega) h1
  · exact w 2 7 s.val (by omega) (by omega) h2
  · exact Nat.zero_add _
  · exact Nat.zero_add _
  · exact Nat.zero_add _

theorem v53_at (b : Fin 16) (h : Fin 8) (t : Fin 2048) (n : Fin 4) (p : Fin 256) (z : Fin 2) (d : Fin 64) :
    val_main_v53 (F := Ideal) q kv (ix7 b h t n p z d) = kv (ix5 b ⟨(slot q kv b h t n).val * 256 + p.val, by omega⟩ z h d) := by
  unfold val_main_v53
  rw [gather_at _ _ b h t n p z d _ (v52_at0 q kv b h t n) (v52_at1 q kv b h t n) (v52_at2 q kv b h t n), v2_at]

/-- The place of key `k` of a query's list among all keys. -/
def key (b : Fin 16) (h : Fin 8) (t : Fin 2048) (k : Fin 1024) : Fin 2048 :=
  ⟨(slot q kv b h t ⟨k.val / 256, by omega⟩).val * 256 + k.val % 256, by omega⟩

/-- Which keys of the list the query attends. -/
def live (b : Fin 16) (h : Fin 8) (t : Fin 2048) (k : Fin 1024) : Prop :=
  (k.val / 256 < 3 → (slot q kv b h t ⟨k.val / 256, by omega⟩).val < t.val / 256) ∧ (key q kv b h t k).val ≤ t.val

instance (b : Fin 16) (h : Fin 8) (t : Fin 2048) : DecidablePred (live q kv b h t) := fun k => by unfold live; infer_instance

theorem v68_at (b : Fin 16) (h : Fin 8) (t : Fin 2048) (k : Fin 1024) :
    val_main_v68 (F := Ideal) q kv (ix4 b h t k) = 1#1 ↔ live q kv b h t k := by
  pointwise [val_main_v68, val_main_v67, val_main_v66, val_main_v65, val_main_v64, val_main_v63, val_main_v62, val_main_v61, val_main_v60, val_main_v59, val_main_v58, val_main_v57, val_main_v56, val_main_v55, val_main_v54, val_main_c_9, val_main_v13, val_main_v0, v25_at]
  rw [and_one, v31_at, place_of, sle_of (by omega) (by omega)]
  exact Iff.rfl

theorem v75_at (b : Fin 16) (h : Fin 8) (t : Fin 2048) (k : Fin 1024) :
    val_main_v75 (F := Ideal) q kv (ix4 b h t k) = if live q kv b h t k then score (qv q b h t) (kk kv b h) (key q kv b h t k) else ⊥ := by
  pointwise [val_main_v75, val_main_call2_v1, val_main_call2_v0, val_main_cst_11, val_main_v74, val_main_v73, val_main_v72, val_main_v71, val_main_cst_10, val_main_v14, val_main_v70, val_main_v69, v53_at]
  rw [select_if (v68_at q kv b h t k)]
  exact congrArg (fun z => if live q kv b h t k then _ else z) neg_inf

theorem v90_at (b : Fin 16) (h : Fin 8) (t : Fin 2048) (k : Fin 1024) (d : Fin 64) :
    val_main_v90 (F := Ideal) q kv (ix5 b h t k d) = kv (ix5 b (key q kv b h t k) 1 h d) := by
  pointwise [val_main_v90, val_main_v89, val_main_v88, v53_at]
  rfl

/-- The greatest score, read from any array of scores. -/
theorem max_at (y : FVec Ideal S16x8x2048x1024 .f32) (b : Fin 16) (h : Fin 8) (t : Fin 2048) :
    Host.reduce FloatOps.maximumf y (constant S_ .f32 0xFF800000#32) reducesTo_S16x8x2048x1024_S16x8x2048_d3 h_S_ (ix3 b h t)
      = Finset.univ.sup fun k => y (ix4 b h t k) := by
  pointwise
  exact fold_max _ _

/-- The masked scores of a query's list. -/
def msc (b : Fin 16) (h : Fin 8) (t : Fin 2048) (k : Fin 1024) : EReal := val_main_v75 (F := Ideal) q kv (ix4 b h t k)

theorem msc_at (b : Fin 16) (h : Fin 8) (t : Fin 2048) (k : Fin 1024) : val_main_v75 (F := Ideal) q kv (ix4 b h t k) = msc q kv b h t k := rfl

theorem v78_at (b : Fin 16) (h : Fin 8) (t : Fin 2048) : val_main_v78 (F := Ideal) q kv (ix3 b h t) = Finset.univ.sup (msc q kv b h t) := by
  rw [val_main_v78_apply, val_main_v77_apply, val_main_cst_13_apply]
  unfold val_main_v76 val_main_cst_12
  rw [max_at]
  simp only [msc_at]
  exact max_neg_inf _

/-- Scores less a row's own number, then the exponential, from any two arrays. -/
theorem shift_at (y : FVec Ideal S16x8x2048x1024 .f32) (z : FVec Ideal S16x8x2048 .f32) (b : Fin 16) (h : Fin 8) (t : Fin 2048) (k : Fin 1024) :
    Host.exp (subf y (broadcastInDim S16x8x2048x1024 ![0, 1, 2, 3] bcast_S16x8x2048x1_S16x8x2048x1024_0_1_2_3
      (broadcastInDim S16x8x2048x1 ![0, 1, 2] bcast_S16x8x2048_S16x8x2048x1_0_1_2 z))) (ix4 b h t k) = Ideal.exp (y (ix4 b h t k) - z (ix3 b h t)) := by
  pointwise

theorem v82_at (b : Fin 16) (h : Fin 8) (t : Fin 2048) (k : Fin 1024) :
    val_main_v82 (F := Ideal) q kv (ix4 b h t k) = Ideal.exp (msc q kv b h t k - Finset.univ.sup (msc q kv b h t)) := by
  unfold val_main_v82 val_main_v81 val_main_v80 val_main_v79
  rw [shift_at, v78_at, msc_at]

theorem v83_at (b : Fin 16) (h : Fin 8) (t : Fin 2048) :
    val_main_v83 (F := Ideal) q kv (ix3 b h t) = ∑ k, Ideal.exp (msc q kv b h t k - Finset.univ.sup (msc q kv b h t)) := by
  pointwise [val_main_v83, val_main_cst_14, v82_at]

theorem v87_at (b : Fin 16) (h : Fin 8) (t : Fin 2048) (k : Fin 1024) :
    val_main_v87 (F := Ideal) q kv (ix4 b h t k) = if live q kv b h t k then
      Ideal.div (Ideal.exp (msc q kv b h t k - Finset.univ.sup (msc q kv b h t))) (∑ k, Ideal.exp (msc q kv b h t k - Finset.univ.sup (msc q kv b h t)))
    else 0 := by
  pointwise [val_main_v87, val_main_call3_v0, val_main_call3_v1, val_main_cst_15, val_main_v86, val_main_v85, val_main_v84, v83_at, v82_at]
  rw [select_if (v68_at q kv b h t k)]
  exact congrArg (fun z => if live q kv b h t k then _ else z) (show Ideal.ofBits .f32 0#32 = 0 by simp [Ideal.ofBits, Ideal.ieee])

theorem rk_inj {g : Fin 8 → EReal} {a b : Fin 8} (h : rk g a = rk g b) : a = b := by
  by_contra hne
  rcases Bef.total g hne with k | k
  · exact absurd (rk_lt k) (by omega)
  · exact absurd (rk_lt k) (by omega)

theorem slot_lt {b : Fin 16} {h : Fin 8} {t : Fin 2048} {s : Fin 4} (hs : s.val < 3) : rk (gt q kv b h t) (slot q kv b h t s) = s.val := by
  unfold slot
  rw [dif_pos hs, rk_sel]

theorem slot_own {b : Fin 16} {h : Fin 8} {t : Fin 2048} {s : Fin 4} (hs : ¬ s.val < 3) : (slot q kv b h t s).val = t.val / 256 := by
  unfold slot
  rw [dif_neg hs]

variable (hq : ∀ i, Re (q i)) (hk : ∀ b j h d, Re (kv (ix5 b j 0 h d)))
include hq hk

theorem ref_at (b : Fin 16) (t : Fin 2048) (c : Fin 512) :
    val_main_v93 (F := Ideal) q kv (ix3 b t c) = moba (t.val / 256) (t.val % 256) (qv q b ⟨c.val / 64, by omega⟩ t) (kk kv b ⟨c.val / 64, by omega⟩)
      (fun j => kv (ix5 b j 1 ⟨c.val / 64, by omega⟩ ⟨c.val % 64, by omega⟩)) := by
  pointwise [val_main_v93, val_main_v92, val_main_v91, v87_at, v90_at]
  generalize (⟨c.val / 64, by omega⟩ : Fin 8) = h
  refine att_of_div (A := keys (t.val / 256) (t.val % 256) (gt q kv b h t)) (S := score (qv q b h t) (kk kv b h))
    (v := fun j => kv (ix5 b j 1 h ⟨c.val % 64, by omega⟩)) (live q kv b h t) (key q kv b h t)
    ⟨_, own_mem (by omega) (by omega) _⟩ (fun j _ => score_re (fun d => hq _) (fun j d => hk _ _ _ _) j) (fun k p => ?_) (fun k p => ?_) (fun k p => ?_)
    (fun i j pi pj e => ?_) (fun j hj => ?_) (fun k _ => rfl)
  · exact (v75_at q kv b h t k).trans (if_pos p)
  · exact (v75_at q kv b h t k).trans (if_neg p)
  · obtain ⟨p1, p2⟩ := p
    simp only [keys, Finset.mem_filter, Finset.mem_univ, true_and]
    have e1 : (key q kv b h t k).val = (slot q kv b h t ⟨k.val / 256, by omega⟩).val * 256 + k.val % 256 := rfl
    by_cases h3 : k.val / 256 < 3
    · have := p1 h3
      have hb : blk (key q kv b h t k) = slot q kv b h t ⟨k.val / 256, by omega⟩ := Fin.ext (by unfold blk; dsimp only; omega)
      refine Or.inr ⟨by omega, ?_⟩
      rw [hb, slot_lt q kv h3]
      exact h3
    · have := slot_own q kv (b := b) (h := h) (t := t) (s := ⟨k.val / 256, by omega⟩) h3
      exact Or.inl (by omega)
  · have e' : (slot q kv b h t ⟨i.val / 256, by omega⟩).val * 256 + i.val % 256
        = (slot q kv b h t ⟨j.val / 256, by omega⟩).val * 256 + j.val % 256 := congrArg Fin.val e
    have es : slot q kv b h t ⟨i.val / 256, by omega⟩ = slot q kv b h t ⟨j.val / 256, by omega⟩ := Fin.ext (by omega)
    by_cases h3 : i.val / 256 < 3 <;> by_cases h4 : j.val / 256 < 3
    · have a := slot_lt q kv (b := b) (h := h) (t := t) (s := ⟨i.val / 256, by omega⟩) h3
      rw [es, slot_lt q kv h4] at a
      dsimp only at a
      exact Fin.ext (by omega)
    · have a := pi.1 h3
      rw [es, slot_own q kv h4] at a
      omega
    · have a := pj.1 h4
      rw [← es, slot_own q kv h3] at a
      omega
    · exact Fin.ext (by omega)
  · simp only [keys, Finset.mem_filter, Finset.mem_univ, true_and] at hj
    by_cases hn : j.val / 256 = t.val / 256
    · have hr : j.val % 256 ≤ t.val % 256 := by omega
      have e1 : (key q kv b h t ⟨768 + j.val % 256, by omega⟩).val = (slot q kv b h t ⟨(768 + j.val % 256) / 256, by omega⟩).val * 256 + (768 + j.val % 256) % 256 := rfl
      have e2 := slot_own q kv (b := b) (h := h) (t := t) (s := ⟨(768 + j.val % 256) / 256, by omega⟩) (by dsimp only; omega)
      exact ⟨⟨768 + j.val % 256, by omega⟩, ⟨fun h3 => absurd h3 (by dsimp only; omega), by omega⟩, Fin.ext (by omega)⟩
    · obtain ⟨hl, hr⟩ : j.val / 256 < t.val / 256 ∧ rk (gt q kv b h t) (blk j) < 3 := by
        rcases hj with hj | hj
        · exact absurd hj.1 hn
        · exact hj
      generalize hs : rk (gt q kv b h t) (blk j) = s at hr
      have e1 : (key q kv b h t ⟨s * 256 + j.val % 256, by omega⟩).val = (slot q kv b h t ⟨(s * 256 + j.val % 256) / 256, by omega⟩).val * 256 + (s * 256 + j.val % 256) % 256 := rfl
      have e2 : slot q kv b h t ⟨(s * 256 + j.val % 256) / 256, by omega⟩ = blk j := by
        refine rk_inj (g := gt q kv b h t) ?_
        rw [slot_lt q kv (by dsimp only; omega), hs]
        dsimp only; omega
      have e3 : (slot q kv b h t ⟨(s * 256 + j.val % 256) / 256, by omega⟩).val = j.val / 256 := congrArg Fin.val e2
      exact ⟨⟨s * 256 + j.val % 256, by omega⟩, ⟨fun _ => by dsimp only; omega, by omega⟩, Fin.ext (by omega)⟩

end Cert.MobaRefIdeal
-- ==== Proof.Moba.Final.lean ====
module

public import proofs.«01_k».proof.Proof.Gen.Pre_moba_finite
public import proofs.«01_k».proof.Proof.Attn.Finite
public import proofs.«01_k».proof.Proof.Moba.Value
public import proofs.«01_k».proof.Proof.Moba.Ref

@[expose] public section

set_option maxRecDepth 16384

noncomputable section

/-! MoBA attention: the kernel's result is the reference's. -/

namespace Cert.MobaRefIdeal

open Cert.Attn Idealize.ShloMosaic

/-- What the precondition says: the queries and the keys are finite. -/
theorem real_of_pre (q : FVec Ideal S16x2048x8x64 .f32) (kv : FVec Ideal S16x2048x2x8x64 .f32)
    (h : Cert.Pre_moba_finite.fn (F := Ideal) q kv = fun _ => 1#1) : (∀ i, Re (q i)) ∧ ∀ b j h d, Re (kv (ix5 b j 0 h d)) := by
  have e := congrFun h ix0
  unfold Cert.Pre_moba_finite.fn at e
  obtain ⟨e1, e2⟩ := and_one.mp e
  have k1 := Host.reduce_andi_all _ _ _ _ _ e1
  have k2 := Host.reduce_andi_all _ _ _ _ _ e2
  refine ⟨fun i => re_of_test (k1 i), fun b j h d => ?_⟩
  have k := re_of_test (k2 (ix4 b j h d))
  revert k
  pointwise
  exact id

end Cert.MobaRefIdeal

namespace Cert.MobaIdeal.Proved

open Cert.MobaIdeal Cert.MobaIdeal.Gen Idealize.ShloMosaic Idealize.ShloMosaic.TcCoe Idealize.SL.Sem Cert.Attn Cert.Moba
open Idealize.ShloMosaic.Pipeline (Dat)

variable (m : (ℓ : Loc nD τ sig) → Buf (Elt Ideal) ℓ)

theorem final (c : Dev nD) (hp : (∀ i, Re ((m ((c : Thread nD τ).loc main_arg0) : FVec Ideal S16x2048x8x64 .f32) i))
    ∧ ∀ b j h d, Re ((m ((c : Thread nD τ).loc main_arg1) : FVec Ideal S16x2048x2x8x64 .f32) (ix5 b j 0 h d))) :
    (dats m 0 c).arrAt 3 cfg0.N = Cert.MobaRefIdeal.Read.val_main_v93 (F := Ideal) (m ((c : Thread nD τ).loc main_arg0)) (m ((c : Thread nD τ).loc main_arg1)) := by
  refine (dats m 0 c).arrAt_eq_of_covers 3 _ (by decide +kernel) fun t _ y => ?_
  obtain ⟨s, l, rfl⟩ : ∃ (s : Fin 2048) (l : Fin 128), y = ix3 0 s l :=
    ⟨y 1, y 2, by rw [eq_ix3 y]; congr 1; exact Subsingleton.elim (α := Fin 1) _ _⟩
  rw [emb3]
  refine Eq.trans ?_ (Cert.MobaRefIdeal.ref_at _ _ hp.1 hp.2 (bt t) s (cl t l)).symm
  blk_simp
  rw [after0_3]
  exact point m c hp.1 hp.2 t s l

end Cert.MobaIdeal.Proved
-- ==== Proof.Claims.Moba.lean ====
module

public import proofs.«01_k».proof.Defs
public import proofs.«01_k».proof.Proof.Gen.Moba.Frame
public import proofs.«01_k».proof.Proof.Gen.MobaRefIdeal.Read
public import proofs.«01_k».proof.Proof.Gen.Pre_moba_finite
public import proofs.«01_k».proof.Proof.Moba.Final
public import proofs.«01_k».proof.Proof.Gen.MobaRefIdeal.Run
public import Idealize.ShloMosaic.Lib.Claim
public import Idealize.ShloMosaic.Adequacy
public import Idealize.ShloMosaic.Init

@[expose] public section

noncomputable section

namespace Cert.Proof

open Idealize.ShloMosaic Idealize.SL.Sem

theorem frame_moba : Cert.quiescent_Moba := fun m ρ _ => Cert.Moba.Gen.frame m ρ

theorem frame_moba_ideal : Cert.quiescent_MobaIdeal := fun m ρ _ => Cert.MobaIdeal.Gen.frame m ρ

theorem frame_moba_ref : Cert.quiescent_MobaRefIdeal :=
  fun m ρ _ => (θ_run Cert.MobaRefIdeal.defs _ _).mono
    (fun r h => ⟨fun c => (h c).2, Idealize.ShloMosaic.sem_eq_zero_of_no_sems (by decide) r.2⟩)
    (Cert.MobaRefIdeal.Value.run m ρ)

theorem frame_moba_ideal_pre : Cert.quiescent_MobaIdeal_pre_moba_finite := fun m ρ _ => Cert.MobaIdeal.Gen.frame m ρ

theorem frame_moba_ref_pre : Cert.quiescent_MobaRefIdeal_pre_moba_finite :=
  fun m ρ _ => (θ_run Cert.MobaRefIdeal.defs _ _).mono
    (fun r h => ⟨fun c => (h c).2, Idealize.ShloMosaic.sem_eq_zero_of_no_sems (by decide) r.2⟩)
    (Cert.MobaRefIdeal.Value.run m ρ)

theorem algebraic_moba : Cert.algebraic_MobaIdeal_MobaRefIdeal_pre_moba_finite := by
  pair_intro
  · run_from Cert.MobaIdeal.Gen.run_main m g
  · refine (θ_run Cert.MobaRefIdeal.defs _ _).mono (fun r h c => ?_) (Cert.MobaRefIdeal.Value.run m' g')
    obtain ⟨a0, a1⟩ := hagree c
    refine ⟨(h c).1.trans ((Cert.MobaRefIdeal.Read.val_main_v93_eq m' c).trans (Eq.trans ?_ (Cert.MobaIdeal.Proved.final m c (Cert.MobaRefIdeal.real_of_pre _ _ (hpre c))).symm)), (h c).2⟩
    exact congr (congrArg (Cert.MobaRefIdeal.Read.val_main_v93 (F := Ideal)) a0) a1

theorem named_mask : Cert.preserves_Moba_MobaIdeal :=
  IdealRules.named_const.statement Cert.MobaIdeal.κ "mask" .f32 0xF149F2CA#32 ⊥ rfl

end Cert.Proof

end
-- ==== Proof.Comp.Spec.lean ====
module

public import Idealize.ShloMosaic.Lib.ValueIdx
public import Idealize.ShloMosaic.Lib.Pipeline.ValueKit
public import Idealize.ShloMosaic.Lib.Pointwise
public import Idealize.ShloMosaic.Lib.Claim

@[expose] public section

noncomputable section

/-! Compression of keys and values: the gate of the hidden layer, and sums over blocks of 64. -/

namespace Cert.Comp

open Idealize.ShloMosaic

/-- The gate of the hidden layer. -/
def gl (z : EReal) : EReal :=
  z * (Ideal.ofBits .f32 1056964608#32 * (1 + Ideal.tanh (Ideal.ofBits .f32 1061962282#32 * (z + Ideal.ofBits .f32 1027024659#32 * (z * (z * z))))))

/-- A sum over blocks of 64, block by block. -/
theorem sum_blocks {N n : ℕ} (hN : N = n * 64) (f : Fin N → EReal) : ∑ k : Fin N, f k = ∑ p : Fin n, ∑ e : Fin 64, f ⟨p.val * 64 + e.val, by omega⟩ := by
  subst hN
  rw [← Equiv.sum_comp (finProdFinEquiv : Fin n × Fin 64 ≃ Fin (n * 64)), Fintype.sum_prod_type]
  refine Finset.sum_congr rfl fun p _ => Finset.sum_congr rfl fun e _ => congrArg f (Fin.ext ?_)
  show e.val + 64 * p.val = p.val * 64 + e.val
  omega

/-- A sum against weights that are zero outside one of four blocks of 64. -/
theorem diag (f M : Fin 256 → EReal) (g : Fin 4) (w : Fin 64 → EReal)
    (hM : ∀ j : Fin 256, M j = if j.val / 64 = g.val then w ⟨j.val % 64, by omega⟩ else 0) :
    ∑ j : Fin 256, f j * M j = ∑ e : Fin 64, f ⟨g.val * 64 + e.val, by omega⟩ * w e := by
  rw [sum_blocks (show 256 = 4 * 64 from rfl)]
  refine (Finset.sum_eq_single g (fun p _ hp => ?_) (fun h => absurd (Finset.mem_univ g) h)).trans ?_
  · refine Finset.sum_eq_zero fun e _ => ?_
    have hne : p.val ≠ g.val := fun h => hp (Fin.ext h)
    rw [hM, if_neg (by dsimp only; omega), mul_zero]
  · refine Finset.sum_congr rfl fun e _ => ?_
    rw [hM, if_pos (by dsimp only; omega)]
    exact congrArg (fun z => f ⟨g.val * 64 + e.val, by omega⟩ * w z) (Fin.ext (by dsimp only; omega))

/-- A sum of 32 terms, its first 16 and its last 16. -/
theorem sum_halves (f : Fin 32 → EReal) : ∑ p : Fin 32, f p = (∑ s : Fin 16, f ⟨s.val, by omega⟩) + ∑ s : Fin 16, f ⟨16 + s.val, by omega⟩ :=
  Fin.sum_univ_add (a := 16) (b := 16) f

end Cert.Comp
-- ==== Proof.Comp.Steps.lean ====
module

public import proofs.«01_k».proof.Proof.Gen.CompressIdeal.Value
public import proofs.«01_k».proof.Proof.Comp.Spec

@[expose] public section

set_option maxRecDepth 16384

noncomputable section

/-! The compression kernel: its sixteen steps over any rows and weights, and its result block as these steps. -/

namespace Cert.CompressIdeal.Proved

open Cert.CompressIdeal Cert.CompressIdeal.Gen Cert.Comp Idealize.ShloMosaic Idealize.ShloMosaic.TcCoe Idealize.SL.Sem
open Idealize.ShloMosaic.Pipeline (Dat)

variable (m : (ℓ : Loc nD τ sig) → Buf (Elt Ideal) ℓ)

/-- One step of a running product: a tile of 256 lanes, a row added to each of its rows, times one block of weights. -/
def step (a : FVec Ideal S128x256 .f32) (x y : FVec Ideal S128x128 .f32) (p : Vec Ideal S1x256 .f32) (w : Vec Ideal S1x256x256 .bf16) : FVec Ideal S128x256 .f32 :=
  addf a (matmul dot_S128x256_S256x256_S128x256_1_0_0_1_n_n none (truncf .bf16 (addf (k0_pay2 x y) (broadcastTo S128x256 p broadcasts_S1x256_S128x256)) bitsLt_bf16_f32)
    (shapeCast S256x256 w shapeCasts_S1x256x256_S256x256 : FVec Ideal S256x256 .bf16) (constant S128x256 .f32 0x00000000#32))

/-- The sixteen steps. -/
def steps (x y : Fin 16 → FVec Ideal S128x128 .f32) (p : Fin 16 → Vec Ideal S1x256 .f32) (w : Fin 16 → Vec Ideal S1x256x256 .bf16) : FVec Ideal S128x256 .f32 :=
  step (step (step (step (step (step (step (step (step (step (step (step (step (step (step (step (broadcast S128x256 (Scalar.ofBits .f32 0x00000000#32))
    (x 0) (y 0) (p 0) (w 0)) (x 1) (y 1) (p 1) (w 1)) (x 2) (y 2) (p 2) (w 2)) (x 3) (y 3) (p 3) (w 3))
    (x 4) (y 4) (p 4) (w 4)) (x 5) (y 5) (p 5) (w 5)) (x 6) (y 6) (p 6) (w 6)) (x 7) (y 7) (p 7) (w 7))
    (x 8) (y 8) (p 8) (w 8)) (x 9) (y 9) (p 9) (w 9)) (x 10) (y 10) (p 10) (w 10)) (x 11) (y 11) (p 11) (w 11))
    (x 12) (y 12) (p 12) (w 12)) (x 13) (y 13) (p 13) (w 13)) (x 14) (y 14) (p 14) (w 14)) (x 15) (y 15) (p 15) (w 15)

/-- The hidden layer of a block: the first halves' product, the second halves' one row on, and the gate. -/
def hid (a b : FVec Ideal S128x256 .f32) : FVec Ideal S128x256 .bf16 :=
  let h := addf a (dynamicRotate 0 127#32 none b rotates_S128x256_d0)
  truncf .bf16 (mulf h (mulf (broadcast S128x256 (Scalar.ofBits .f32 0x3F000000#32)) (addf (broadcast S128x256 (Scalar.ofBits .f32 0x3F800000#32))
    (tanh (mulf (broadcast S128x256 (Scalar.ofBits .f32 0x3F4C422A#32)) (addf h (mulf (broadcast S128x256 (Scalar.ofBits .f32 0x3D372713#32)) (mulf h (mulf h h)))))))) ) bitsLt_bf16_f32

theorem step_at (a : FVec Ideal S128x256 .f32) (x y : FVec Ideal S128x128 .f32) (p : Vec Ideal S1x256 .f32) (w : Vec Ideal S1x256x256 .bf16) (r : Fin 128) (k : Fin 256) :
    step a x y p w (ix2 r k) = a (ix2 r k) + ∑ j : Fin 256, ((k0_pay2 (F := Ideal) x y (ix2 r j) : EReal) + p (ix2 0 j)) * w (ix3 0 j k) := by
  pointwise [step]

theorem steps_at (x y : Fin 16 → FVec Ideal S128x128 .f32) (p : Fin 16 → Vec Ideal S1x256 .f32) (w : Fin 16 → Vec Ideal S1x256x256 .bf16) (r : Fin 128) (k : Fin 256) :
    steps x y p w (ix2 r k) = ∑ s : Fin 16, ∑ j : Fin 256, ((k0_pay2 (F := Ideal) (x s) (y s) (ix2 r j) : EReal) + p s (ix2 0 j)) * w s (ix3 0 j k) := by
  have hz : (broadcast S128x256 (Scalar.ofBits (F := Ideal) .f32 0x00000000#32) : FVec Ideal S128x256 .f32) (ix2 r k) = 0 := by pointwise
  have e : ∀ T : Fin 16 → EReal, ∑ s, T s = 0 + T 0 + T 1 + T 2 + T 3 + T 4 + T 5 + T 6 + T 7 + T 8 + T 9 + T 10 + T 11 + T 12 + T 13 + T 14 + T 15 := by
    intro T
    simp only [Fin.sum_univ_castSucc, Fin.sum_univ_zero]
    rfl
  unfold steps
  simp only [step_at]
  rw [hz, e]

theorem hid_at (a b : FVec Ideal S128x256 .f32) (r : Fin 128) (k : Fin 256) : hid a b (ix2 r k) = gl (a (ix2 r k) + b (ix2 ⟨(r.val + 1) % 128, by omega⟩ k)) := by
  have e : (⟨(r.val + 128 - 127) % 128, by omega⟩ : Fin 128) = ⟨(r.val + 1) % 128, by omega⟩ := Fin.ext (by dsimp only; omega)
  pointwise [hid]
  rw [e]
  rfl

/-- A strided load of a block reads every sixteenth row. -/
theorem strided (v : Memref sig .tc .vmem S1x2048x128 .f32) (hv : v.IsWhole) (X : S1x2048x128.Idx → EReal) (s : Fin 16) (r l : Fin 128) (h' h'') :
   (View.readAt (Elt Idealize.ShloMosaic.Ideal)
            ((v.view.slice (Rect.unit ![0, 0, 0] ![1, 2048, 128] inb_S1x2048x128_S1x2048x128_0_0_0)).reshape
              S2048x128 h'')
            { off := ![s.val, 0], size := ![128, 128], stride := ![16, 1], inb := h' }
            (hv.unread X)) (ix2 r l) = X (ix3 0 ⟨16 * r.val + s.val, by omega⟩ l) := by
  have e1 : (View.readAt (Elt Idealize.ShloMosaic.Ideal)
            ((v.view.slice (Rect.unit ![0, 0, 0] ![1, 2048, 128] inb_S1x2048x128_S1x2048x128_0_0_0)).reshape
              S2048x128 h'')
            { off := ![s.val, 0], size := ![128, 128], stride := ![16, 1], inb := h' }
            (hv.unread X)) (ix2 r l)
      = v.view.read (Elt Ideal) (hv.unread (Val := Elt Ideal) X) ((Rect.unit (s := S1x2048x128) ![0, 0, 0] ![1, 2048, 128] inb_S1x2048x128_S1x2048x128_0_0_0).emb
          (Shape.reshapeEquiv h'' (LoadRect.idx (s := S2048x128) { off := ![s.val, 0], size := ![128, 128], stride := ![16, 1], inb := h' } (ix2 r l)))) := rfl
  rw [e1, hv.read_unread]
  have e2 : LoadRect.idx (s := S2048x128) { off := ![s.val, 0], size := ![128, 128], stride := ![16, 1], inb := h' } (ix2 r l) = (ix2 ⟨16 * r.val + s.val, by omega⟩ l : S2048x128.Idx) := by
    funext a
    refine Fin.ext ?_
    fin_cases a
    · show s.val + 16 * r.val = 16 * r.val + s.val; omega
    · show 0 + 1 * l.val = l.val; omega
  rw [e2]
  have e3 : ∀ z : S1x2048x128.Idx, (Rect.unit (s := S1x2048x128) ![0, 0, 0] ![1, 2048, 128] inb_S1x2048x128_S1x2048x128_0_0_0).emb z = z := by
    intro z
    funext a
    refine Fin.ext ?_
    fin_cases a
    · show 0 + 1 * (z 0).val = (z 0).val; omega
    · show 0 + 1 * (z 1).val = (z 1).val; omega
    · show 0 + 1 * (z 2).val = (z 2).val; omega
  have e4 : ∀ z : S2048x128.Idx, X ((Rect.unit (s := S1x2048x128) ![0, 0, 0] ![1, 2048, 128] inb_S1x2048x128_S1x2048x128_0_0_0).emb (Shape.reshapeEquiv h'' z)) = (shapeCast S2048x128 (X : FVec Ideal S1x2048x128 .f32) h'' : FVec Ideal S2048x128 .f32) z :=
    fun z => congrArg X (e3 _)
  rw [e4]
  pointwise

theorem idx : ∀ t : Fin cfg0.N, win0_0.index t = ![t.val, 0, 0]
    ∧ win0_1.index t = ![t.val, 0, 1]
    ∧ win0_2.index t = ![0, 0]
    ∧ win0_3.index t = ![0, 0, 0]
    ∧ win0_4.index t = ![0, 0, 0]
    ∧ win0_5.index t = ![0, 0]
    ∧ win0_6.index t = ![t.val, 0, 0] :=
  (by decide +kernel : ∀ t : Fin grid0.N, win0_0.index t = ![t.val, 0, 0]
    ∧ win0_1.index t = ![t.val, 0, 1]
    ∧ win0_2.index t = ![0, 0]
    ∧ win0_3.index t = ![0, 0, 0]
    ∧ win0_4.index t = ![0, 0, 0]
    ∧ win0_5.index t = ![0, 0]
    ∧ win0_6.index t = ![t.val, 0, 0])

theorem inb16 (s : Fin 16) : ∀ a : Fin 2, (![128, 128] : Fin 2 → Nat) a = 0 ∨ (![s.val, 0] : Fin 2 → Nat) a + (![16, 1] : Fin 2 → Nat) a * ((![128, 128] : Fin 2 → Nat) a - 1) < S2048x128.size a := by
  intro a
  refine Or.inr ?_
  fin_cases a
  · show s.val + 16 * (128 - 1) < 2048; omega
  · show 0 + 1 * (128 - 1) < 128; omega

theorem inbP (o : Nat) (ho : o ≤ 16) (s : Fin 16) : ∀ a : Fin 2, (![o + s.val, 0] : Fin 2 → Nat) a + (![1, 256] : Fin 2 → Nat) a ≤ S32x256.size a := by
  intro a
  fin_cases a
  · show o + s.val + 1 ≤ 32; omega
  · show 0 + 256 ≤ 256; omega

theorem inbW (s : Fin 16) : ∀ a : Fin 3, (![s.val, 0, 0] : Fin 3 → Nat) a + (![1, 256, 256] : Fin 3 → Nat) a ≤ S16x256x256.size a := by
  intro a
  fin_cases a
  · show s.val + 1 ≤ 16; omega
  · show 0 + 256 ≤ 256; omega
  · show 0 + 256 ≤ 256; omega

theorem inbP0 (s : Fin 16) : ∀ a : Fin 2, (![s.val, 0] : Fin 2 → Nat) a + (![1, 256] : Fin 2 → Nat) a ≤ S32x256.size a := by
  have h := inbP 0 (by omega) s
  rwa [Nat.zero_add] at h

/-- The result block of a step of the grid. -/
theorem out_at (c : Dev nD) (t : Fin cfg0.N) :
    (dats (F := Ideal) m 0 c).after 6 t = k0_pay1 (hid
      (steps (fun s => View.readAt (Elt Idealize.ShloMosaic.Ideal)
            (((ms0_0 t).view.slice (Rect.unit ![0, 0, 0] ![1, 2048, 128] inb_S1x2048x128_S1x2048x128_0_0_0)).reshape
              S2048x128 (Shape.Squeezes.numel_eq squeezes_S1x2048x128_S2048x128))
            { off := ![s.val, 0], size := ![128, 128], stride := ![16, 1], inb := inb16 s } ((hs0_0 t).unread (iblk m c 0 t)))
          (fun s => View.readAt (Elt Idealize.ShloMosaic.Ideal)
            (((ms0_1 t).view.slice (Rect.unit ![0, 0, 0] ![1, 2048, 128] inb_S1x2048x128_S1x2048x128_0_0_0)).reshape
              S2048x128 (Shape.Squeezes.numel_eq squeezes_S1x2048x128_S2048x128))
            { off := ![s.val, 0], size := ![128, 128], stride := ![16, 1], inb := inb16 s } ((hs0_1 t).unread (iblk m c 1 t)))
          (fun s => View.ld (iblk m c 2 t) (Rect.unit ![s.val, 0] ![1, 256] (inbP0 s)))
          (fun s => View.ld (iblk m c 3 t) (Rect.unit ![s.val, 0, 0] ![1, 256, 256] (inbW s))))
      (steps (fun s => View.readAt (Elt Idealize.ShloMosaic.Ideal)
            (((ms0_0 t).view.slice (Rect.unit ![0, 0, 0] ![1, 2048, 128] inb_S1x2048x128_S1x2048x128_0_0_0)).reshape
              S2048x128 (Shape.Squeezes.numel_eq squeezes_S1x2048x128_S2048x128))
            { off := ![s.val, 0], size := ![128, 128], stride := ![16, 1], inb := inb16 s } ((hs0_0 t).unread (iblk m c 0 t)))
          (fun s => View.readAt (Elt Idealize.ShloMosaic.Ideal)
            (((ms0_1 t).view.slice (Rect.unit ![0, 0, 0] ![1, 2048, 128] inb_S1x2048x128_S1x2048x128_0_0_0)).reshape
              S2048x128 (Shape.Squeezes.numel_eq squeezes_S1x2048x128_S2048x128))
            { off := ![s.val, 0], size := ![128, 128], stride := ![16, 1], inb := inb16 s } ((hs0_1 t).unread (iblk m c 1 t)))
          (fun s => View.ld (iblk m c 2 t) (Rect.unit ![16 + s.val, 0] ![1, 256] (inbP 16 (by omega) s)))
          (fun s => View.ld (iblk m c 4 t) (Rect.unit ![s.val, 0, 0] ![1, 256, 256] (inbW s)))))
      (iblk m c 5 t) := by
  funext i
  obtain ⟨z, r, k, rfl⟩ : ∃ (z : Fin 1) (r : Fin 128) (k : Fin 256), i = ix3 z r k := ⟨i 0, i 1, i 2, eq_ix3 i⟩
  rw [after0_6]; unfold outsAt0; dsimp only; frame_out
  rfl

end Cert.CompressIdeal.Proved
-- ==== Proof.Comp.Host.lean ====
module

public import proofs.«01_k».proof.Proof.Gen.CompressIdeal.Value
public import proofs.«01_k».proof.Proof.Comp.Spec

@[expose] public section

set_option maxRecDepth 16384

noncomputable section

/-! The host's operations before the compression kernel: the rows, the positions, and the weights repeated along a diagonal. -/

namespace Cert.CompressIdeal.Proved

open Cert.CompressIdeal Cert.CompressIdeal.Gen Idealize.ShloMosaic Idealize.ShloMosaic.TcCoe Idealize.SL.Sem
open Idealize.ShloMosaic.Pipeline (Dat)

/-- Four arrays side by side along the last axis, and four stacked along the middle one. -/
abbrev side3 (a b c d : FVec Ideal S32x64x64 .f32) : FVec Ideal S32x64x256 .f32 :=
  concatenate S32x64x256 2 [⟨S32x64x64, a⟩, ⟨S32x64x64, b⟩, ⟨S32x64x64, c⟩, ⟨S32x64x64, d⟩] concatenates_S32x64x64_S32x64x64_S32x64x64_S32x64x64_S32x64x256_d2
abbrev pile3 (a b c d : FVec Ideal S32x64x256 .f32) : FVec Ideal S32x256x256 .f32 :=
  concatenate S32x256x256 1 [⟨S32x64x256, a⟩, ⟨S32x64x256, b⟩, ⟨S32x64x256, c⟩, ⟨S32x64x256, d⟩] concatenates_S32x64x256_S32x64x256_S32x64x256_S32x64x256_S32x256x256_d1
abbrev side2 (a b c d : FVec Ideal S64x64 .f32) : FVec Ideal S64x256 .f32 :=
  concatenate S64x256 1 [⟨S64x64, a⟩, ⟨S64x64, b⟩, ⟨S64x64, c⟩, ⟨S64x64, d⟩] concatenates_S64x64_S64x64_S64x64_S64x64_S64x256_d1
abbrev pile2 (a b c d : FVec Ideal S64x256 .f32) : FVec Ideal S256x256 .f32 :=
  concatenate S256x256 0 [⟨S64x256, a⟩, ⟨S64x256, b⟩, ⟨S64x256, c⟩, ⟨S64x256, d⟩] concatenates_S64x256_S64x256_S64x256_S64x256_S256x256_d0

theorem side3_at (a b c d : FVec Ideal S32x64x64 .f32) (p : Fin 32) (e : Fin 64) (x : Fin 256) : side3 a b c d (ix3 p e x)
    = (if x.val / 64 = 0 then a else if x.val / 64 = 1 then b else if x.val / 64 = 2 then c else d) (ix3 p e ⟨x.val % 64, by omega⟩) := by
  have hx : x.val / 64 = 0 ∨ x.val / 64 = 1 ∨ x.val / 64 = 2 ∨ x.val / 64 = 3 := by omega
  rcases hx with h | h | h | h
  · rw [if_pos h]
    pointwise
    split_ifs <;> first | omega | (refine congrArg _ (congrArg (ix3 p e) (Fin.ext ?_)); first | omega | (dsimp only; omega))
  · rw [if_neg (by omega), if_pos h]
    pointwise
    split_ifs <;> first | omega | (refine congrArg _ (congrArg (ix3 p e) (Fin.ext ?_)); first | omega | (dsimp only; omega))
  · rw [if_neg (by omega), if_neg (by omega), if_pos h]
    pointwise
    split_ifs <;> first | omega | (refine congrArg _ (congrArg (ix3 p e) (Fin.ext ?_)); first | omega | (dsimp only; omega))
  · rw [if_neg (by omega), if_neg (by omega), if_neg (by omega)]
    pointwise
    split_ifs <;> first | omega | (refine congrArg _ (congrArg (ix3 p e) (Fin.ext ?_)); first | omega | (dsimp only; omega))

theorem pile3_at (a b c d : FVec Ideal S32x64x256 .f32) (p : Fin 32) (j : Fin 256) (x : Fin 256) : pile3 a b c d (ix3 p j x)
    = (if j.val / 64 = 0 then a else if j.val / 64 = 1 then b else if j.val / 64 = 2 then c else d) (ix3 p ⟨j.val % 64, by omega⟩ x) := by
  have hx : j.val / 64 = 0 ∨ j.val / 64 = 1 ∨ j.val / 64 = 2 ∨ j.val / 64 = 3 := by omega
  rcases hx with h | h | h | h
  · rw [if_pos h]
    pointwise
    split_ifs <;> first | omega | (refine congrArg _ (congrArg (fun z => ix3 p z x) (Fin.ext ?_)); first | omega | (dsimp only; omega))
  · rw [if_neg (by omega), if_pos h]
    pointwise
    split_ifs <;> first | omega | (refine congrArg _ (congrArg (fun z => ix3 p z x) (Fin.ext ?_)); first | omega | (dsimp only; omega))
  · rw [if_neg (by omega), if_neg (by omega), if_pos h]
    pointwise
    split_ifs <;> first | omega | (refine congrArg _ (congrArg (fun z => ix3 p z x) (Fin.ext ?_)); first | omega | (dsimp only; omega))
  · rw [if_neg (by omega), if_neg (by omega), if_neg (by omega)]
    pointwise
    split_ifs <;> first | omega | (refine congrArg _ (congrArg (fun z => ix3 p z x) (Fin.ext ?_)); first | omega | (dsimp only; omega))

theorem side2_at (a b c d : FVec Ideal S64x64 .f32) (e : Fin 64) (x : Fin 256) : side2 a b c d (ix2 e x)
    = (if x.val / 64 = 0 then a else if x.val / 64 = 1 then b else if x.val / 64 = 2 then c else d) (ix2 e ⟨x.val % 64, by omega⟩) := by
  have hx : x.val / 64 = 0 ∨ x.val / 64 = 1 ∨ x.val / 64 = 2 ∨ x.val / 64 = 3 := by omega
  rcases hx with h | h | h | h
  · rw [if_pos h]
    pointwise
    split_ifs <;> first | omega | (refine congrArg _ (congrArg (ix2 e) (Fin.ext ?_)); first | omega | (dsimp only; omega))
  · rw [if_neg (by omega), if_pos h]
    pointwise
    split_ifs <;> first | omega | (refine congrArg _ (congrArg (ix2 e) (Fin.ext ?_)); first | omega | (dsimp only; omega))
  · rw [if_neg (by omega), if_neg (by omega), if_pos h]
    pointwise
    split_ifs <;> first | omega | (refine congrArg _ (congrArg (ix2 e) (Fin.ext ?_)); first | omega | (dsimp only; omega))
  · rw [if_neg (by omega), if_neg (by omega), if_neg (by omega)]
    pointwise
    split_ifs <;> first | omega | (refine congrArg _ (congrArg (ix2 e) (Fin.ext ?_)); first | omega | (dsimp only; omega))

theorem pile2_at (a b c d : FVec Ideal S64x256 .f32) (j : Fin 256) (x : Fin 256) : pile2 a b c d (ix2 j x)
    = (if j.val / 64 = 0 then a else if j.val / 64 = 1 then b else if j.val / 64 = 2 then c else d) (ix2 ⟨j.val % 64, by omega⟩ x) := by
  have hx : j.val / 64 = 0 ∨ j.val / 64 = 1 ∨ j.val / 64 = 2 ∨ j.val / 64 = 3 := by omega
  rcases hx with h | h | h | h
  · rw [if_pos h]
    pointwise
    split_ifs <;> first | omega | (refine congrArg _ (congrArg (fun z => ix2 z x) (Fin.ext ?_)); first | omega | (dsimp only; omega))
  · rw [if_neg (by omega), if_pos h]
    pointwise
    split_ifs <;> first | omega | (refine congrArg _ (congrArg (fun z => ix2 z x) (Fin.ext ?_)); first | omega | (dsimp only; omega))
  · rw [if_neg (by omega), if_neg (by omega), if_pos h]
    pointwise
    split_ifs <;> first | omega | (refine congrArg _ (congrArg (fun z => ix2 z x) (Fin.ext ?_)); first | omega | (dsimp only; omega))
  · rw [if_neg (by omega), if_neg (by omega), if_neg (by omega)]
    pointwise
    split_ifs <;> first | omega | (refine congrArg _ (congrArg (fun z => ix2 z x) (Fin.ext ?_)); first | omega | (dsimp only; omega))

theorem v4_cat (σ : Valuation τ sig (Elt Ideal)) (h h') : (StableHlo.nary ![main_v1, main_v3, main_v3, main_v3] main_v4 (fun u => side3 (u 0) (u 1) (u 2) (u 3)) h h' : HloOp τ sig (Elt Ideal)).result σ (Proc.devRef .tc main_v4)
    = side3 (σ (Proc.devRef .tc main_v1)) (σ (Proc.devRef .tc main_v3)) (σ (Proc.devRef .tc main_v3)) (σ (Proc.devRef .tc main_v3)) := StableHlo.nary_result ..

theorem v5_cat (σ : Valuation τ sig (Elt Ideal)) (h h') : (StableHlo.nary ![main_v3, main_v1, main_v3, main_v3] main_v5 (fun u => side3 (u 0) (u 1) (u 2) (u 3)) h h' : HloOp τ sig (Elt Ideal)).result σ (Proc.devRef .tc main_v5)
    = side3 (σ (Proc.devRef .tc main_v3)) (σ (Proc.devRef .tc main_v1)) (σ (Proc.devRef .tc main_v3)) (σ (Proc.devRef .tc main_v3)) := StableHlo.nary_result ..

theorem v6_cat (σ : Valuation τ sig (Elt Ideal)) (h h') : (StableHlo.nary ![main_v3, main_v3, main_v2, main_v3] main_v6 (fun u => side3 (u 0) (u 1) (u 2) (u 3)) h h' : HloOp τ sig (Elt Ideal)).result σ (Proc.devRef .tc main_v6)
    = side3 (σ (Proc.devRef .tc main_v3)) (σ (Proc.devRef .tc main_v3)) (σ (Proc.devRef .tc main_v2)) (σ (Proc.devRef .tc main_v3)) := StableHlo.nary_result ..

theorem v7_cat (σ : Valuation τ sig (Elt Ideal)) (h h') : (StableHlo.nary ![main_v3, main_v3, main_v3, main_v2] main_v7 (fun u => side3 (u 0) (u 1) (u 2) (u 3)) h h' : HloOp τ sig (Elt Ideal)).result σ (Proc.devRef .tc main_v7)
    = side3 (σ (Proc.devRef .tc main_v3)) (σ (Proc.devRef .tc main_v3)) (σ (Proc.devRef .tc main_v3)) (σ (Proc.devRef .tc main_v2)) := StableHlo.nary_result ..

theorem v8_cat (σ : Valuation τ sig (Elt Ideal)) (h h') : (StableHlo.nary ![main_v4, main_v5, main_v6, main_v7] main_v8 (fun u => pile3 (u 0) (u 1) (u 2) (u 3)) h h' : HloOp τ sig (Elt Ideal)).result σ (Proc.devRef .tc main_v8)
    = pile3 (σ (Proc.devRef .tc main_v4)) (σ (Proc.devRef .tc main_v5)) (σ (Proc.devRef .tc main_v6)) (σ (Proc.devRef .tc main_v7)) := StableHlo.nary_result ..

theorem v16_cat (σ : Valuation τ sig (Elt Ideal)) (h h') : (StableHlo.nary ![main_arg3, main_v15, main_v15, main_v15] main_v16 (fun u => side2 (u 0) (u 1) (u 2) (u 3)) h h' : HloOp τ sig (Elt Ideal)).result σ (Proc.devRef .tc main_v16)
    = side2 (σ (Proc.devRef .tc main_arg3)) (σ (Proc.devRef .tc main_v15)) (σ (Proc.devRef .tc main_v15)) (σ (Proc.devRef .tc main_v15)) := StableHlo.nary_result ..

theorem v17_cat (σ : Valuation τ sig (Elt Ideal)) (h h') : (StableHlo.nary ![main_v15, main_arg3, main_v15, main_v15] main_v17 (fun u => side2 (u 0) (u 1) (u 2) (u 3)) h h' : HloOp τ sig (Elt Ideal)).result σ (Proc.devRef .tc main_v17)
    = side2 (σ (Proc.devRef .tc main_v15)) (σ (Proc.devRef .tc main_arg3)) (σ (Proc.devRef .tc main_v15)) (σ (Proc.devRef .tc main_v15)) := StableHlo.nary_result ..

theorem v18_cat (σ : Valuation τ sig (Elt Ideal)) (h h') : (StableHlo.nary ![main_v15, main_v15, main_arg5, main_v15] main_v18 (fun u => side2 (u 0) (u 1) (u 2) (u 3)) h h' : HloOp τ sig (Elt Ideal)).result σ (Proc.devRef .tc main_v18)
    = side2 (σ (Proc.devRef .tc main_v15)) (σ (Proc.devRef .tc main_v15)) (σ (Proc.devRef .tc main_arg5)) (σ (Proc.devRef .tc main_v15)) := StableHlo.nary_result ..

theorem v19_cat (σ : Valuation τ sig (Elt Ideal)) (h h') : (StableHlo.nary ![main_v15, main_v15, main_v15, main_arg5] main_v19 (fun u => side2 (u 0) (u 1) (u 2) (u 3)) h h' : HloOp τ sig (Elt Ideal)).result σ (Proc.devRef .tc main_v19)
    = side2 (σ (Proc.devRef .tc main_v15)) (σ (Proc.devRef .tc main_v15)) (σ (Proc.devRef .tc main_v15)) (σ (Proc.devRef .tc main_arg5)) := StableHlo.nary_result ..

theorem v20_cat (σ : Valuation τ sig (Elt Ideal)) (h h') : (StableHlo.nary ![main_v16, main_v17, main_v18, main_v19] main_v20 (fun u => pile2 (u 0) (u 1) (u 2) (u 3)) h h' : HloOp τ sig (Elt Ideal)).result σ (Proc.devRef .tc main_v20)
    = pile2 (σ (Proc.devRef .tc main_v16)) (σ (Proc.devRef .tc main_v17)) (σ (Proc.devRef .tc main_v18)) (σ (Proc.devRef .tc main_v19)) := StableHlo.nary_result ..

abbrev zero3 : FVec Ideal S32x64x64 .f32 := broadcastInDim S32x64x64 ![] bcast_S_S32x64x64 (constant S_ .f32 0x00000000#32 : FVec Ideal S_ .f32)
abbrev zero2 : FVec Ideal S64x64 .f32 := broadcastInDim S64x64 ![] bcast_S_S64x64 (constant S_ .f32 0x00000000#32 : FVec Ideal S_ .f32)
abbrev cut3 (a : FVec Ideal S2048x64 .f32) : FVec Ideal S32x64x64 .f32 := shapeCast S32x64x64 a shapeCasts_S2048x64_S32x64x64

/-- The first weights as the kernel is given them: four blocks on the diagonal, keys twice and values twice. -/
abbrev big1 (a b : FVec Ideal S2048x64 .f32) : FVec Ideal S32x256x256 .f32 :=
  pile3 (side3 (cut3 a) zero3 zero3 zero3) (side3 zero3 (cut3 a) zero3 zero3) (side3 zero3 zero3 (cut3 b) zero3) (side3 zero3 zero3 zero3 (cut3 b))

/-- The second weights likewise. -/
abbrev big2 (a b : FVec Ideal S64x64 .f32) : FVec Ideal S256x256 .f32 :=
  pile2 (side2 a zero2 zero2 zero2) (side2 zero2 a zero2 zero2) (side2 zero2 zero2 b zero2) (side2 zero2 zero2 zero2 b)

theorem cut3_at (a : FVec Ideal S2048x64 .f32) (p : Fin 32) (e d : Fin 64) : cut3 a (ix3 p e d) = a (ix2 ⟨p.val * 64 + e.val, by omega⟩ d) := by
  pointwise

theorem zero3_at (i : S32x64x64.Idx) : zero3 i = 0 := by
  obtain ⟨p, e, d, rfl⟩ : ∃ (p : Fin 32) (e : Fin 64) (d : Fin 64), i = ix3 p e d := ⟨i 0, i 1, i 2, eq_ix3 i⟩
  pointwise

theorem zero2_at (i : S64x64.Idx) : zero2 i = 0 := by
  obtain ⟨e, d, rfl⟩ : ∃ (e : Fin 64) (d : Fin 64), i = ix2 e d := ⟨i 0, i 1, eq_ix2 i⟩
  pointwise

theorem big1_at (a b : FVec Ideal S2048x64 .f32) (p : Fin 32) (j x : Fin 256) : big1 a b (ix3 p j x)
    = if j.val / 64 = x.val / 64 then (if x.val < 128 then a else b) (ix2 ⟨p.val * 64 + j.val % 64, by omega⟩ ⟨x.val % 64, by omega⟩) else 0 := by
  have hj : j.val / 64 = 0 ∨ j.val / 64 = 1 ∨ j.val / 64 = 2 ∨ j.val / 64 = 3 := by omega
  rw [big1, pile3_at]
  rcases hj with h | h | h | h
  · rw [if_pos h, side3_at]
    split_ifs <;> first | omega | rfl | exact cut3_at _ _ _ _ | exact zero3_at _
  · rw [if_neg (by omega), if_pos h, side3_at]
    split_ifs <;> first | omega | rfl | exact cut3_at _ _ _ _ | exact zero3_at _
  · rw [if_neg (by omega), if_neg (by omega), if_pos h, side3_at]
    split_ifs <;> first | omega | rfl | exact cut3_at _ _ _ _ | exact zero3_at _
  · rw [if_neg (by omega), if_neg (by omega), if_neg (by omega), side3_at]
    split_ifs <;> first | omega | rfl | exact cut3_at _ _ _ _ | exact zero3_at _

theorem big2_at (a b : FVec Ideal S64x64 .f32) (j x : Fin 256) : big2 a b (ix2 j x)
    = if j.val / 64 = x.val / 64 then (if x.val < 128 then a else b) (ix2 ⟨j.val % 64, by omega⟩ ⟨x.val % 64, by omega⟩) else 0 := by
  have hj : j.val / 64 = 0 ∨ j.val / 64 = 1 ∨ j.val / 64 = 2 ∨ j.val / 64 = 3 := by omega
  rw [big2, pile2_at]
  rcases hj with h | h | h | h
  · rw [if_pos h, side2_at]
    split_ifs <;> first | omega | rfl | exact zero2_at _
  · rw [if_neg (by omega), if_pos h, side2_at]
    split_ifs <;> first | omega | rfl | exact zero2_at _
  · rw [if_neg (by omega), if_neg (by omega), if_pos h, side2_at]
    split_ifs <;> first | omega | rfl | exact zero2_at _
  · rw [if_neg (by omega), if_neg (by omega), if_neg (by omega), side2_at]
    split_ifs <;> first | omega | rfl | exact zero2_at _

theorem v21_read (σ : Valuation τ sig (Elt Ideal)) : StableHlo.after (hostOps0 (F := Ideal)) σ (Proc.devRef .tc main_v21)
    = (truncf .bf16 (big2 (σ (Proc.devRef .tc main_arg3)) (σ (Proc.devRef .tc main_arg5))) bitsLt_bf16_f32 : FVec Ideal S256x256 .bf16) := by
  simp only [hostOps0, StableHlo.after_cons, StableHlo.after_nil]
  repeat (first
    | (simp only [↓ StableHlo.readResult, -eq_self])
    | rw [v20_cat] | rw [v19_cat] | rw [v18_cat] | rw [v17_cat] | rw [v16_cat])
  try rfl

theorem v13_read (σ : Valuation τ sig (Elt Ideal)) : StableHlo.after (hostOps0 (F := Ideal)) σ (Proc.devRef .tc main_v13)
    = (extractStridedSlice S16x256x256 ![0, 0, 0] (truncf .bf16 (big1 (σ (Proc.devRef .tc main_arg2)) (σ (Proc.devRef .tc main_arg4))) bitsLt_bf16_f32 : FVec Ideal S32x256x256 .bf16) slices_S32x256x256_S16x256x256_0_0_0 : FVec Ideal S16x256x256 .bf16) := by
  simp only [hostOps0, StableHlo.after_cons, StableHlo.after_nil]
  repeat (first
    | (simp only [↓ StableHlo.readResult, -eq_self])
    | rw [v8_cat] | rw [v7_cat] | rw [v6_cat] | rw [v5_cat] | rw [v4_cat])
  try rfl

theorem v14_read (σ : Valuation τ sig (Elt Ideal)) : StableHlo.after (hostOps0 (F := Ideal)) σ (Proc.devRef .tc main_v14)
    = (extractStridedSlice S16x256x256 ![16, 0, 0] (truncf .bf16 (big1 (σ (Proc.devRef .tc main_arg2)) (σ (Proc.devRef .tc main_arg4))) bitsLt_bf16_f32 : FVec Ideal S32x256x256 .bf16) slices_S32x256x256_S16x256x256_16_0_0 : FVec Ideal S16x256x256 .bf16) := by
  simp only [hostOps0, StableHlo.after_cons, StableHlo.after_nil]
  repeat (first
    | (simp only [↓ StableHlo.readResult, -eq_self])
    | rw [v8_cat] | rw [v7_cat] | rw [v6_cat] | rw [v5_cat] | rw [v4_cat])
  try rfl

theorem v12_read (σ : Valuation τ sig (Elt Ideal)) (p : Fin 32) (j : Fin 256) : (StableHlo.after (hostOps0 (F := Ideal)) σ (Proc.devRef .tc main_v12) : FVec Ideal S32x256 .f32) (ix2 p j)
    = (σ (Proc.devRef .tc main_arg1) : FVec Ideal S32x64 .f32) (ix2 p ⟨j.val % 64, by omega⟩) := by
  simp only [hostOps0]
  after_results
  pointwise

theorem v0_read (σ : Valuation τ sig (Elt Ideal)) (b : Fin 16) (n : Fin 2048) (l : Fin 512) : (StableHlo.after (hostOps0 (F := Ideal)) σ (Proc.devRef .tc main_v0) : FVec Ideal S16x2048x512 .f32) (ix3 b n l)
    = (σ (Proc.devRef .tc main_arg0) : FVec Ideal S16x2048x4x2x64 .f32) (ix5 b n ⟨l.val / 128, by omega⟩ ⟨l.val / 64 % 2, by omega⟩ ⟨l.val % 64, by omega⟩) := by
  simp only [hostOps0]
  after_results
  pointwise

end Cert.CompressIdeal.Proved
-- ==== Proof.Comp.Ref.lean ====
module

public import proofs.«01_k».proof.Proof.Gen.CompressRefIdeal.Read
public import proofs.«01_k».proof.Proof.Comp.Spec
public import Idealize.ShloMosaic.Lib.WordCmp

@[expose] public section

set_option maxRecDepth 16384

noncomputable section

/-! Compression: what the reference computes, entry by entry. -/

namespace Cert.CompressRefIdeal

open Cert.CompressRefIdeal Cert.CompressRefIdeal.Gen Cert.CompressRefIdeal.Read Cert.Comp Idealize.ShloMosaic Idealize.ShloMosaic.TcCoe Idealize.SL.Sem

variable (kv : FVec Ideal S16x2048x4x2x64 .f32) (pe : FVec Ideal S32x64 .f32)

/-- One entry of the hidden layer before its gate: a window of 32 tokens from token `16 i`, positions added, against the first weights. -/
def pre1 (w : FVec Ideal S2048x64 .f32) (b : Fin 16) (z : Fin 4) (h : Fin 2) (i : Fin 127) (d : Fin 64) : EReal :=
  ∑ p : Fin 32, ∑ e : Fin 64, (kv (ix5 b ⟨16 * i.val + p.val, by omega⟩ z h e) + pe (ix2 p e)) * w (ix2 ⟨p.val * 64 + e.val, by omega⟩ d)

/-- One compressed entry. -/
def cmp (w : FVec Ideal S2048x64 .f32) (u : FVec Ideal S64x64 .f32) (b : Fin 16) (z : Fin 4) (h : Fin 2) (i : Fin 127) (d : Fin 64) : EReal :=
  ∑ x : Fin 64, gl (pre1 kv pe w b z h i x) * u (ix2 x d)

/-- Row `r`, column `k` of the result: keys in the first 128 columns, values in the last, and a zero row at the end. -/
def res (wk wv : FVec Ideal S2048x64 .f32) (uk uv : FVec Ideal S64x64 .f32) (b : Fin 16) (r : Fin 128) (k : Fin 256) : EReal :=
  if h : r.val < 127 then cmp kv pe (if k.val < 128 then wk else wv) (if k.val < 128 then uk else uv) b ⟨k.val / 128, by omega⟩ ⟨k.val / 64 % 2, by omega⟩ ⟨r.val, h⟩ ⟨k.val % 64, by omega⟩ else 0

theorem int_of {a : Nat} (ha : a < 4096) : (BitVec.ofNat 32 a).toInt = (a : Int) := WordCmp.toInt_ofNat_of_lt (by omega)

theorem wrap_of {a : Nat} (ha : a < 4096) (z : BitVec 32) : Scalar.select (IntOp.cmpi .slt (BitVec.ofNat 32 a) 0#32) z (BitVec.ofNat 32 a) = BitVec.ofNat 32 a := by
  have h : ¬(IntOp.cmpi .slt (BitVec.ofNat 32 a) 0#32 = 1#1) := by
    show ¬(BitVec.ofBool (decide ((BitVec.ofNat 32 a).toInt < (BitVec.ofNat 32 0).toInt)) = 1#1)
    rw [int_of ha, int_of (by omega), decide_eq_false (by omega)]
    decide
  exact if_neg h

theorem place_of (s p : Nat) : IntOp.addi (IntOp.muli (BitVec.ofNat 32 s) 16#32) (BitVec.ofNat 32 p) = BitVec.ofNat 32 (16 * s + p) := by
  show BitVec.ofNat 32 s * BitVec.ofNat 32 16 + BitVec.ofNat 32 p = _
  rw [BitVec.ofNat_add, Nat.mul_comm 16 s, BitVec.ofNat_mul]

theorem gather_at (X : FVec Ideal S16x2048x2x64 .f32) (I : IVec S127x32x1 32) (b : Fin 16) (i : Fin 127) (p : Fin 32) (h : Fin 2) (e : Fin 64)
    (hI : I (ix3 i p 0) = BitVec.ofNat 32 (16 * i.val + p.val)) :
    Host.gather gather_S16x2048x2x64_S127x32x1_S16x127x32x2x64_034_1_n_n_1_2_161264 X I (ix5 b i p h e) = X (ix4 b ⟨16 * i.val + p.val, by omega⟩ h e) := by
  have q : gather_S16x2048x2x64_S127x32x1_S16x127x32x2x64_034_1_n_n_1_2_161264.siIdx (ix5 b i p h e) ⟨0, Nat.zero_lt_one⟩ = ix3 i p 0 := by
    funext a
    fin_cases a <;> rfl
  refine congrArg X (funext fun a => Fin.ext ?_)
  fin_cases a
  · exact Nat.zero_add _
  · show min (I (gather_S16x2048x2x64_S127x32x1_S16x127x32x2x64_034_1_n_n_1_2_161264.siIdx (ix5 b i p h e) ⟨0, Nat.zero_lt_one⟩)).toInt.toNat 2047 = 16 * i.val + p.val
    rw [q, hI, int_of (by omega), Int.toNat_natCast]; omega
  · exact Nat.zero_add _
  · exact Nat.zero_add _

theorem v16_at (i : Fin 127) (p : Fin 32) : val_main_v16 (F := Ideal) (ix3 i p 0) = BitVec.ofNat 32 (16 * i.val + p.val) := by
  pointwise [val_main_v16, val_main_v15, val_main_v14, val_main_v13, val_main_v12, val_main_v11, val_main_v8, val_main_v7, val_main_v6, val_main_v5,
    val_main_v4, val_main_v3, val_main_v2, val_main_v1, val_main_v0, val_main_c, val_main_c_0, val_main_c_1]
  rw [place_of]
  exact wrap_of (by omega) _

theorem v46_at (i : Fin 127) (p : Fin 32) : val_main_v46 (F := Ideal) (ix3 i p 0) = BitVec.ofNat 32 (16 * i.val + p.val) := v16_at i p

theorem v17_at (b : Fin 16) (i : Fin 127) (p : Fin 32) (h : Fin 2) (e : Fin 64) : val_main_v17 (F := Ideal) kv (ix5 b i p h e) = kv (ix5 b ⟨16 * i.val + p.val, by omega⟩ 0 h e) := by
  unfold val_main_v17
  rw [gather_at _ _ b i p h e (v16_at i p)]
  pointwise [val_main_v10, val_main_v9]

theorem v47_at (b : Fin 16) (i : Fin 127) (p : Fin 32) (h : Fin 2) (e : Fin 64) : val_main_v47 (F := Ideal) kv (ix5 b i p h e) = kv (ix5 b ⟨16 * i.val + p.val, by omega⟩ 1 h e) := by
  unfold val_main_v47
  rw [gather_at _ _ b i p h e (v46_at i p)]
  pointwise [val_main_v40, val_main_v39]

theorem v24_at (w : FVec Ideal S2048x64 .f32) (b : Fin 16) (i : Fin 127) (h : Fin 2) (d : Fin 64) : val_main_v24 (F := Ideal) kv pe w (ix4 b i h d) = pre1 kv pe w b 0 h i d := by
  pointwise [val_main_v24, val_main_v23, val_main_v22, val_main_v21, val_main_v20, val_main_v19, val_main_v18, v17_at]
  rw [sum_blocks (show 2048 = 32 * 64 from rfl)]
  unfold pre1
  refine Finset.sum_congr rfl fun p _ => Finset.sum_congr rfl fun e _ => ?_
  have h1 : (p.val * 64 + e.val) / 64 = p.val := by omega
  have h2 : (p.val * 64 + e.val) % 64 = e.val := by omega
  simp only [h1, h2]

theorem v54_at (w : FVec Ideal S2048x64 .f32) (b : Fin 16) (i : Fin 127) (h : Fin 2) (d : Fin 64) : val_main_v54 (F := Ideal) kv pe w (ix4 b i h d) = pre1 kv pe w b 1 h i d := by
  pointwise [val_main_v54, val_main_v53, val_main_v52, val_main_v51, val_main_v50, val_main_v49, val_main_v48, v47_at]
  rw [sum_blocks (show 2048 = 32 * 64 from rfl)]
  unfold pre1
  refine Finset.sum_congr rfl fun p _ => Finset.sum_congr rfl fun e _ => ?_
  have h1 : (p.val * 64 + e.val) / 64 = p.val := by omega
  have h2 : (p.val * 64 + e.val) % 64 = e.val := by omega
  simp only [h1, h2]

theorem v37_at (w : FVec Ideal S2048x64 .f32) (b : Fin 16) (i : Fin 127) (h : Fin 2) (d : Fin 64) : val_main_v37 (F := Ideal) kv pe w (ix4 b i h d) = gl (pre1 kv pe w b 0 h i d) := by
  pointwise [val_main_v37, val_main_v36, val_main_v35, val_main_v34, val_main_v33, val_main_v32, val_main_v31, val_main_v30, val_main_v29, val_main_v28, val_main_v27, val_main_v26, val_main_v25,
    val_main_cst, val_main_cst_2, val_main_cst_3, val_main_cst_4, v24_at]
  rw [mul_comm (pre1 kv pe w b 0 h i d * pre1 kv pe w b 0 h i d)]
  rfl

theorem v67_at (w : FVec Ideal S2048x64 .f32) (b : Fin 16) (i : Fin 127) (h : Fin 2) (d : Fin 64) : val_main_v67 (F := Ideal) kv pe w (ix4 b i h d) = gl (pre1 kv pe w b 1 h i d) := by
  pointwise [val_main_v67, val_main_v66, val_main_v65, val_main_v64, val_main_v63, val_main_v62, val_main_v61, val_main_v60, val_main_v59, val_main_v58, val_main_v57, val_main_v56, val_main_v55,
    val_main_cst_7, val_main_cst_8, val_main_cst_9, val_main_cst_10, v54_at]
  rw [mul_comm (pre1 kv pe w b 1 h i d * pre1 kv pe w b 1 h i d)]
  rfl

theorem v38_at (w : FVec Ideal S2048x64 .f32) (u : FVec Ideal S64x64 .f32) (b : Fin 16) (i : Fin 127) (h : Fin 2) (d : Fin 64) :
    val_main_v38 (F := Ideal) kv pe w u (ix4 b i h d) = cmp kv pe w u b 0 h i d := by
  pointwise [val_main_v38, v37_at]
  rfl

theorem v68_at (w : FVec Ideal S2048x64 .f32) (u : FVec Ideal S64x64 .f32) (b : Fin 16) (i : Fin 127) (h : Fin 2) (d : Fin 64) :
    val_main_v68 (F := Ideal) kv pe w u (ix4 b i h d) = cmp kv pe w u b 1 h i d := by
  pointwise [val_main_v68, v67_at]
  rfl

theorem v71_at (wk wv : FVec Ideal S2048x64 .f32) (uk uv : FVec Ideal S64x64 .f32) (b : Fin 16) (i : Fin 127) (k : Fin 256) :
    val_main_v71 (F := Ideal) kv pe wk uk wv uv (ix3 b i k)
      = cmp kv pe (if k.val < 128 then wk else wv) (if k.val < 128 then uk else uv) b ⟨k.val / 128, by omega⟩ ⟨k.val / 64 % 2, by omega⟩ i ⟨k.val % 64, by omega⟩ := by
  pointwise [val_main_v71, val_main_v70, val_main_v69, v38_at, v68_at]
  by_cases hk : k.val < 128
  · have h1 : (⟨k.val / 128, by omega⟩ : Fin 4) = 0 := Fin.ext (by show k.val / 128 = 0; omega)
    have h2 : k.val / 64 % 2 = k.val / 64 := by omega
    rw [dif_pos hk, if_pos hk, if_pos hk, h1]
    simp only [h2]
  · have h1 : (⟨k.val / 128, by omega⟩ : Fin 4) = 1 := Fin.ext (by show k.val / 128 = 1; omega)
    have h2 : k.val / 64 % 2 = (k.val - 128) / 64 := by omega
    have h3 : k.val % 64 = (k.val - 128) % 64 := by omega
    rw [dif_neg hk, if_neg hk, if_neg hk, h1]
    simp only [h2, h3]

theorem v72_at (wk wv : FVec Ideal S2048x64 .f32) (uk uv : FVec Ideal S64x64 .f32) (b : Fin 16) (r : Fin 128) (k : Fin 256) :
    val_main_v72 (F := Ideal) kv pe wk uk wv uv (ix3 b r k) = res kv pe wk wv uk uv b r k := by
  have hz : (FloatOps.sitofp (F := Ideal) FTy.f32 (0#32 : BitVec 32) : EReal) = 0 := by
    show ((((0#32 : BitVec 32).toInt : ℝ)) : EReal) = 0
    simp
  pointwise [val_main_v72, val_main_call0_v0, val_main_c_11, v71_at, hz]
  rfl

end Cert.CompressRefIdeal
-- ==== Proof.Comp.Value.lean ====
module

public import proofs.«01_k».proof.Proof.Comp.Steps
public import proofs.«01_k».proof.Proof.Comp.Host
public import proofs.«01_k».proof.Proof.Comp.Ref

@[expose] public section

set_option maxRecDepth 16384

noncomputable section

/-! The compression kernel: its blocks, its result block entry by entry, and its result array. -/

namespace Cert.CompressIdeal.Proved

open Cert.CompressIdeal Cert.CompressIdeal.Gen Cert.Comp Idealize.ShloMosaic Idealize.ShloMosaic.TcCoe Idealize.SL.Sem
open Idealize.ShloMosaic.Pipeline (Dat)
open Cert.CompressRefIdeal (pre1 res)

variable (m : (ℓ : Loc nD τ sig) → Buf (Elt Ideal) ℓ)

/-- The batch row of a step of the grid. -/
def bat (t : Fin cfg0.N) : Fin 16 := ⟨t.val, t.isLt⟩

theorem emb0 (t : Fin cfg0.N) (n : Fin 2048) (l : Fin 128) : ((cfg0.win 0).blk t).view.emb (ix3 0 n l) = (ix3 (bat t) n ⟨l.val, by omega⟩ : S16x2048x512.Idx) := by
  blk_ext [idx t]
  rfl
theorem emb1 (t : Fin cfg0.N) (n : Fin 2048) (l : Fin 128) : ((cfg0.win 1).blk t).view.emb (ix3 0 n l) = (ix3 (bat t) n ⟨128 + l.val, by omega⟩ : S16x2048x512.Idx) := by
  blk_ext [idx t]
  rfl
theorem emb2 (t : Fin cfg0.N) (p : Fin 32) (j : Fin 256) : ((cfg0.win 2).blk t).view.emb (ix2 p j) = (ix2 p j : S32x256.Idx) := by
  blk_ext [idx t]
theorem emb3 (t : Fin cfg0.N) (s : Fin 16) (j k : Fin 256) : ((cfg0.win 3).blk t).view.emb (ix3 s j k) = (ix3 s j k : S16x256x256.Idx) := by
  blk_ext [idx t]
theorem emb4 (t : Fin cfg0.N) (s : Fin 16) (j k : Fin 256) : ((cfg0.win 4).blk t).view.emb (ix3 s j k) = (ix3 s j k : S16x256x256.Idx) := by
  blk_ext [idx t]
theorem emb5 (t : Fin cfg0.N) (j k : Fin 256) : ((cfg0.win 5).blk t).view.emb (ix2 j k) = (ix2 j k : S256x256.Idx) := by
  blk_ext [idx t]
theorem emb6 (t : Fin cfg0.N) (r : Fin 128) (k : Fin 256) : ((cfg0.win 6).blk t).view.emb (ix3 0 r k) = (ix3 (bat t) r k : S16x128x256.Idx) := by
  blk_ext [idx t]
  rfl

theorem opened (c : Dev nD) (b : Ref sig .tc) : V m c b = StableHlo.after hostOps0 (fun b => m (c, b)) b := by
  unfold V
  simp only [List.flatten_cons, List.flatten_nil, List.append_nil]

theorem blk0 (c : Dev nD) (t : Fin cfg0.N) (n : Fin 2048) (l : Fin 128) : iblk m c 0 t (ix3 0 n l)
    = m ((c : Thread nD τ).loc main_arg0) (ix5 (bat t) n ⟨l.val / 128, by omega⟩ ⟨l.val / 64 % 2, by omega⟩ ⟨l.val % 64, by omega⟩) := by
  have hV : iblk m c 0 t (ix3 0 n l) = V m c main_v0 (((cfg0.win 0).blk t).view.emb (ix3 0 n l)) := rfl
  rw [hV, emb0, opened]; exact v0_read _ _ _ _

theorem blk1 (c : Dev nD) (t : Fin cfg0.N) (n : Fin 2048) (l : Fin 128) : iblk m c 1 t (ix3 0 n l)
    = m ((c : Thread nD τ).loc main_arg0) (ix5 (bat t) n ⟨(128 + l.val) / 128, by omega⟩ ⟨(128 + l.val) / 64 % 2, by omega⟩ ⟨(128 + l.val) % 64, by omega⟩) := by
  have hV : iblk m c 1 t (ix3 0 n l) = V m c main_v0 (((cfg0.win 1).blk t).view.emb (ix3 0 n l)) := rfl
  rw [hV, emb1, opened]; exact v0_read _ _ _ _

theorem blk2 (c : Dev nD) (t : Fin cfg0.N) (p : Fin 32) (j : Fin 256) : iblk m c 2 t (ix2 p j)
    = m ((c : Thread nD τ).loc main_arg1) (ix2 p ⟨j.val % 64, by omega⟩) := by
  have hV : iblk m c 2 t (ix2 p j) = V m c main_v12 (((cfg0.win 2).blk t).view.emb (ix2 p j)) := rfl
  rw [hV, emb2, opened]; exact v12_read _ _ _

theorem cut_lo (a : FVec Ideal S32x256x256 .f32) (s : Fin 16) (j k : Fin 256) :
    (extractStridedSlice S16x256x256 ![0, 0, 0] (truncf .bf16 a bitsLt_bf16_f32 : FVec Ideal S32x256x256 .bf16) slices_S32x256x256_S16x256x256_0_0_0 : FVec Ideal S16x256x256 .bf16) (ix3 s j k)
      = a (ix3 ⟨s.val, by omega⟩ j k) := by pointwise

theorem cut_hi (a : FVec Ideal S32x256x256 .f32) (s : Fin 16) (j k : Fin 256) :
    (extractStridedSlice S16x256x256 ![16, 0, 0] (truncf .bf16 a bitsLt_bf16_f32 : FVec Ideal S32x256x256 .bf16) slices_S32x256x256_S16x256x256_16_0_0 : FVec Ideal S16x256x256 .bf16) (ix3 s j k)
      = a (ix3 ⟨16 + s.val, by omega⟩ j k) := by pointwise

theorem cut_two (a : FVec Ideal S256x256 .f32) (j k : Fin 256) : (truncf .bf16 a bitsLt_bf16_f32 : FVec Ideal S256x256 .bf16) (ix2 j k) = a (ix2 j k) := by pointwise

theorem blk3 (c : Dev nD) (t : Fin cfg0.N) (s : Fin 16) (j k : Fin 256) : iblk m c 3 t (ix3 s j k)
    = big1 (m ((c : Thread nD τ).loc main_arg2)) (m ((c : Thread nD τ).loc main_arg4)) (ix3 ⟨s.val, by omega⟩ j k) := by
  have hV : iblk m c 3 t (ix3 s j k) = V m c main_v13 (((cfg0.win 3).blk t).view.emb (ix3 s j k)) := rfl
  rw [hV, emb3, opened]; exact (congrFun (v13_read _) _).trans (cut_lo _ _ _ _)

theorem blk4 (c : Dev nD) (t : Fin cfg0.N) (s : Fin 16) (j k : Fin 256) : iblk m c 4 t (ix3 s j k)
    = big1 (m ((c : Thread nD τ).loc main_arg2)) (m ((c : Thread nD τ).loc main_arg4)) (ix3 ⟨16 + s.val, by omega⟩ j k) := by
  have hV : iblk m c 4 t (ix3 s j k) = V m c main_v14 (((cfg0.win 4).blk t).view.emb (ix3 s j k)) := rfl
  rw [hV, emb4, opened]; exact (congrFun (v14_read _) _).trans (cut_hi _ _ _ _)

theorem blk5 (c : Dev nD) (t : Fin cfg0.N) (j k : Fin 256) : iblk m c 5 t (ix2 j k)
    = big2 (m ((c : Thread nD τ).loc main_arg3)) (m ((c : Thread nD τ).loc main_arg5)) (ix2 j k) := by
  have hV : iblk m c 5 t (ix2 j k) = V m c main_v21 (((cfg0.win 5).blk t).view.emb (ix2 j k)) := rfl
  rw [hV, emb5, opened]; exact (congrFun (v21_read _) _).trans (cut_two _ _ _)

theorem ld_row (X : Vec Ideal S32x256 .f32) (o : Nat) (ho : o < 32) (h) (j : Fin 256) : View.ld X (Rect.unit (s := S32x256) ![o, 0] ![1, 256] h) (ix2 0 j) = X (ix2 ⟨o, ho⟩ j) := by
  refine congrArg X (funext fun a => Fin.ext ?_)
  fin_cases a
  · show o + 1 * 0 = o; omega
  · show 0 + 1 * j.val = j.val; omega

theorem ld_mat (X : Vec Ideal S16x256x256 .bf16) (s : Fin 16) (h) (j k : Fin 256) : View.ld X (Rect.unit (s := S16x256x256) ![s.val, 0, 0] ![1, 256, 256] h) (ix3 0 j k) = X (ix3 s j k) := by
  refine congrArg X (funext fun a => Fin.ext ?_)
  fin_cases a
  · show s.val + 1 * 0 = s.val; omega
  · show 0 + 1 * j.val = j.val; omega
  · show 0 + 1 * k.val = k.val; omega

theorem pay2_at (x y : FVec Ideal S128x128 .f32) (r : Fin 128) (k : Fin 256) :
    (k0_pay2 (F := Ideal) x y (ix2 r k) : EReal) = if h : k.val < 128 then x (ix2 r ⟨k.val, h⟩) else y (ix2 r ⟨k.val - 128, by omega⟩) := by
  pointwise [k0_pay2]

theorem pay1_at (x : FVec Ideal S128x256 .bf16) (w : FVec Ideal S256x256 .bf16) (r : Fin 128) (k : Fin 256) :
    (k0_pay1 (F := Ideal) x w (ix3 0 r k) : EReal) = Scalar.select (IntOp.cmpi .slt (BitVec.ofNat 32 r.val) 127#32) (∑ j : Fin 256, (x (ix2 r j) * w (ix2 j k) : EReal)) 0 := by
  pointwise [k0_pay1]

/-- One entry of the input as the kernel's rows lay it out. -/
def tok (kv : FVec Ideal S16x2048x4x2x64 .f32) (b : Fin 16) (n : Fin 2048) (j : Fin 256) : EReal :=
  kv (ix5 b n ⟨j.val / 128, by omega⟩ ⟨j.val / 64 % 2, by omega⟩ ⟨j.val % 64, by omega⟩)

/-- The sixteen steps over rows laid out so, against weights repeated along a diagonal. -/
theorem half_at (kv : FVec Ideal S16x2048x4x2x64 .f32) (pe : FVec Ideal S32x64 .f32) (wk wv : FVec Ideal S2048x64 .f32) (b : Fin 16) (o : Nat) (ho : o ≤ 16)
    (x y : Fin 16 → FVec Ideal S128x128 .f32) (p : Fin 16 → Vec Ideal S1x256 .f32) (w : Fin 16 → Vec Ideal S1x256x256 .bf16)
    (hx : ∀ s r l, x s (ix2 r l) = tok kv b ⟨16 * r.val + s.val, by omega⟩ ⟨l.val, by omega⟩)
    (hy : ∀ s r l, y s (ix2 r l) = tok kv b ⟨16 * r.val + s.val, by omega⟩ ⟨128 + l.val, by omega⟩)
    (hp : ∀ s j, p s (ix2 0 j) = pe (ix2 ⟨o + s.val, by omega⟩ ⟨j.val % 64, by omega⟩))
    (hw : ∀ s j k, w s (ix3 0 j k) = big1 wk wv (ix3 ⟨o + s.val, by omega⟩ j k)) (r : Fin 128) (k : Fin 256) :
    steps x y p w (ix2 r k) = ∑ s : Fin 16, ∑ e : Fin 64,
      (kv (ix5 b ⟨16 * r.val + s.val, by omega⟩ ⟨k.val / 128, by omega⟩ ⟨k.val / 64 % 2, by omega⟩ e) + pe (ix2 ⟨o + s.val, by omega⟩ e))
        * (if k.val < 128 then wk else wv) (ix2 ⟨(o + s.val) * 64 + e.val, by omega⟩ ⟨k.val % 64, by omega⟩) := by
  rw [steps_at]
  refine Finset.sum_congr rfl fun s _ => ?_
  have hf : ∀ j : Fin 256, (k0_pay2 (F := Ideal) (x s) (y s) (ix2 r j) : EReal) = tok kv b ⟨16 * r.val + s.val, by omega⟩ j := by
    intro j
    rw [pay2_at]
    by_cases h : j.val < 128
    · rw [dif_pos h, hx]
    · rw [dif_neg h, hy]
      exact congrArg (tok kv b _) (Fin.ext (by dsimp only; omega))
  simp only [hf, hp, hw]
  refine (diag (fun j => tok kv b ⟨16 * r.val + s.val, by omega⟩ j + pe (ix2 ⟨o + s.val, by omega⟩ ⟨j.val % 64, by omega⟩)) (fun j => big1 wk wv (ix3 ⟨o + s.val, by omega⟩ j k)) ⟨k.val / 64, by omega⟩
    (fun e => (if k.val < 128 then wk else wv) (ix2 ⟨(o + s.val) * 64 + e.val, by omega⟩ ⟨k.val % 64, by omega⟩)) (fun j => big1_at wk wv ⟨o + s.val, by omega⟩ j k)).trans ?_
  refine Finset.sum_congr rfl fun e _ => ?_
  have h1 : (k.val / 64 * 64 + e.val) / 128 = k.val / 128 := by omega
  have h2 : (k.val / 64 * 64 + e.val) / 64 % 2 = k.val / 64 % 2 := by omega
  have h3 : (k.val / 64 * 64 + e.val) % 64 = e.val := by omega
  simp only [tok, h1, h2, h3]

/-- A row of the hidden layer. -/
theorem hid_pre (kv : FVec Ideal S16x2048x4x2x64 .f32) (pe : FVec Ideal S32x64 .f32) (wk wv : FVec Ideal S2048x64 .f32) (b : Fin 16) (A B : FVec Ideal S128x256 .f32)
    (hA : ∀ r k, A (ix2 r k) = ∑ s : Fin 16, ∑ e : Fin 64,
      (kv (ix5 b ⟨16 * r.val + s.val, by omega⟩ ⟨k.val / 128, by omega⟩ ⟨k.val / 64 % 2, by omega⟩ e) + pe (ix2 ⟨0 + s.val, by omega⟩ e))
        * (if k.val < 128 then wk else wv) (ix2 ⟨(0 + s.val) * 64 + e.val, by omega⟩ ⟨k.val % 64, by omega⟩))
    (hB : ∀ r k, B (ix2 r k) = ∑ s : Fin 16, ∑ e : Fin 64,
      (kv (ix5 b ⟨16 * r.val + s.val, by omega⟩ ⟨k.val / 128, by omega⟩ ⟨k.val / 64 % 2, by omega⟩ e) + pe (ix2 ⟨16 + s.val, by omega⟩ e))
        * (if k.val < 128 then wk else wv) (ix2 ⟨(16 + s.val) * 64 + e.val, by omega⟩ ⟨k.val % 64, by omega⟩))
    (r : Fin 128) (hr : r.val < 127) (k : Fin 256) :
    hid A B (ix2 r k) = gl (pre1 kv pe (if k.val < 128 then wk else wv) b ⟨k.val / 128, by omega⟩ ⟨k.val / 64 % 2, by omega⟩ ⟨r.val, hr⟩ ⟨k.val % 64, by omega⟩) := by
  rw [hid_at, hA, hB]
  refine congrArg gl ?_
  unfold pre1
  rw [sum_halves]
  refine congrArg₂ (· + ·) ?_ ?_
  · refine Finset.sum_congr rfl fun s _ => Finset.sum_congr rfl fun e _ => ?_
    simp only [Nat.zero_add]
  · refine Finset.sum_congr rfl fun s _ => Finset.sum_congr rfl fun e _ => ?_
    have h1 : 16 * ((r.val + 1) % 128) + s.val = 16 * r.val + (16 + s.val) := by omega
    simp only [h1]

/-- The kernel's last product, its last row replaced by zeros. -/
theorem out_res (kv : FVec Ideal S16x2048x4x2x64 .f32) (pe : FVec Ideal S32x64 .f32) (wk wv : FVec Ideal S2048x64 .f32) (uk uv : FVec Ideal S64x64 .f32) (b : Fin 16)
    (H : FVec Ideal S128x256 .bf16) (w : FVec Ideal S256x256 .bf16)
    (hH : ∀ (r : Fin 128) (hr : r.val < 127) (k : Fin 256), (H (ix2 r k) : EReal) = gl (pre1 kv pe (if k.val < 128 then wk else wv) b ⟨k.val / 128, by omega⟩ ⟨k.val / 64 % 2, by omega⟩ ⟨r.val, hr⟩ ⟨k.val % 64, by omega⟩))
    (hw : ∀ j k, (w (ix2 j k) : EReal) = big2 uk uv (ix2 j k)) (r : Fin 128) (k : Fin 256) :
    (k0_pay1 (F := Ideal) H w (ix3 0 r k) : EReal) = res kv pe wk wv uk uv b r k := by
  rw [pay1_at]
  unfold res
  by_cases hr : r.val < 127
  · have hs : IntOp.cmpi .slt (BitVec.ofNat 32 r.val) 127#32 = 1#1 := by
      show BitVec.ofBool (decide ((BitVec.ofNat 32 r.val).toInt < (BitVec.ofNat 32 127).toInt)) = 1#1
      rw [Cert.CompressRefIdeal.int_of (by omega), Cert.CompressRefIdeal.int_of (by omega), decide_eq_true (by omega)]
      decide
    rw [dif_pos hr]
    refine (if_pos hs).trans ?_
    simp only [hw]
    refine (diag (fun j => H (ix2 r j)) (fun j => big2 uk uv (ix2 j k)) ⟨k.val / 64, by omega⟩ (fun e => (if k.val < 128 then uk else uv) (ix2 e ⟨k.val % 64, by omega⟩)) (fun j => big2_at uk uv j k)).trans ?_
    unfold Cert.CompressRefIdeal.cmp
    refine Finset.sum_congr rfl fun e _ => ?_
    have h1 : (k.val / 64 * 64 + e.val) / 128 = k.val / 128 := by omega
    have h2 : (k.val / 64 * 64 + e.val) / 64 % 2 = k.val / 64 % 2 := by omega
    have h3 : (k.val / 64 * 64 + e.val) % 64 = e.val := by omega
    have h4 : (k.val / 64 * 64 + e.val < 128) = (k.val < 128) := propext ⟨by omega, by omega⟩
    rw [hH r hr]
    simp only [h1, h2, h3, h4]
  · have hs : ¬(IntOp.cmpi .slt (BitVec.ofNat 32 r.val) 127#32 = 1#1) := by
      show ¬(BitVec.ofBool (decide ((BitVec.ofNat 32 r.val).toInt < (BitVec.ofNat 32 127).toInt)) = 1#1)
      rw [Cert.CompressRefIdeal.int_of (by omega), Cert.CompressRefIdeal.int_of (by omega), decide_eq_false (by omega)]
      decide
    rw [dif_neg hr]
    exact if_neg hs

/-- A block of the result. -/
theorem block_at (c : Dev nD) (t : Fin cfg0.N) (r : Fin 128) (k : Fin 256) : ((dats (F := Ideal) m 0 c).after 6 t (ix3 0 r k) : EReal)
    = res (m ((c : Thread nD τ).loc main_arg0)) (m ((c : Thread nD τ).loc main_arg1)) (m ((c : Thread nD τ).loc main_arg2)) (m ((c : Thread nD τ).loc main_arg4))
        (m ((c : Thread nD τ).loc main_arg3)) (m ((c : Thread nD τ).loc main_arg5)) (bat t) r k := by
  rw [out_at]
  refine out_res _ _ _ _ _ _ _ _ _ (fun r hr k => hid_pre _ _ _ _ _ _ _ (fun r k => ?_) (fun r k => ?_) r hr k) (fun j k => blk5 m c t j k) r k
  · refine half_at _ _ _ _ (bat t) 0 (by omega) _ _ _ _ (fun s r l => ?_) (fun s r l => ?_) (fun s j => ?_) (fun s j k => ?_) r k
    · exact (strided _ _ _ s r l _ _).trans (blk0 m c t _ l)
    · exact (strided _ _ _ s r l _ _).trans (blk1 m c t _ l)
    · refine (ld_row _ s.val (by omega) _ j).trans ((blk2 m c t _ j).trans ?_)
      simp only [Nat.zero_add]
    · refine (ld_mat _ s _ j k).trans ((blk3 m c t s j k).trans ?_)
      simp only [Nat.zero_add]
  · refine half_at _ _ _ _ (bat t) 16 (by omega) _ _ _ _ (fun s r l => ?_) (fun s r l => ?_) (fun s j => ?_) (fun s j k => ?_) r k
    · exact (strided _ _ _ s r l _ _).trans (blk0 m c t _ l)
    · exact (strided _ _ _ s r l _ _).trans (blk1 m c t _ l)
    · exact (ld_row _ (16 + s.val) (by omega) _ j).trans (blk2 m c t _ j)
    · exact (ld_mat _ s _ j k).trans (blk4 m c t s j k)

theorem final (c : Dev nD) : (dats (F := Ideal) m 0 c).arrAt 6 (cfgs 0).N
    = Cert.CompressRefIdeal.Read.val_main_v72 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats (F := Ideal) m 0 c).arrAt_eq_of_covers 6 _ (by decide +kernel) fun t _ y => ?_
  obtain ⟨z, r, k, rfl⟩ : ∃ (z : Fin 1) (r : Fin 128) (k : Fin 256), y = ix3 z r k := ⟨y 0, y 1, y 2, eq_ix3 y⟩
  obtain rfl : z = 0 := Subsingleton.elim _ _
  rw [emb6, Cert.CompressRefIdeal.v72_at]
  blk_simp
  exact block_at m c t r k

end Cert.CompressIdeal.Proved
-- ==== Proof.Claims.Comp.lean ====
module

public import proofs.«01_k».proof.Defs
public import proofs.«01_k».proof.Proof.Gen.Compress.Frame
public import proofs.«01_k».proof.Proof.Gen.CompressIdeal.Frame
public import proofs.«01_k».proof.Proof.Gen.CompressRefIdeal.Run
public import proofs.«01_k».proof.Proof.Gen.CompressRefIdeal.Read
public import proofs.«01_k».proof.Proof.Comp.Value
public import Idealize.ShloMosaic.Lib.Claim
public import Idealize.ShloMosaic.Adequacy
public import Idealize.ShloMosaic.Init

@[expose] public section

noncomputable section

namespace Cert.Proof

open Idealize.ShloMosaic Idealize.SL.Sem

theorem frame_compress : Cert.quiescent_Compress := fun m ρ _ => Cert.Compress.Gen.frame m ρ

theorem frame_compress_ideal : Cert.quiescent_CompressIdeal := fun m ρ _ => Cert.CompressIdeal.Gen.frame m ρ

theorem frame_compress_ref : Cert.quiescent_CompressRefIdeal :=
  fun m ρ _ => (θ_run Cert.CompressRefIdeal.defs _ _).mono
    (fun r h => ⟨fun c => (h c).2, Idealize.ShloMosaic.sem_eq_zero_of_no_sems (by decide) r.2⟩)
    (Cert.CompressRefIdeal.Value.run m ρ)

theorem algebraic_compress : Cert.algebraic_CompressIdeal_CompressRefIdeal := by
  intro m g m' g' _ hagree
  refine ⟨fun c => (Cert.CompressIdeal.Gen.dats m 0 c).arrAt 6 Cert.CompressIdeal.cfg0.N, Cert.CompressIdeal.Value.run_blocks m g, ?_⟩
  refine (θ_run Cert.CompressRefIdeal.defs _ _).mono (fun r h c => ?_) (Cert.CompressRefIdeal.Value.run m' g')
  obtain ⟨a0, a1, a2, a3, a4, a5⟩ := hagree c
  refine ⟨(h c).1.trans ((Cert.CompressRefIdeal.Read.val_main_v72_eq m' c).trans (Eq.trans ?_ (Cert.CompressIdeal.Proved.final m c).symm)), (h c).2⟩
  rw [a0, a1, a2, a3, a4, a5]

end Cert.Proof

end
-- ==== Proof.lean ====
module

public import proofs.«01_k».proof.Defs
public import proofs.«01_k».proof.Proof.Claims.Mem
public import proofs.«01_k».proof.Proof.Claims.Cross
public import proofs.«01_k».proof.Proof.Claims.Merge
public import proofs.«01_k».proof.Proof.Claims.Proj
public import proofs.«01_k».proof.Proof.Claims.ProjSample
public import proofs.«01_k».proof.Proof.Claims.Moba
public import proofs.«01_k».proof.Proof.Claims.Comp

@[expose] public section

noncomputable section

namespace Cert.Proof

theorem claim : Cert.Claim := ⟨
  Cert.MemKv.Gen.facts, Cert.MemKvIdeal.Gen.facts, Cert.MemKvRefIdeal.Gen.facts, Cert.Cross.Gen.facts, Cert.CrossIdeal.Gen.facts, Cert.CrossRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.ProjSample.Gen.facts, Cert.ProjSampleIdeal.Gen.facts, Cert.ProjSampleRefIdeal.Gen.facts, Cert.Moba.Gen.facts, Cert.MobaIdeal.Gen.facts, Cert.MobaRefIdeal.Gen.facts, Cert.Compress.Gen.facts, Cert.CompressIdeal.Gen.facts, Cert.CompressRefIdeal.Gen.facts, Cert.Pre_cross_finite.Gen.facts, Cert.Pre_moba_finite.Gen.facts,
  frame_memkv, frame_memkv_ideal, frame_memkv_ref, frame_cross, frame_cross_ideal, frame_cross_ideal_pre, frame_cross_ref, frame_cross_ref_pre, frame_merge, frame_merge_ideal, frame_merge_ref, frame_proj, frame_proj_ideal, frame_proj_ref, frame_projsample, frame_projsample_ideal, frame_projsample_ref, frame_moba, frame_moba_ideal, frame_moba_ideal_pre, frame_moba_ref, frame_moba_ref_pre, frame_compress, frame_compress_ideal, frame_compress_ref,
  trivial, algebraic_memkv, trivial, algebraic_cross, trivial, algebraic_merge, trivial, algebraic_proj, trivial, algebraic_projsample, Cert.Proof.named_mask, algebraic_moba, trivial, algebraic_compress⟩

end Cert.Proof

end
